-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x128 : Shape := ⟨2, ![256, 128]⟩
abbrev S512x2 : Shape := ⟨2, ![512, 2]⟩
abbrev S4x256x512 : Shape := ⟨3, ![4, 256, 512]⟩
abbrev S_ : Shape := ⟨0, ![]⟩

class Facts : Prop where
  bcast_S_S512x2 : S_.BroadcastsInDim S512x2 (![] : Fin 0 → Fin S512x2.rank)
  bcast_S_S512x256 : S_.BroadcastsInDim S512x256 (![] : Fin 0 → Fin S512x256.rank)
  bcast_S_S256x128 : S_.BroadcastsInDim S256x128 (![] : Fin 0 → Fin S256x128.rank)

variable [Facts]

def fn {F : FTy → Type} [FloatOps F] (main_arg0 : FVec F S512x256 .bf16) (main_arg1 : FVec F S256x128 .bf16) (main_arg2 : IVec S512x2 32) (main_arg3 : FVec F S4x256x512 .bf16) : IVec S512x2 1 × IVec S512x256 1 × IVec S256x128 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 128#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : FVec F S512x256 .bf16 := Host.absf main_arg0
  let main_cst : FVec F S_ .bf16 := constant S_ .bf16 0x7F80#16
  let main_v6 : FVec F S512x256 .bf16 := broadcastInDim S512x256 ![] bcast_S_S512x256 main_cst
  let main_v7 : IVec S512x256 1 := cmpf .olt main_v5 main_v6
  let main_v8 : FVec F S256x128 .bf16 := Host.absf main_arg1
  let main_cst_1 : FVec F S_ .bf16 := constant S_ .bf16 0x7F80#16
  let main_v9 : FVec F S256x128 .bf16 := broadcastInDim S256x128 ![] bcast_S_S256x128 main_cst_1
  let main_v10 : IVec S256x128 1 := cmpf .olt main_v8 main_v9
  (main_v4, main_v7, main_v10)
-- ==== Pre_routed_ReferenceIdeal.lean ====
abbrev S512x256 : Shape := ⟨2, ![512, 256]⟩
abbrev S256x128 : Shape := ⟨2, ![256, 128]⟩
abbrev S512x2 : Shape := ⟨2, ![512, 2]⟩
abbrev S128x256x512 : Shape := ⟨3, ![128, 256, 512]⟩
abbrev S_ : Shape := ⟨0, ![]⟩

class Facts : Prop where
  bcast_S_S512x2 : S_.BroadcastsInDim S512x2 (![] : Fin 0 → Fin S512x2.rank)
  bcast_S_S512x256 : S_.BroadcastsInDim S512x256 (![] : Fin 0 → Fin S512x256.rank)
  bcast_S_S256x128 : S_.BroadcastsInDim S256x128 (![] : Fin 0 → Fin S256x128.rank)

variable [Facts]

def fn {F : FTy → Type} [FloatOps F] (main_arg0 : FVec F S512x256 .bf16) (main_arg1 : FVec F S256x128 .bf16) (main_arg2 : IVec S512x2 32) (main_arg3 : FVec F S128x256x512 .bf16) : IVec S512x2 1 × IVec S512x256 1 × IVec S256x128 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 128#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : FVec F S512x256 .bf16 := Host.absf main_arg0
  let main_cst : FVec F S_ .bf16 := constant S_ .bf16 0x7F80#16
  let main_v6 : FVec F S512x256 .bf16 := broadcastInDim S512x256 ![] bcast_S_S512x256 main_cst
  let main_v7 : IVec S512x256 1 := cmpf .olt main_v5 main_v6
  let main_v8 : FVec F S256x128 .bf16 := Host.absf main_arg1
  let main_cst_1 : FVec F S_ .bf16 := constant S_ .bf16 0x7F80#16
  let main_v9 : FVec F S256x128 .bf16 := broadcastInDim S256x128 ![] bcast_S_S256x128 main_cst_1
  let main_v10 : IVec S256x128 1 := cmpf .olt main_v8 main_v9
  (main_v4, main_v7, main_v10)
-- ==== Kernel.lean ====
abbrev S512x256 : Shape := ⟨2, ![512, 256]⟩
abbrev S256x128 : Shape := ⟨2, ![256, 128]⟩
abbrev S512x2 : Shape := ⟨2, ![512, 2]⟩
abbrev S4x256x512 : Shape := ⟨3, ![4, 256, 512]⟩
abbrev S512x512 : Shape := ⟨2, ![512, 512]⟩
abbrev S256x2048 : Shape := ⟨2, ![256, 2048]⟩
abbrev S32x16x512 : Shape := ⟨3, ![32, 16, 512]⟩
abbrev S16x512 : Shape := ⟨2, ![16, 512]⟩
abbrev S32 : Shape := ⟨1, ![32]⟩
abbrev S_ : Shape := ⟨0, ![]⟩
abbrev S1x256x512 : Shape := ⟨3, ![1, 256, 512]⟩
abbrev S256x512 : Shape := ⟨2, ![256, 512]⟩
abbrev S512x128 : Shape := ⟨2, ![512, 128]⟩
abbrev S512x1 : Shape := ⟨2, ![512, 1]⟩
abbrev S512 : Shape := ⟨1, ![512]⟩
abbrev S1x4 : Shape := ⟨2, ![1, 4]⟩
abbrev S512x4 : Shape := ⟨2, ![512, 4]⟩
abbrev S128x256 : Shape := ⟨2, ![128, 256]⟩
abbrev S128x2048 : Shape := ⟨2, ![128, 2048]⟩
abbrev S128x512 : Shape := ⟨2, ![128, 512]⟩
abbrev S128x1 : Shape := ⟨2, ![128, 1]⟩
abbrev S1 : Shape := ⟨1, ![1]⟩
abbrev S1x16x512 : Shape := ⟨3, ![1, 16, 512]⟩

abbrev nBuf : Space → Nat
  | .hbm => 5
  | .vmem => 10
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x2, .i32⟩
  | .hbm, ⟨3, _⟩ => ⟨S4x256x512, .bf16⟩
  | .hbm, ⟨4, _⟩ => ⟨S512x512, .f32⟩
  | .local _ .vmem, ⟨0, _⟩ => ⟨S512x256, .bf16⟩
  | .local _ .vmem, ⟨1, _⟩ => ⟨S256x128, .bf16⟩
  | .local _ .vmem, ⟨2, _⟩ => ⟨S512x2, .i32⟩
  | .local _ .vmem, ⟨3, _⟩ => ⟨S4x256x512, .bf16⟩
  | .local _ .vmem, ⟨4, _⟩ => ⟨S512x512, .f32⟩
  | .local _ .vmem, ⟨5, _⟩ => ⟨S256x2048, .bf16⟩
  | .local _ .vmem, ⟨6, _⟩ => ⟨S512x512, .bf16⟩
  | .local _ .vmem, ⟨7, _⟩ => ⟨S32x16x512, .bf16⟩
  | .local _ .vmem, ⟨8, _⟩ => ⟨S16x512, .bf16⟩
  | .local _ .vmem, ⟨9, _⟩ => ⟨S32x16x512, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_810 : BitVec 32 := 0#32
  let c0_i32_808 : BitVec 32 := 0#32
  let c1_i32_809 : BitVec 32 := 1#32
  let v882 : BitVec 32 := Scalar.muli c0_i32_808 c1_i32_809
  let v883 : BitVec 32 := Scalar.addi c0_i32_810 v882
  v883.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_810 : BitVec 32 := 0#32
  let c1_i32_808 : BitVec 32 := 1#32
  let c1_i32_809 : BitVec 32 := 1#32
  let v882 : BitVec 32 := Scalar.muli c1_i32_808 c1_i32_809
  let v883 : BitVec 32 := Scalar.addi c0_i32_810 v882
  v883.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_810 : BitVec 32 := 0#32
  let c2_i32_808 : BitVec 32 := 2#32
  let c1_i32_809 : BitVec 32 := 1#32
  let v882 : BitVec 32 := Scalar.muli c2_i32_808 c1_i32_809
  let v883 : BitVec 32 := Scalar.addi c0_i32_810 v882
  v883.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_810 : BitVec 32 := 0#32
  let c3_i32_808 : BitVec 32 := 3#32
  let c1_i32_809 : BitVec 32 := 1#32
  let v882 : BitVec 32 := Scalar.muli c3_i32_808 c1_i32_809
  let v883 : BitVec 32 := Scalar.addi c0_i32_810 v882
  v883.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_810 : BitVec 32 := 0#32
  let c4_i32_808 : BitVec 32 := 4#32
  let c1_i32_809 : BitVec 32 := 1#32
  let v882 : BitVec 32 := Scalar.muli c4_i32_808 c1_i32_809
  let v883 : BitVec 32 := Scalar.addi c0_i32_810 v882
  v883.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_810 : BitVec 32 := 0#32
  let c5_i32_808 : BitVec 32 := 5#32
  let c1_i32_809 : BitVec 32 := 1#32
  let v882 : BitVec 32 := Scalar.muli c5_i32_808 c1_i32_809
  let v883 : BitVec 32 := Scalar.addi c0_i32_810 v882
  v883.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_810 : BitVec 32 := 0#32
  let c6_i32_808 : BitVec 32 := 6#32
  let c1_i32_809 : BitVec 32 := 1#32
  let v882 : BitVec 32 := Scalar.muli c6_i32_808 c1_i32_809
  let v883 : BitVec 32 := Scalar.addi c0_i32_810 v882
  v883.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_810 : BitVec 32 := 0#32
  let c7_i32_808 : BitVec 32 := 7#32
  let c1_i32_809 : BitVec 32 := 1#32
  let v882 : BitVec 32 := Scalar.muli c7_i32_808 c1_i32_809
  let v883 : BitVec 32 := Scalar.addi c0_i32_810 v882
  v883.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_810 : BitVec 32 := 0#32
  let c8_i32_808 : BitVec 32 := 8#32
  let c1_i32_809 : BitVec 32 := 1#32
  let v882 : BitVec 32 := Scalar.muli c8_i32_808 c1_i32_809
  let v883 : BitVec 32 := Scalar.addi c0_i32_810 v882
  v883.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_810 : BitVec 32 := 0#32
  let c9_i32_808 : BitVec 32 := 9#32
  let c1_i32_809 : BitVec 32 := 1#32
  let v882 : BitVec 32 := Scalar.muli c9_i32_808 c1_i32_809
  let v883 : BitVec 32 := Scalar.addi c0_i32_810 v882
  v883.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_810 : BitVec 32 := 0#32
  let c10_i32_808 : BitVec 32 := 10#32
  let c1_i32_809 : BitVec 32 := 1#32
  let v882 : BitVec 32 := Scalar.muli c10_i32_808 c1_i32_809
  let v883 : BitVec 32 := Scalar.addi c0_i32_810 v882
  v883.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_810 : BitVec 32 := 0#32
  let c11_i32_808 : BitVec 32 := 11#32
  let c1_i32_809 : BitVec 32 := 1#32
  let v882 : BitVec 32 := Scalar.muli c11_i32_808 c1_i32_809
  let v883 : BitVec 32 := Scalar.addi c0_i32_810 v882
  v883.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_810 : BitVec 32 := 0#32
  let c12_i32_808 : BitVec 32 := 12#32
  let c1_i32_809 : BitVec 32 := 1#32
  let v882 : BitVec 32 := Scalar.muli c12_i32_808 c1_i32_809
  let v883 : BitVec 32 := Scalar.addi c0_i32_810 v882
  v883.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_810 : BitVec 32 := 0#32
  let c13_i32_808 : BitVec 32 := 13#32
  let c1_i32_809 : BitVec 32 := 1#32
  let v882 : BitVec 32 := Scalar.muli c13_i32_808 c1_i32_809
  let v883 : BitVec 32 := Scalar.addi c0_i32_810 v882
  v883.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_810 : BitVec 32 := 0#32
  let c14_i32_808 : BitVec 32 := 14#32
  let c1_i32_809 : BitVec 32 := 1#32
  let v882 : BitVec 32 := Scalar.muli c14_i32_808 c1_i32_809
  let v883 : BitVec 32 := Scalar.addi c0_i32_810 v882
  v883.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_810 : BitVec 32 := 0#32
  let c15_i32_808 : BitVec 32 := 15#32
  let c1_i32_809 : BitVec 32 := 1#32
  let v882 : BitVec 32 := Scalar.muli c15_i32_808 c1_i32_809
  let v883 : BitVec 32 := Scalar.addi c0_i32_810 v882
  v883.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_810 : BitVec 32 := 0#32
  let c16_i32_808 : BitVec 32 := 16#32
  let c1_i32_809 : BitVec 32 := 1#32
  let v882 : BitVec 32 := Scalar.muli c16_i32_808 c1_i32_809
  let v883 : BitVec 32 := Scalar.addi c0_i32_810 v882
  v883.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_810 : BitVec 32 := 0#32
  let c17_i32_808 : BitVec 32 := 17#32
  let c1_i32_809 : BitVec 32 := 1#32
  let v882 : BitVec 32 := Scalar.muli c17_i32_808 c1_i32_809
  let v883 : BitVec 32 := Scalar.addi c0_i32_810 v882
  v883.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_810 : BitVec 32 := 0#32
  let c18_i32_808 : BitVec 32 := 18#32
  let c1_i32_809 : BitVec 32 := 1#32
  let v882 : BitVec 32 := Scalar.muli c18_i32_808 c1_i32_809
  let v883 : BitVec 32 := Scalar.addi c0_i32_810 v882
  v883.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_810 : BitVec 32 := 0#32
  let c19_i32_808 : BitVec 32 := 19#32
  let c1_i32_809 : BitVec 32 := 1#32
  let v882 : BitVec 32 := Scalar.muli c19_i32_808 c1_i32_809
  let v883 : BitVec 32 := Scalar.addi c0_i32_810 v882
  v883.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_810 : BitVec 32 := 0#32
  let c20_i32_808 : BitVec 32 := 20#32
  let c1_i32_809 : BitVec 32 := 1#32
  let v882 : BitVec 32 := Scalar.muli c20_i32_808 c1_i32_809
  let v883 : BitVec 32 := Scalar.addi c0_i32_810 v882
  v883.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_810 : BitVec 32 := 0#32
  let c21_i32_808 : BitVec 32 := 21#32
  let c1_i32_809 : BitVec 32 := 1#32
  let v882 : BitVec 32 := Scalar.muli c21_i32_808 c1_i32_809
  let v883 : BitVec 32 := Scalar.addi c0_i32_810 v882
  v883.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_810 : BitVec 32 := 0#32
  let c22_i32_808 : BitVec 32 := 22#32
  let c1_i32_809 : BitVec 32 := 1#32
  let v882 : BitVec 32 := Scalar.muli c22_i32_808 c1_i32_809
  let v883 : BitVec 32 := Scalar.addi c0_i32_810 v882
  v883.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_810 : BitVec 32 := 0#32
  let c23_i32_808 : BitVec 32 := 23#32
  let c1_i32_809 : BitVec 32 := 1#32
  let v882 : BitVec 32 := Scalar.muli c23_i32_808 c1_i32_809
  let v883 : BitVec 32 := Scalar.addi c0_i32_810 v882
  v883.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_810 : BitVec 32 := 0#32
  let c24_i32_808 : BitVec 32 := 24#32
  let c1_i32_809 : BitVec 32 := 1#32
  let v882 : BitVec 32 := Scalar.muli c24_i32_808 c1_i32_809
  let v883 : BitVec 32 := Scalar.addi c0_i32_810 v882
  v883.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_810 : BitVec 32 := 0#32
  let c25_i32_808 : BitVec 32 := 25#32
  let c1_i32_809 : BitVec 32 := 1#32
  let v882 : BitVec 32 := Scalar.muli c25_i32_808 c1_i32_809
  let v883 : BitVec 32 := Scalar.addi c0_i32_810 v882
  v883.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_810 : BitVec 32 := 0#32
  let c26_i32_808 : BitVec 32 := 26#32
  let c1_i32_809 : BitVec 32 := 1#32
  let v882 : BitVec 32 := Scalar.muli c26_i32_808 c1_i32_809
  let v883 : BitVec 32 := Scalar.addi c0_i32_810 v882
  v883.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_810 : BitVec 32 := 0#32
  let c27_i32_808 : BitVec 32 := 27#32
  let c1_i32_809 : BitVec 32 := 1#32
  let v882 : BitVec 32 := Scalar.muli c27_i32_808 c1_i32_809
  let v883 : BitVec 32 := Scalar.addi c0_i32_810 v882
  v883.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_810 : BitVec 32 := 0#32
  let c28_i32_808 : BitVec 32 := 28#32
  let c1_i32_809 : BitVec 32 := 1#32
  let v882 : BitVec 32 := Scalar.muli c28_i32_808 c1_i32_809
  let v883 : BitVec 32 := Scalar.addi c0_i32_810 v882
  v883.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_810 : BitVec 32 := 0#32
  let c29_i32_808 : BitVec 32 := 29#32
  let c1_i32_809 : BitVec 32 := 1#32
  let v882 : BitVec 32 := Scalar.muli c29_i32_808 c1_i32_809
  let v883 : BitVec 32 := Scalar.addi c0_i32_810 v882
  v883.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_810 : BitVec 32 := 0#32
  let c30_i32_808 : BitVec 32 := 30#32
  let c1_i32_809 : BitVec 32 := 1#32
  let v882 : BitVec 32 := Scalar.muli c30_i32_808 c1_i32_809
  let v883 : BitVec 32 := Scalar.addi c0_i32_810 v882
  v883.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_810 : BitVec 32 := 0#32
  let c31_i32_808 : BitVec 32 := 31#32
  let c1_i32_809 : BitVec 32 := 1#32
  let v882 : BitVec 32 := Scalar.muli c31_i32_808 c1_i32_809
  let v883 : BitVec 32 := Scalar.addi c0_i32_810 v882
  v883.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_69 : BitVec 32 := 0#32
  let v197 : BitVec 1 := Scalar.cmpi .ne v2 c0_i32_69
  let v198 : BitVec 32 := Scalar.extui v197
  let c0_i32_71 : BitVec 32 := 0#32
  let v199 : BitVec 1 := Scalar.cmpi .ne v198 c0_i32_71
  v199

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev33 : Nat :=
  let c0_i32_809 : BitVec 32 := 0#32
  let c0_i32_807 : BitVec 32 := 0#32
  let c1_i32_808 : BitVec 32 := 1#32
  let v882 : BitVec 32 := Scalar.muli c0_i32_807 c1_i32_808
  let v883 : BitVec 32 := Scalar.addi c0_i32_809 v882
  v883.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_72 : BitVec 32 := 1#32
  let v200 : BitVec 1 := Scalar.cmpi .ne v2 c1_i32_72
  let v201 : BitVec 32 := Scalar.extui v200
  let c0_i32_74 : BitVec 32 := 0#32
  let v202 : BitVec 1 := Scalar.cmpi .ne v201 c0_i32_74
  v202

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev34 : Nat :=
  let c0_i32_809 : BitVec 32 := 0#32
  let c1_i32_807 : BitVec 32 := 1#32
  let c1_i32_808 : BitVec 32 := 1#32
  let v882 : BitVec 32 := Scalar.muli c1_i32_807 c1_i32_808
  let v883 : BitVec 32 := Scalar.addi c0_i32_809 v882
  v883.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_75 : BitVec 32 := 2#32
  let v203 : BitVec 1 := Scalar.cmpi .ne v2 c2_i32_75
  let v204 : BitVec 32 := Scalar.extui v203
  let c0_i32_77 : BitVec 32 := 0#32
  let v205 : BitVec 1 := Scalar.cmpi .ne v204 c0_i32_77
  v205

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev35 : Nat :=
  let c0_i32_809 : BitVec 32 := 0#32
  let c2_i32_807 : BitVec 32 := 2#32
  let c1_i32_808 : BitVec 32 := 1#32
  let v882 : BitVec 32 := Scalar.muli c2_i32_807 c1_i32_808
  let v883 : BitVec 32 := Scalar.addi c0_i32_809 v882
  v883.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_78 : BitVec 32 := 3#32
  let v206 : BitVec 1 := Scalar.cmpi .ne v2 c3_i32_78
  let v207 : BitVec 32 := Scalar.extui v206
  let c0_i32_80 : BitVec 32 := 0#32
  let v208 : BitVec 1 := Scalar.cmpi .ne v207 c0_i32_80
  v208

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev36 : Nat :=
  let c0_i32_809 : BitVec 32 := 0#32
  let c3_i32_807 : BitVec 32 := 3#32
  let c1_i32_808 : BitVec 32 := 1#32
  let v882 : BitVec 32 := Scalar.muli c3_i32_807 c1_i32_808
  let v883 : BitVec 32 := Scalar.addi c0_i32_809 v882
  v883.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_81 : BitVec 32 := 4#32
  let v209 : BitVec 1 := Scalar.cmpi .ne v2 c4_i32_81
  let v210 : BitVec 32 := Scalar.extui v209
  let c0_i32_83 : BitVec 32 := 0#32
  let v211 : BitVec 1 := Scalar.cmpi .ne v210 c0_i32_83
  v211

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev37 : Nat :=
  let c0_i32_809 : BitVec 32 := 0#32
  let c4_i32_807 : BitVec 32 := 4#32
  let c1_i32_808 : BitVec 32 := 1#32
  let v882 : BitVec 32 := Scalar.muli c4_i32_807 c1_i32_808
  let v883 : BitVec 32 := Scalar.addi c0_i32_809 v882
  v883.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_84 : BitVec 32 := 5#32
  let v212 : BitVec 1 := Scalar.cmpi .ne v2 c5_i32_84
  let v213 : BitVec 32 := Scalar.extui v212
  let c0_i32_86 : BitVec 32 := 0#32
  let v214 : BitVec 1 := Scalar.cmpi .ne v213 c0_i32_86
  v214

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev38 : Nat :=
  let c0_i32_809 : BitVec 32 := 0#32
  let c5_i32_807 : BitVec 32 := 5#32
  let c1_i32_808 : BitVec 32 := 1#32
  let v882 : BitVec 32 := Scalar.muli c5_i32_807 c1_i32_808
  let v883 : BitVec 32 := Scalar.addi c0_i32_809 v882
  v883.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_87 : BitVec 32 := 6#32
  let v215 : BitVec 1 := Scalar.cmpi .ne v2 c6_i32_87
  let v216 : BitVec 32 := Scalar.extui v215
  let c0_i32_89 : BitVec 32 := 0#32
  let v217 : BitVec 1 := Scalar.cmpi .ne v216 c0_i32_89
  v217

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev39 : Nat :=
  let c0_i32_809 : BitVec 32 := 0#32
  let c6_i32_807 : BitVec 32 := 6#32
  let c1_i32_808 : BitVec 32 := 1#32
  let v882 : BitVec 32 := Scalar.muli c6_i32_807 c1_i32_808
  let v883 : BitVec 32 := Scalar.addi c0_i32_809 v882
  v883.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_90 : BitVec 32 := 7#32
  let v218 : BitVec 1 := Scalar.cmpi .ne v2 c7_i32_90
  let v219 : BitVec 32 := Scalar.extui v218
  let c0_i32_92 : BitVec 32 := 0#32
  let v220 : BitVec 1 := Scalar.cmpi .ne v219 c0_i32_92
  v220

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev40 : Nat :=
  let c0_i32_809 : BitVec 32 := 0#32
  let c7_i32_807 : BitVec 32 := 7#32
  let c1_i32_808 : BitVec 32 := 1#32
  let v882 : BitVec 32 := Scalar.muli c7_i32_807 c1_i32_808
  let v883 : BitVec 32 := Scalar.addi c0_i32_809 v882
  v883.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_98 : BitVec 32 := 8#32
  let v249 : BitVec 1 := Scalar.cmpi .ne v2 c8_i32_98
  let v250 : BitVec 32 := Scalar.extui v249
  let c0_i32_100 : BitVec 32 := 0#32
  let v251 : BitVec 1 := Scalar.cmpi .ne v250 c0_i32_100
  v251

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev41 : Nat :=
  let c0_i32_809 : BitVec 32 := 0#32
  let c8_i32_807 : BitVec 32 := 8#32
  let c1_i32_808 : BitVec 32 := 1#32
  let v882 : BitVec 32 := Scalar.muli c8_i32_807 c1_i32_808
  let v883 : BitVec 32 := Scalar.addi c0_i32_809 v882
  v883.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_101 : BitVec 32 := 9#32
  let v252 : BitVec 1 := Scalar.cmpi .ne v2 c9_i32_101
  let v253 : BitVec 32 := Scalar.extui v252
  let c0_i32_103 : BitVec 32 := 0#32
  let v254 : BitVec 1 := Scalar.cmpi .ne v253 c0_i32_103
  v254

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev42 : Nat :=
  let c0_i32_809 : BitVec 32 := 0#32
  let c9_i32_807 : BitVec 32 := 9#32
  let c1_i32_808 : BitVec 32 := 1#32
  let v882 : BitVec 32 := Scalar.muli c9_i32_807 c1_i32_808
  let v883 : BitVec 32 := Scalar.addi c0_i32_809 v882
  v883.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_104 : BitVec 32 := 10#32
  let v255 : BitVec 1 := Scalar.cmpi .ne v2 c10_i32_104
  let v256 : BitVec 32 := Scalar.extui v255
  let c0_i32_106 : BitVec 32 := 0#32
  let v257 : BitVec 1 := Scalar.cmpi .ne v256 c0_i32_106
  v257

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev43 : Nat :=
  let c0_i32_809 : BitVec 32 := 0#32
  let c10_i32_807 : BitVec 32 := 10#32
  let c1_i32_808 : BitVec 32 := 1#32
  let v882 : BitVec 32 := Scalar.muli c10_i32_807 c1_i32_808
  let v883 : BitVec 32 := Scalar.addi c0_i32_809 v882
  v883.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_107 : BitVec 32 := 11#32
  let v258 : BitVec 1 := Scalar.cmpi .ne v2 c11_i32_107
  let v259 : BitVec 32 := Scalar.extui v258
  let c0_i32_109 : BitVec 32 := 0#32
  let v260 : BitVec 1 := Scalar.cmpi .ne v259 c0_i32_109
  v260

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev44 : Nat :=
  let c0_i32_809 : BitVec 32 := 0#32
  let c11_i32_807 : BitVec 32 := 11#32
  let c1_i32_808 : BitVec 32 := 1#32
  let v882 : BitVec 32 := Scalar.muli c11_i32_807 c1_i32_808
  let v883 : BitVec 32 := Scalar.addi c0_i32_809 v882
  v883.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_110 : BitVec 32 := 12#32
  let v261 : BitVec 1 := Scalar.cmpi .ne v2 c12_i32_110
  let v262 : BitVec 32 := Scalar.extui v261
  let c0_i32_112 : BitVec 32 := 0#32
  let v263 : BitVec 1 := Scalar.cmpi .ne v262 c0_i32_112
  v263

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev45 : Nat :=
  let c0_i32_809 : BitVec 32 := 0#32
  let c12_i32_807 : BitVec 32 := 12#32
  let c1_i32_808 : BitVec 32 := 1#32
  let v882 : BitVec 32 := Scalar.muli c12_i32_807 c1_i32_808
  let v883 : BitVec 32 := Scalar.addi c0_i32_809 v882
  v883.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_113 : BitVec 32 := 13#32
  let v264 : BitVec 1 := Scalar.cmpi .ne v2 c13_i32_113
  let v265 : BitVec 32 := Scalar.extui v264
  let c0_i32_115 : BitVec 32 := 0#32
  let v266 : BitVec 1 := Scalar.cmpi .ne v265 c0_i32_115
  v266

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev46 : Nat :=
  let c0_i32_809 : BitVec 32 := 0#32
  let c13_i32_807 : BitVec 32 := 13#32
  let c1_i32_808 : BitVec 32 := 1#32
  let v882 : BitVec 32 := Scalar.muli c13_i32_807 c1_i32_808
  let v883 : BitVec 32 := Scalar.addi c0_i32_809 v882
  v883.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_116 : BitVec 32 := 14#32
  let v267 : BitVec 1 := Scalar.cmpi .ne v2 c14_i32_116
  let v268 : BitVec 32 := Scalar.extui v267
  let c0_i32_118 : BitVec 32 := 0#32
  let v269 : BitVec 1 := Scalar.cmpi .ne v268 c0_i32_118
  v269

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev47 : Nat :=
  let c0_i32_809 : BitVec 32 := 0#32
  let c14_i32_807 : BitVec 32 := 14#32
  let c1_i32_808 : BitVec 32 := 1#32
  let v882 : BitVec 32 := Scalar.muli c14_i32_807 c1_i32_808
  let v883 : BitVec 32 := Scalar.addi c0_i32_809 v882
  v883.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_119 : BitVec 32 := 15#32
  let v270 : BitVec 1 := Scalar.cmpi .ne v2 c15_i32_119
  let v271 : BitVec 32 := Scalar.extui v270
  let c0_i32_121 : BitVec 32 := 0#32
  let v272 : BitVec 1 := Scalar.cmpi .ne v271 c0_i32_121
  v272

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev48 : Nat :=
  let c0_i32_809 : BitVec 32 := 0#32
  let c15_i32_807 : BitVec 32 := 15#32
  let c1_i32_808 : BitVec 32 := 1#32
  let v882 : BitVec 32 := Scalar.muli c15_i32_807 c1_i32_808
  let v883 : BitVec 32 := Scalar.addi c0_i32_809 v882
  v883.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_127 : BitVec 32 := 16#32
  let v301 : BitVec 1 := Scalar.cmpi .ne v2 c16_i32_127
  let v302 : BitVec 32 := Scalar.extui v301
  let c0_i32_129 : BitVec 32 := 0#32
  let v303 : BitVec 1 := Scalar.cmpi .ne v302 c0_i32_129
  v303

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev49 : Nat :=
  let c0_i32_809 : BitVec 32 := 0#32
  let c16_i32_807 : BitVec 32 := 16#32
  let c1_i32_808 : BitVec 32 := 1#32
  let v882 : BitVec 32 := Scalar.muli c16_i32_807 c1_i32_808
  let v883 : BitVec 32 := Scalar.addi c0_i32_809 v882
  v883.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_130 : BitVec 32 := 17#32
  let v304 : BitVec 1 := Scalar.cmpi .ne v2 c17_i32_130
  let v305 : BitVec 32 := Scalar.extui v304
  let c0_i32_132 : BitVec 32 := 0#32
  let v306 : BitVec 1 := Scalar.cmpi .ne v305 c0_i32_132
  v306

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev50 : Nat :=
  let c0_i32_809 : BitVec 32 := 0#32
  let c17_i32_807 : BitVec 32 := 17#32
  let c1_i32_808 : BitVec 32 := 1#32
  let v882 : BitVec 32 := Scalar.muli c17_i32_807 c1_i32_808
  let v883 : BitVec 32 := Scalar.addi c0_i32_809 v882
  v883.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_133 : BitVec 32 := 18#32
  let v307 : BitVec 1 := Scalar.cmpi .ne v2 c18_i32_133
  let v308 : BitVec 32 := Scalar.extui v307
  let c0_i32_135 : BitVec 32 := 0#32
  let v309 : BitVec 1 := Scalar.cmpi .ne v308 c0_i32_135
  v309

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev51 : Nat :=
  let c0_i32_809 : BitVec 32 := 0#32
  let c18_i32_807 : BitVec 32 := 18#32
  let c1_i32_808 : BitVec 32 := 1#32
  let v882 : BitVec 32 := Scalar.muli c18_i32_807 c1_i32_808
  let v883 : BitVec 32 := Scalar.addi c0_i32_809 v882
  v883.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_136 : BitVec 32 := 19#32
  let v310 : BitVec 1 := Scalar.cmpi .ne v2 c19_i32_136
  let v311 : BitVec 32 := Scalar.extui v310
  let c0_i32_138 : BitVec 32 := 0#32
  let v312 : BitVec 1 := Scalar.cmpi .ne v311 c0_i32_138
  v312

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev52 : Nat :=
  let c0_i32_809 : BitVec 32 := 0#32
  let c19_i32_807 : BitVec 32 := 19#32
  let c1_i32_808 : BitVec 32 := 1#32
  let v882 : BitVec 32 := Scalar.muli c19_i32_807 c1_i32_808
  let v883 : BitVec 32 := Scalar.addi c0_i32_809 v882
  v883.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_139 : BitVec 32 := 20#32
  let v313 : BitVec 1 := Scalar.cmpi .ne v2 c20_i32_139
  let v314 : BitVec 32 := Scalar.extui v313
  let c0_i32_141 : BitVec 32 := 0#32
  let v315 : BitVec 1 := Scalar.cmpi .ne v314 c0_i32_141
  v315

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev53 : Nat :=
  let c0_i32_809 : BitVec 32 := 0#32
  let c20_i32_807 : BitVec 32 := 20#32
  let c1_i32_808 : BitVec 32 := 1#32
  let v882 : BitVec 32 := Scalar.muli c20_i32_807 c1_i32_808
  let v883 : BitVec 32 := Scalar.addi c0_i32_809 v882
  v883.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_142 : BitVec 32 := 21#32
  let v316 : BitVec 1 := Scalar.cmpi .ne v2 c21_i32_142
  let v317 : BitVec 32 := Scalar.extui v316
  let c0_i32_144 : BitVec 32 := 0#32
  let v318 : BitVec 1 := Scalar.cmpi .ne v317 c0_i32_144
  v318

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev54 : Nat :=
  let c0_i32_809 : BitVec 32 := 0#32
  let c21_i32_807 : BitVec 32 := 21#32
  let c1_i32_808 : BitVec 32 := 1#32
  let v882 : BitVec 32 := Scalar.muli c21_i32_807 c1_i32_808
  let v883 : BitVec 32 := Scalar.addi c0_i32_809 v882
  v883.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_145 : BitVec 32 := 22#32
  let v319 : BitVec 1 := Scalar.cmpi .ne v2 c22_i32_145
  let v320 : BitVec 32 := Scalar.extui v319
  let c0_i32_147 : BitVec 32 := 0#32
  let v321 : BitVec 1 := Scalar.cmpi .ne v320 c0_i32_147
  v321

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev55 : Nat :=
  let c0_i32_809 : BitVec 32 := 0#32
  let c22_i32_807 : BitVec 32 := 22#32
  let c1_i32_808 : BitVec 32 := 1#32
  let v882 : BitVec 32 := Scalar.muli c22_i32_807 c1_i32_808
  let v883 : BitVec 32 := Scalar.addi c0_i32_809 v882
  v883.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_148 : BitVec 32 := 23#32
  let v322 : BitVec 1 := Scalar.cmpi .ne v2 c23_i32_148
  let v323 : BitVec 32 := Scalar.extui v322
  let c0_i32_150 : BitVec 32 := 0#32
  let v324 : BitVec 1 := Scalar.cmpi .ne v323 c0_i32_150
  v324

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev56 : Nat :=
  let c0_i32_809 : BitVec 32 := 0#32
  let c23_i32_807 : BitVec 32 := 23#32
  let c1_i32_808 : BitVec 32 := 1#32
  let v882 : BitVec 32 := Scalar.muli c23_i32_807 c1_i32_808
  let v883 : BitVec 32 := Scalar.addi c0_i32_809 v882
  v883.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_156 : BitVec 32 := 24#32
  let v353 : BitVec 1 := Scalar.cmpi .ne v2 c24_i32_156
  let v354 : BitVec 32 := Scalar.extui v353
  let c0_i32_158 : BitVec 32 := 0#32
  let v355 : BitVec 1 := Scalar.cmpi .ne v354 c0_i32_158
  v355

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev57 : Nat :=
  let c0_i32_809 : BitVec 32 := 0#32
  let c24_i32_807 : BitVec 32 := 24#32
  let c1_i32_808 : BitVec 32 := 1#32
  let v882 : BitVec 32 := Scalar.muli c24_i32_807 c1_i32_808
  let v883 : BitVec 32 := Scalar.addi c0_i32_809 v882
  v883.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_159 : BitVec 32 := 25#32
  let v356 : BitVec 1 := Scalar.cmpi .ne v2 c25_i32_159
  let v357 : BitVec 32 := Scalar.extui v356
  let c0_i32_161 : BitVec 32 := 0#32
  let v358 : BitVec 1 := Scalar.cmpi .ne v357 c0_i32_161
  v358

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev58 : Nat :=
  let c0_i32_809 : BitVec 32 := 0#32
  let c25_i32_807 : BitVec 32 := 25#32
  let c1_i32_808 : BitVec 32 := 1#32
  let v882 : BitVec 32 := Scalar.muli c25_i32_807 c1_i32_808
  let v883 : BitVec 32 := Scalar.addi c0_i32_809 v882
  v883.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_162 : BitVec 32 := 26#32
  let v359 : BitVec 1 := Scalar.cmpi .ne v2 c26_i32_162
  let v360 : BitVec 32 := Scalar.extui v359
  let c0_i32_164 : BitVec 32 := 0#32
  let v361 : BitVec 1 := Scalar.cmpi .ne v360 c0_i32_164
  v361

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev59 : Nat :=
  let c0_i32_809 : BitVec 32 := 0#32
  let c26_i32_807 : BitVec 32 := 26#32
  let c1_i32_808 : BitVec 32 := 1#32
  let v882 : BitVec 32 := Scalar.muli c26_i32_807 c1_i32_808
  let v883 : BitVec 32 := Scalar.addi c0_i32_809 v882
  v883.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_165 : BitVec 32 := 27#32
  let v362 : BitVec 1 := Scalar.cmpi .ne v2 c27_i32_165
  let v363 : BitVec 32 := Scalar.extui v362
  let c0_i32_167 : BitVec 32 := 0#32
  let v364 : BitVec 1 := Scalar.cmpi .ne v363 c0_i32_167
  v364

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev60 : Nat :=
  let c0_i32_809 : BitVec 32 := 0#32
  let c27_i32_807 : BitVec 32 := 27#32
  let c1_i32_808 : BitVec 32 := 1#32
  let v882 : BitVec 32 := Scalar.muli c27_i32_807 c1_i32_808
  let v883 : BitVec 32 := Scalar.addi c0_i32_809 v882
  v883.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_168 : BitVec 32 := 28#32
  let v365 : BitVec 1 := Scalar.cmpi .ne v2 c28_i32_168
  let v366 : BitVec 32 := Scalar.extui v365
  let c0_i32_170 : BitVec 32 := 0#32
  let v367 : BitVec 1 := Scalar.cmpi .ne v366 c0_i32_170
  v367

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev61 : Nat :=
  let c0_i32_809 : BitVec 32 := 0#32
  let c28_i32_807 : BitVec 32 := 28#32
  let c1_i32_808 : BitVec 32 := 1#32
  let v882 : BitVec 32 := Scalar.muli c28_i32_807 c1_i32_808
  let v883 : BitVec 32 := Scalar.addi c0_i32_809 v882
  v883.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_171 : BitVec 32 := 29#32
  let v368 : BitVec 1 := Scalar.cmpi .ne v2 c29_i32_171
  let v369 : BitVec 32 := Scalar.extui v368
  let c0_i32_173 : BitVec 32 := 0#32
  let v370 : BitVec 1 := Scalar.cmpi .ne v369 c0_i32_173
  v370

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev62 : Nat :=
  let c0_i32_809 : BitVec 32 := 0#32
  let c29_i32_807 : BitVec 32 := 29#32
  let c1_i32_808 : BitVec 32 := 1#32
  let v882 : BitVec 32 := Scalar.muli c29_i32_807 c1_i32_808
  let v883 : BitVec 32 := Scalar.addi c0_i32_809 v882
  v883.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_174 : BitVec 32 := 30#32
  let v371 : BitVec 1 := Scalar.cmpi .ne v2 c30_i32_174
  let v372 : BitVec 32 := Scalar.extui v371
  let c0_i32_176 : BitVec 32 := 0#32
  let v373 : BitVec 1 := Scalar.cmpi .ne v372 c0_i32_176
  v373

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev63 : Nat :=
  let c0_i32_809 : BitVec 32 := 0#32
  let c30_i32_807 : BitVec 32 := 30#32
  let c1_i32_808 : BitVec 32 := 1#32
  let v882 : BitVec 32 := Scalar.muli c30_i32_807 c1_i32_808
  let v883 : BitVec 32 := Scalar.addi c0_i32_809 v882
  v883.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_177 : BitVec 32 := 31#32
  let v374 : BitVec 1 := Scalar.cmpi .ne v2 c31_i32_177
  let v375 : BitVec 32 := Scalar.extui v374
  let c0_i32_179 : BitVec 32 := 0#32
  let v376 : BitVec 1 := Scalar.cmpi .ne v375 c0_i32_179
  v376

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev64 : Nat :=
  let c0_i32_809 : BitVec 32 := 0#32
  let c31_i32_807 : BitVec 32 := 31#32
  let c1_i32_808 : BitVec 32 := 1#32
  let v882 : BitVec 32 := Scalar.muli c31_i32_807 c1_i32_808
  let v883 : BitVec 32 := Scalar.addi c0_i32_809 v882
  v883.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_180 : BitVec 32 := 16#32
  let v377 : BitVec 32 := Scalar.muli v2 c16_i32_180
  let v378 : Index := Scalar.indexCast v377
  let c0_181 : Index := 0#32
  ![v378.toNat, 0]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v381 : Index := Scalar.indexCast v2
  let c0_182 : Index := 0#32
  let c0_183 : Index := 0#32
  ![v381.toNat, 0, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_348 : BitVec 32 := 0#32
  let v484 : BitVec 1 := Scalar.cmpi .ne v2 c0_i32_348
  let v485 : BitVec 32 := Scalar.extui v484
  let c0_i32_350 : BitVec 32 := 0#32
  let v486 : BitVec 1 := Scalar.cmpi .ne v485 c0_i32_350
  v486

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_811 : BitVec 32 := 0#32
  let c0_i32_812 : BitVec 32 := 0#32
  ![v2.toNat, 0, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_351 : BitVec 32 := 1#32
  let v487 : BitVec 1 := Scalar.cmpi .ne v2 c1_i32_351
  let v488 : BitVec 32 := Scalar.extui v487
  let c0_i32_353 : BitVec 32 := 0#32
  let v489 : BitVec 1 := Scalar.cmpi .ne v488 c0_i32_353
  v489

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_811 : BitVec 32 := 0#32
  let c0_i32_812 : BitVec 32 := 0#32
  ![v2.toNat, 0, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_354 : BitVec 32 := 2#32
  let v490 : BitVec 1 := Scalar.cmpi .ne v2 c2_i32_354
  let v491 : BitVec 32 := Scalar.extui v490
  let c0_i32_356 : BitVec 32 := 0#32
  let v492 : BitVec 1 := Scalar.cmpi .ne v491 c0_i32_356
  v492

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_811 : BitVec 32 := 0#32
  let c0_i32_812 : BitVec 32 := 0#32
  ![v2.toNat, 0, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_357 : BitVec 32 := 3#32
  let v493 : BitVec 1 := Scalar.cmpi .ne v2 c3_i32_357
  let v494 : BitVec 32 := Scalar.extui v493
  let c0_i32_359 : BitVec 32 := 0#32
  let v495 : BitVec 1 := Scalar.cmpi .ne v494 c0_i32_359
  v495

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_360 : BitVec 32 := 4#32
  let v496 : BitVec 1 := Scalar.cmpi .ne v2 c4_i32_360
  let v497 : BitVec 32 := Scalar.extui v496
  let c0_i32_362 : BitVec 32 := 0#32
  let v498 : BitVec 1 := Scalar.cmpi .ne v497 c0_i32_362
  v498

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_363 : BitVec 32 := 5#32
  let v499 : BitVec 1 := Scalar.cmpi .ne v2 c5_i32_363
  let v500 : BitVec 32 := Scalar.extui v499
  let c0_i32_365 : BitVec 32 := 0#32
  let v501 : BitVec 1 := Scalar.cmpi .ne v500 c0_i32_365
  v501

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_366 : BitVec 32 := 6#32
  let v502 : BitVec 1 := Scalar.cmpi .ne v2 c6_i32_366
  let v503 : BitVec 32 := Scalar.extui v502
  let c0_i32_368 : BitVec 32 := 0#32
  let v504 : BitVec 1 := Scalar.cmpi .ne v503 c0_i32_368
  v504

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_369 : BitVec 32 := 7#32
  let v505 : BitVec 1 := Scalar.cmpi .ne v2 c7_i32_369
  let v506 : BitVec 32 := Scalar.extui v505
  let c0_i32_371 : BitVec 32 := 0#32
  let v507 : BitVec 1 := Scalar.cmpi .ne v506 c0_i32_371
  v507

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_372 : BitVec 32 := 8#32
  let v508 : BitVec 1 := Scalar.cmpi .ne v2 c8_i32_372
  let v509 : BitVec 32 := Scalar.extui v508
  let c0_i32_374 : BitVec 32 := 0#32
  let v510 : BitVec 1 := Scalar.cmpi .ne v509 c0_i32_374
  v510

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_375 : BitVec 32 := 9#32
  let v511 : BitVec 1 := Scalar.cmpi .ne v2 c9_i32_375
  let v512 : BitVec 32 := Scalar.extui v511
  let c0_i32_377 : BitVec 32 := 0#32
  let v513 : BitVec 1 := Scalar.cmpi .ne v512 c0_i32_377
  v513

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_378 : BitVec 32 := 10#32
  let v514 : BitVec 1 := Scalar.cmpi .ne v2 c10_i32_378
  let v515 : BitVec 32 := Scalar.extui v514
  let c0_i32_380 : BitVec 32 := 0#32
  let v516 : BitVec 1 := Scalar.cmpi .ne v515 c0_i32_380
  v516

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_381 : BitVec 32 := 11#32
  let v517 : BitVec 1 := Scalar.cmpi .ne v2 c11_i32_381
  let v518 : BitVec 32 := Scalar.extui v517
  let c0_i32_383 : BitVec 32 := 0#32
  let v519 : BitVec 1 := Scalar.cmpi .ne v518 c0_i32_383
  v519

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_384 : BitVec 32 := 12#32
  let v520 : BitVec 1 := Scalar.cmpi .ne v2 c12_i32_384
  let v521 : BitVec 32 := Scalar.extui v520
  let c0_i32_386 : BitVec 32 := 0#32
  let v522 : BitVec 1 := Scalar.cmpi .ne v521 c0_i32_386
  v522

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_387 : BitVec 32 := 13#32
  let v523 : BitVec 1 := Scalar.cmpi .ne v2 c13_i32_387
  let v524 : BitVec 32 := Scalar.extui v523
  let c0_i32_389 : BitVec 32 := 0#32
  let v525 : BitVec 1 := Scalar.cmpi .ne v524 c0_i32_389
  v525

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_390 : BitVec 32 := 14#32
  let v526 : BitVec 1 := Scalar.cmpi .ne v2 c14_i32_390
  let v527 : BitVec 32 := Scalar.extui v526
  let c0_i32_392 : BitVec 32 := 0#32
  let v528 : BitVec 1 := Scalar.cmpi .ne v527 c0_i32_392
  v528

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_393 : BitVec 32 := 15#32
  let v529 : BitVec 1 := Scalar.cmpi .ne v2 c15_i32_393
  let v530 : BitVec 32 := Scalar.extui v529
  let c0_i32_395 : BitVec 32 := 0#32
  let v531 : BitVec 1 := Scalar.cmpi .ne v530 c0_i32_395
  v531

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_396 : BitVec 32 := 16#32
  let v532 : BitVec 1 := Scalar.cmpi .ne v2 c16_i32_396
  let v533 : BitVec 32 := Scalar.extui v532
  let c0_i32_398 : BitVec 32 := 0#32
  let v534 : BitVec 1 := Scalar.cmpi .ne v533 c0_i32_398
  v534

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_399 : BitVec 32 := 17#32
  let v535 : BitVec 1 := Scalar.cmpi .ne v2 c17_i32_399
  let v536 : BitVec 32 := Scalar.extui v535
  let c0_i32_401 : BitVec 32 := 0#32
  let v537 : BitVec 1 := Scalar.cmpi .ne v536 c0_i32_401
  v537

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_402 : BitVec 32 := 18#32
  let v538 : BitVec 1 := Scalar.cmpi .ne v2 c18_i32_402
  let v539 : BitVec 32 := Scalar.extui v538
  let c0_i32_404 : BitVec 32 := 0#32
  let v540 : BitVec 1 := Scalar.cmpi .ne v539 c0_i32_404
  v540

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_405 : BitVec 32 := 19#32
  let v541 : BitVec 1 := Scalar.cmpi .ne v2 c19_i32_405
  let v542 : BitVec 32 := Scalar.extui v541
  let c0_i32_407 : BitVec 32 := 0#32
  let v543 : BitVec 1 := Scalar.cmpi .ne v542 c0_i32_407
  v543

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_408 : BitVec 32 := 20#32
  let v544 : BitVec 1 := Scalar.cmpi .ne v2 c20_i32_408
  let v545 : BitVec 32 := Scalar.extui v544
  let c0_i32_410 : BitVec 32 := 0#32
  let v546 : BitVec 1 := Scalar.cmpi .ne v545 c0_i32_410
  v546

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_411 : BitVec 32 := 21#32
  let v547 : BitVec 1 := Scalar.cmpi .ne v2 c21_i32_411
  let v548 : BitVec 32 := Scalar.extui v547
  let c0_i32_413 : BitVec 32 := 0#32
  let v549 : BitVec 1 := Scalar.cmpi .ne v548 c0_i32_413
  v549

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_414 : BitVec 32 := 22#32
  let v550 : BitVec 1 := Scalar.cmpi .ne v2 c22_i32_414
  let v551 : BitVec 32 := Scalar.extui v550
  let c0_i32_416 : BitVec 32 := 0#32
  let v552 : BitVec 1 := Scalar.cmpi .ne v551 c0_i32_416
  v552

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_417 : BitVec 32 := 23#32
  let v553 : BitVec 1 := Scalar.cmpi .ne v2 c23_i32_417
  let v554 : BitVec 32 := Scalar.extui v553
  let c0_i32_419 : BitVec 32 := 0#32
  let v555 : BitVec 1 := Scalar.cmpi .ne v554 c0_i32_419
  v555

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_420 : BitVec 32 := 24#32
  let v556 : BitVec 1 := Scalar.cmpi .ne v2 c24_i32_420
  let v557 : BitVec 32 := Scalar.extui v556
  let c0_i32_422 : BitVec 32 := 0#32
  let v558 : BitVec 1 := Scalar.cmpi .ne v557 c0_i32_422
  v558

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_423 : BitVec 32 := 25#32
  let v559 : BitVec 1 := Scalar.cmpi .ne v2 c25_i32_423
  let v560 : BitVec 32 := Scalar.extui v559
  let c0_i32_425 : BitVec 32 := 0#32
  let v561 : BitVec 1 := Scalar.cmpi .ne v560 c0_i32_425
  v561

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_426 : BitVec 32 := 26#32
  let v562 : BitVec 1 := Scalar.cmpi .ne v2 c26_i32_426
  let v563 : BitVec 32 := Scalar.extui v562
  let c0_i32_428 : BitVec 32 := 0#32
  let v564 : BitVec 1 := Scalar.cmpi .ne v563 c0_i32_428
  v564

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_429 : BitVec 32 := 27#32
  let v565 : BitVec 1 := Scalar.cmpi .ne v2 c27_i32_429
  let v566 : BitVec 32 := Scalar.extui v565
  let c0_i32_431 : BitVec 32 := 0#32
  let v567 : BitVec 1 := Scalar.cmpi .ne v566 c0_i32_431
  v567

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_432 : BitVec 32 := 28#32
  let v568 : BitVec 1 := Scalar.cmpi .ne v2 c28_i32_432
  let v569 : BitVec 32 := Scalar.extui v568
  let c0_i32_434 : BitVec 32 := 0#32
  let v570 : BitVec 1 := Scalar.cmpi .ne v569 c0_i32_434
  v570

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_435 : BitVec 32 := 29#32
  let v571 : BitVec 1 := Scalar.cmpi .ne v2 c29_i32_435
  let v572 : BitVec 32 := Scalar.extui v571
  let c0_i32_437 : BitVec 32 := 0#32
  let v573 : BitVec 1 := Scalar.cmpi .ne v572 c0_i32_437
  v573

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_438 : BitVec 32 := 30#32
  let v574 : BitVec 1 := Scalar.cmpi .ne v2 c30_i32_438
  let v575 : BitVec 32 := Scalar.extui v574
  let c0_i32_440 : BitVec 32 := 0#32
  let v576 : BitVec 1 := Scalar.cmpi .ne v575 c0_i32_440
  v576

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_441 : BitVec 32 := 31#32
  let v577 : BitVec 1 := Scalar.cmpi .ne v2 c31_i32_441
  let v578 : BitVec 32 := Scalar.extui v577
  let c0_i32_443 : BitVec 32 := 0#32
  let v579 : BitVec 1 := Scalar.cmpi .ne v578 c0_i32_443
  v579

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_446 : BitVec 32 := 0#32
  let v584 : BitVec 1 := Scalar.cmpi .ne v2 c0_i32_446
  let v585 : BitVec 32 := Scalar.extui v584
  let c0_i32_448 : BitVec 32 := 0#32
  let v586 : BitVec 1 := Scalar.cmpi .ne v585 c0_i32_448
  v586

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev65 : Nat :=
  let c0_i32_809 : BitVec 32 := 0#32
  let c0_i32_807 : BitVec 32 := 0#32
  let c1_i32_808 : BitVec 32 := 1#32
  let v882 : BitVec 32 := Scalar.muli c0_i32_807 c1_i32_808
  let v883 : BitVec 32 := Scalar.addi c0_i32_809 v882
  v883.toNat
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_449 : BitVec 32 := 1#32
  let v587 : BitVec 1 := Scalar.cmpi .ne v2 c1_i32_449
  let v588 : BitVec 32 := Scalar.extui v587
  let c0_i32_451 : BitVec 32 := 0#32
  let v589 : BitVec 1 := Scalar.cmpi .ne v588 c0_i32_451
  v589

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev66 : Nat :=
  let c0_i32_809 : BitVec 32 := 0#32
  let c1_i32_807 : BitVec 32 := 1#32
  let c1_i32_808 : BitVec 32 := 1#32
  let v882 : BitVec 32 := Scalar.muli c1_i32_807 c1_i32_808
  let v883 : BitVec 32 := Scalar.addi c0_i32_809 v882
  v883.toNat
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_452 : BitVec 32 := 2#32
  let v590 : BitVec 1 := Scalar.cmpi .ne v2 c2_i32_452
  let v591 : BitVec 32 := Scalar.extui v590
  let c0_i32_454 : BitVec 32 := 0#32
  let v592 : BitVec 1 := Scalar.cmpi .ne v591 c0_i32_454
  v592

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev67 : Nat :=
  let c0_i32_809 : BitVec 32 := 0#32
  let c2_i32_807 : BitVec 32 := 2#32
  let c1_i32_808 : BitVec 32 := 1#32
  let v882 : BitVec 32 := Scalar.muli c2_i32_807 c1_i32_808
  let v883 : BitVec 32 := Scalar.addi c0_i32_809 v882
  v883.toNat
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_455 : BitVec 32 := 3#32
  let v593 : BitVec 1 := Scalar.cmpi .ne v2 c3_i32_455
  let v594 : BitVec 32 := Scalar.extui v593
  let c0_i32_457 : BitVec 32 := 0#32
  let v595 : BitVec 1 := Scalar.cmpi .ne v594 c0_i32_457
  v595

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev68 : Nat :=
  let c0_i32_809 : BitVec 32 := 0#32
  let c3_i32_807 : BitVec 32 := 3#32
  let c1_i32_808 : BitVec 32 := 1#32
  let v882 : BitVec 32 := Scalar.muli c3_i32_807 c1_i32_808
  let v883 : BitVec 32 := Scalar.addi c0_i32_809 v882
  v883.toNat
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_458 : BitVec 32 := 4#32
  let v596 : BitVec 1 := Scalar.cmpi .ne v2 c4_i32_458
  let v597 : BitVec 32 := Scalar.extui v596
  let c0_i32_460 : BitVec 32 := 0#32
  let v598 : BitVec 1 := Scalar.cmpi .ne v597 c0_i32_460
  v598

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev69 : Nat :=
  let c0_i32_809 : BitVec 32 := 0#32
  let c4_i32_807 : BitVec 32 := 4#32
  let c1_i32_808 : BitVec 32 := 1#32
  let v882 : BitVec 32 := Scalar.muli c4_i32_807 c1_i32_808
  let v883 : BitVec 32 := Scalar.addi c0_i32_809 v882
  v883.toNat
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_461 : BitVec 32 := 5#32
  let v599 : BitVec 1 := Scalar.cmpi .ne v2 c5_i32_461
  let v600 : BitVec 32 := Scalar.extui v599
  let c0_i32_463 : BitVec 32 := 0#32
  let v601 : BitVec 1 := Scalar.cmpi .ne v600 c0_i32_463
  v601

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev70 : Nat :=
  let c0_i32_809 : BitVec 32 := 0#32
  let c5_i32_807 : BitVec 32 := 5#32
  let c1_i32_808 : BitVec 32 := 1#32
  let v882 : BitVec 32 := Scalar.muli c5_i32_807 c1_i32_808
  let v883 : BitVec 32 := Scalar.addi c0_i32_809 v882
  v883.toNat
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_464 : BitVec 32 := 6#32
  let v602 : BitVec 1 := Scalar.cmpi .ne v2 c6_i32_464
  let v603 : BitVec 32 := Scalar.extui v602
  let c0_i32_466 : BitVec 32 := 0#32
  let v604 : BitVec 1 := Scalar.cmpi .ne v603 c0_i32_466
  v604

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev71 : Nat :=
  let c0_i32_809 : BitVec 32 := 0#32
  let c6_i32_807 : BitVec 32 := 6#32
  let c1_i32_808 : BitVec 32 := 1#32
  let v882 : BitVec 32 := Scalar.muli c6_i32_807 c1_i32_808
  let v883 : BitVec 32 := Scalar.addi c0_i32_809 v882
  v883.toNat
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_467 : BitVec 32 := 7#32
  let v605 : BitVec 1 := Scalar.cmpi .ne v2 c7_i32_467
  let v606 : BitVec 32 := Scalar.extui v605
  let c0_i32_469 : BitVec 32 := 0#32
  let v607 : BitVec 1 := Scalar.cmpi .ne v606 c0_i32_469
  v607

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev72 : Nat :=
  let c0_i32_809 : BitVec 32 := 0#32
  let c7_i32_807 : BitVec 32 := 7#32
  let c1_i32_808 : BitVec 32 := 1#32
  let v882 : BitVec 32 := Scalar.muli c7_i32_807 c1_i32_808
  let v883 : BitVec 32 := Scalar.addi c0_i32_809 v882
  v883.toNat
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_470 : BitVec 32 := 8#32
  let v608 : BitVec 1 := Scalar.cmpi .ne v2 c8_i32_470
  let v609 : BitVec 32 := Scalar.extui v608
  let c0_i32_472 : BitVec 32 := 0#32
  let v610 : BitVec 1 := Scalar.cmpi .ne v609 c0_i32_472
  v610

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev73 : Nat :=
  let c0_i32_809 : BitVec 32 := 0#32
  let c8_i32_807 : BitVec 32 := 8#32
  let c1_i32_808 : BitVec 32 := 1#32
  let v882 : BitVec 32 := Scalar.muli c8_i32_807 c1_i32_808
  let v883 : BitVec 32 := Scalar.addi c0_i32_809 v882
  v883.toNat
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_473 : BitVec 32 := 9#32
  let v611 : BitVec 1 := Scalar.cmpi .ne v2 c9_i32_473
  let v612 : BitVec 32 := Scalar.extui v611
  let c0_i32_475 : BitVec 32 := 0#32
  let v613 : BitVec 1 := Scalar.cmpi .ne v612 c0_i32_475
  v613

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev74 : Nat :=
  let c0_i32_809 : BitVec 32 := 0#32
  let c9_i32_807 : BitVec 32 := 9#32
  let c1_i32_808 : BitVec 32 := 1#32
  let v882 : BitVec 32 := Scalar.muli c9_i32_807 c1_i32_808
  let v883 : BitVec 32 := Scalar.addi c0_i32_809 v882
  v883.toNat
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_476 : BitVec 32 := 10#32
  let v614 : BitVec 1 := Scalar.cmpi .ne v2 c10_i32_476
  let v615 : BitVec 32 := Scalar.extui v614
  let c0_i32_478 : BitVec 32 := 0#32
  let v616 : BitVec 1 := Scalar.cmpi .ne v615 c0_i32_478
  v616

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev75 : Nat :=
  let c0_i32_809 : BitVec 32 := 0#32
  let c10_i32_807 : BitVec 32 := 10#32
  let c1_i32_808 : BitVec 32 := 1#32
  let v882 : BitVec 32 := Scalar.muli c10_i32_807 c1_i32_808
  let v883 : BitVec 32 := Scalar.addi c0_i32_809 v882
  v883.toNat
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_479 : BitVec 32 := 11#32
  let v617 : BitVec 1 := Scalar.cmpi .ne v2 c11_i32_479
  let v618 : BitVec 32 := Scalar.extui v617
  let c0_i32_481 : BitVec 32 := 0#32
  let v619 : BitVec 1 := Scalar.cmpi .ne v618 c0_i32_481
  v619

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev76 : Nat :=
  let c0_i32_809 : BitVec 32 := 0#32
  let c11_i32_807 : BitVec 32 := 11#32
  let c1_i32_808 : BitVec 32 := 1#32
  let v882 : BitVec 32 := Scalar.muli c11_i32_807 c1_i32_808
  let v883 : BitVec 32 := Scalar.addi c0_i32_809 v882
  v883.toNat
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_482 : BitVec 32 := 12#32
  let v620 : BitVec 1 := Scalar.cmpi .ne v2 c12_i32_482
  let v621 : BitVec 32 := Scalar.extui v620
  let c0_i32_484 : BitVec 32 := 0#32
  let v622 : BitVec 1 := Scalar.cmpi .ne v621 c0_i32_484
  v622

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev77 : Nat :=
  let c0_i32_809 : BitVec 32 := 0#32
  let c12_i32_807 : BitVec 32 := 12#32
  let c1_i32_808 : BitVec 32 := 1#32
  let v882 : BitVec 32 := Scalar.muli c12_i32_807 c1_i32_808
  let v883 : BitVec 32 := Scalar.addi c0_i32_809 v882
  v883.toNat
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_485 : BitVec 32 := 13#32
  let v623 : BitVec 1 := Scalar.cmpi .ne v2 c13_i32_485
  let v624 : BitVec 32 := Scalar.extui v623
  let c0_i32_487 : BitVec 32 := 0#32
  let v625 : BitVec 1 := Scalar.cmpi .ne v624 c0_i32_487
  v625

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev78 : Nat :=
  let c0_i32_809 : BitVec 32 := 0#32
  let c13_i32_807 : BitVec 32 := 13#32
  let c1_i32_808 : BitVec 32 := 1#32
  let v882 : BitVec 32 := Scalar.muli c13_i32_807 c1_i32_808
  let v883 : BitVec 32 := Scalar.addi c0_i32_809 v882
  v883.toNat
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_488 : BitVec 32 := 14#32
  let v626 : BitVec 1 := Scalar.cmpi .ne v2 c14_i32_488
  let v627 : BitVec 32 := Scalar.extui v626
  let c0_i32_490 : BitVec 32 := 0#32
  let v628 : BitVec 1 := Scalar.cmpi .ne v627 c0_i32_490
  v628

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev79 : Nat :=
  let c0_i32_809 : BitVec 32 := 0#32
  let c14_i32_807 : BitVec 32 := 14#32
  let c1_i32_808 : BitVec 32 := 1#32
  let v882 : BitVec 32 := Scalar.muli c14_i32_807 c1_i32_808
  let v883 : BitVec 32 := Scalar.addi c0_i32_809 v882
  v883.toNat
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_491 : BitVec 32 := 15#32
  let v629 : BitVec 1 := Scalar.cmpi .ne v2 c15_i32_491
  let v630 : BitVec 32 := Scalar.extui v629
  let c0_i32_493 : BitVec 32 := 0#32
  let v631 : BitVec 1 := Scalar.cmpi .ne v630 c0_i32_493
  v631

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev80 : Nat :=
  let c0_i32_809 : BitVec 32 := 0#32
  let c15_i32_807 : BitVec 32 := 15#32
  let c1_i32_808 : BitVec 32 := 1#32
  let v882 : BitVec 32 := Scalar.muli c15_i32_807 c1_i32_808
  let v883 : BitVec 32 := Scalar.addi c0_i32_809 v882
  v883.toNat
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_494 : BitVec 32 := 16#32
  let v632 : BitVec 1 := Scalar.cmpi .ne v2 c16_i32_494
  let v633 : BitVec 32 := Scalar.extui v632
  let c0_i32_496 : BitVec 32 := 0#32
  let v634 : BitVec 1 := Scalar.cmpi .ne v633 c0_i32_496
  v634

def k0_off131 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev81 : Nat :=
  let c0_i32_809 : BitVec 32 := 0#32
  let c16_i32_807 : BitVec 32 := 16#32
  let c1_i32_808 : BitVec 32 := 1#32
  let v882 : BitVec 32 := Scalar.muli c16_i32_807 c1_i32_808
  let v883 : BitVec 32 := Scalar.addi c0_i32_809 v882
  v883.toNat
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_497 : BitVec 32 := 17#32
  let v635 : BitVec 1 := Scalar.cmpi .ne v2 c17_i32_497
  let v636 : BitVec 32 := Scalar.extui v635
  let c0_i32_499 : BitVec 32 := 0#32
  let v637 : BitVec 1 := Scalar.cmpi .ne v636 c0_i32_499
  v637

def k0_off133 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off134 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev82 : Nat :=
  let c0_i32_809 : BitVec 32 := 0#32
  let c17_i32_807 : BitVec 32 := 17#32
  let c1_i32_808 : BitVec 32 := 1#32
  let v882 : BitVec 32 := Scalar.muli c17_i32_807 c1_i32_808
  let v883 : BitVec 32 := Scalar.addi c0_i32_809 v882
  v883.toNat
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_500 : BitVec 32 := 18#32
  let v638 : BitVec 1 := Scalar.cmpi .ne v2 c18_i32_500
  let v639 : BitVec 32 := Scalar.extui v638
  let c0_i32_502 : BitVec 32 := 0#32
  let v640 : BitVec 1 := Scalar.cmpi .ne v639 c0_i32_502
  v640

def k0_off135 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev83 : Nat :=
  let c0_i32_809 : BitVec 32 := 0#32
  let c18_i32_807 : BitVec 32 := 18#32
  let c1_i32_808 : BitVec 32 := 1#32
  let v882 : BitVec 32 := Scalar.muli c18_i32_807 c1_i32_808
  let v883 : BitVec 32 := Scalar.addi c0_i32_809 v882
  v883.toNat
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_503 : BitVec 32 := 19#32
  let v641 : BitVec 1 := Scalar.cmpi .ne v2 c19_i32_503
  let v642 : BitVec 32 := Scalar.extui v641
  let c0_i32_505 : BitVec 32 := 0#32
  let v643 : BitVec 1 := Scalar.cmpi .ne v642 c0_i32_505
  v643

def k0_off137 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev84 : Nat :=
  let c0_i32_809 : BitVec 32 := 0#32
  let c19_i32_807 : BitVec 32 := 19#32
  let c1_i32_808 : BitVec 32 := 1#32
  let v882 : BitVec 32 := Scalar.muli c19_i32_807 c1_i32_808
  let v883 : BitVec 32 := Scalar.addi c0_i32_809 v882
  v883.toNat
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_506 : BitVec 32 := 20#32
  let v644 : BitVec 1 := Scalar.cmpi .ne v2 c20_i32_506
  let v645 : BitVec 32 := Scalar.extui v644
  let c0_i32_508 : BitVec 32 := 0#32
  let v646 : BitVec 1 := Scalar.cmpi .ne v645 c0_i32_508
  v646

def k0_off139 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev85 : Nat :=
  let c0_i32_809 : BitVec 32 := 0#32
  let c20_i32_807 : BitVec 32 := 20#32
  let c1_i32_808 : BitVec 32 := 1#32
  let v882 : BitVec 32 := Scalar.muli c20_i32_807 c1_i32_808
  let v883 : BitVec 32 := Scalar.addi c0_i32_809 v882
  v883.toNat
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_509 : BitVec 32 := 21#32
  let v647 : BitVec 1 := Scalar.cmpi .ne v2 c21_i32_509
  let v648 : BitVec 32 := Scalar.extui v647
  let c0_i32_511 : BitVec 32 := 0#32
  let v649 : BitVec 1 := Scalar.cmpi .ne v648 c0_i32_511
  v649

def k0_off141 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev86 : Nat :=
  let c0_i32_809 : BitVec 32 := 0#32
  let c21_i32_807 : BitVec 32 := 21#32
  let c1_i32_808 : BitVec 32 := 1#32
  let v882 : BitVec 32 := Scalar.muli c21_i32_807 c1_i32_808
  let v883 : BitVec 32 := Scalar.addi c0_i32_809 v882
  v883.toNat
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_512 : BitVec 32 := 22#32
  let v650 : BitVec 1 := Scalar.cmpi .ne v2 c22_i32_512
  let v651 : BitVec 32 := Scalar.extui v650
  let c0_i32_514 : BitVec 32 := 0#32
  let v652 : BitVec 1 := Scalar.cmpi .ne v651 c0_i32_514
  v652

def k0_off143 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev87 : Nat :=
  let c0_i32_809 : BitVec 32 := 0#32
  let c22_i32_807 : BitVec 32 := 22#32
  let c1_i32_808 : BitVec 32 := 1#32
  let v882 : BitVec 32 := Scalar.muli c22_i32_807 c1_i32_808
  let v883 : BitVec 32 := Scalar.addi c0_i32_809 v882
  v883.toNat
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_515 : BitVec 32 := 23#32
  let v653 : BitVec 1 := Scalar.cmpi .ne v2 c23_i32_515
  let v654 : BitVec 32 := Scalar.extui v653
  let c0_i32_517 : BitVec 32 := 0#32
  let v655 : BitVec 1 := Scalar.cmpi .ne v654 c0_i32_517
  v655

def k0_off145 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev88 : Nat :=
  let c0_i32_809 : BitVec 32 := 0#32
  let c23_i32_807 : BitVec 32 := 23#32
  let c1_i32_808 : BitVec 32 := 1#32
  let v882 : BitVec 32 := Scalar.muli c23_i32_807 c1_i32_808
  let v883 : BitVec 32 := Scalar.addi c0_i32_809 v882
  v883.toNat
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_518 : BitVec 32 := 24#32
  let v656 : BitVec 1 := Scalar.cmpi .ne v2 c24_i32_518
  let v657 : BitVec 32 := Scalar.extui v656
  let c0_i32_520 : BitVec 32 := 0#32
  let v658 : BitVec 1 := Scalar.cmpi .ne v657 c0_i32_520
  v658

def k0_off147 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev89 : Nat :=
  let c0_i32_809 : BitVec 32 := 0#32
  let c24_i32_807 : BitVec 32 := 24#32
  let c1_i32_808 : BitVec 32 := 1#32
  let v882 : BitVec 32 := Scalar.muli c24_i32_807 c1_i32_808
  let v883 : BitVec 32 := Scalar.addi c0_i32_809 v882
  v883.toNat
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_521 : BitVec 32 := 25#32
  let v659 : BitVec 1 := Scalar.cmpi .ne v2 c25_i32_521
  let v660 : BitVec 32 := Scalar.extui v659
  let c0_i32_523 : BitVec 32 := 0#32
  let v661 : BitVec 1 := Scalar.cmpi .ne v660 c0_i32_523
  v661

def k0_off149 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev90 : Nat :=
  let c0_i32_809 : BitVec 32 := 0#32
  let c25_i32_807 : BitVec 32 := 25#32
  let c1_i32_808 : BitVec 32 := 1#32
  let v882 : BitVec 32 := Scalar.muli c25_i32_807 c1_i32_808
  let v883 : BitVec 32 := Scalar.addi c0_i32_809 v882
  v883.toNat
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_524 : BitVec 32 := 26#32
  let v662 : BitVec 1 := Scalar.cmpi .ne v2 c26_i32_524
  let v663 : BitVec 32 := Scalar.extui v662
  let c0_i32_526 : BitVec 32 := 0#32
  let v664 : BitVec 1 := Scalar.cmpi .ne v663 c0_i32_526
  v664

def k0_off151 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev91 : Nat :=
  let c0_i32_809 : BitVec 32 := 0#32
  let c26_i32_807 : BitVec 32 := 26#32
  let c1_i32_808 : BitVec 32 := 1#32
  let v882 : BitVec 32 := Scalar.muli c26_i32_807 c1_i32_808
  let v883 : BitVec 32 := Scalar.addi c0_i32_809 v882
  v883.toNat
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_527 : BitVec 32 := 27#32
  let v665 : BitVec 1 := Scalar.cmpi .ne v2 c27_i32_527
  let v666 : BitVec 32 := Scalar.extui v665
  let c0_i32_529 : BitVec 32 := 0#32
  let v667 : BitVec 1 := Scalar.cmpi .ne v666 c0_i32_529
  v667

def k0_off153 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev92 : Nat :=
  let c0_i32_809 : BitVec 32 := 0#32
  let c27_i32_807 : BitVec 32 := 27#32
  let c1_i32_808 : BitVec 32 := 1#32
  let v882 : BitVec 32 := Scalar.muli c27_i32_807 c1_i32_808
  let v883 : BitVec 32 := Scalar.addi c0_i32_809 v882
  v883.toNat
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_530 : BitVec 32 := 28#32
  let v668 : BitVec 1 := Scalar.cmpi .ne v2 c28_i32_530
  let v669 : BitVec 32 := Scalar.extui v668
  let c0_i32_532 : BitVec 32 := 0#32
  let v670 : BitVec 1 := Scalar.cmpi .ne v669 c0_i32_532
  v670

def k0_off155 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev93 : Nat :=
  let c0_i32_809 : BitVec 32 := 0#32
  let c28_i32_807 : BitVec 32 := 28#32
  let c1_i32_808 : BitVec 32 := 1#32
  let v882 : BitVec 32 := Scalar.muli c28_i32_807 c1_i32_808
  let v883 : BitVec 32 := Scalar.addi c0_i32_809 v882
  v883.toNat
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_533 : BitVec 32 := 29#32
  let v671 : BitVec 1 := Scalar.cmpi .ne v2 c29_i32_533
  let v672 : BitVec 32 := Scalar.extui v671
  let c0_i32_535 : BitVec 32 := 0#32
  let v673 : BitVec 1 := Scalar.cmpi .ne v672 c0_i32_535
  v673

def k0_off157 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev94 : Nat :=
  let c0_i32_809 : BitVec 32 := 0#32
  let c29_i32_807 : BitVec 32 := 29#32
  let c1_i32_808 : BitVec 32 := 1#32
  let v882 : BitVec 32 := Scalar.muli c29_i32_807 c1_i32_808
  let v883 : BitVec 32 := Scalar.addi c0_i32_809 v882
  v883.toNat
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_536 : BitVec 32 := 30#32
  let v674 : BitVec 1 := Scalar.cmpi .ne v2 c30_i32_536
  let v675 : BitVec 32 := Scalar.extui v674
  let c0_i32_538 : BitVec 32 := 0#32
  let v676 : BitVec 1 := Scalar.cmpi .ne v675 c0_i32_538
  v676

def k0_off159 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev95 : Nat :=
  let c0_i32_809 : BitVec 32 := 0#32
  let c30_i32_807 : BitVec 32 := 30#32
  let c1_i32_808 : BitVec 32 := 1#32
  let v882 : BitVec 32 := Scalar.muli c30_i32_807 c1_i32_808
  let v883 : BitVec 32 := Scalar.addi c0_i32_809 v882
  v883.toNat
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_539 : BitVec 32 := 31#32
  let v677 : BitVec 1 := Scalar.cmpi .ne v2 c31_i32_539
  let v678 : BitVec 32 := Scalar.extui v677
  let c0_i32_541 : BitVec 32 := 0#32
  let v679 : BitVec 1 := Scalar.cmpi .ne v678 c0_i32_541
  v679

def k0_off161 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_810 : BitVec 32 := 0#32
  let c0_i32_811 : BitVec 32 := 0#32
  ![v2.toNat, 0, 0]
def k0_dev96 : Nat :=
  let c0_i32_809 : BitVec 32 := 0#32
  let c31_i32_807 : BitVec 32 := 31#32
  let c1_i32_808 : BitVec 32 := 1#32
  let v882 : BitVec 32 := Scalar.muli c31_i32_807 c1_i32_808
  let v883 : BitVec 32 := Scalar.addi c0_i32_809 v882
  v883.toNat
def k0_cond193 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_706 : BitVec 32 := 0#32
  let v782 : BitVec 1 := Scalar.cmpi .ne v2 c0_i32_706
  let v783 : BitVec 32 := Scalar.extui v782
  let c0_i32_708 : BitVec 32 := 0#32
  let v784 : BitVec 1 := Scalar.cmpi .ne v783 c0_i32_708
  v784

def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond194 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_709 : BitVec 32 := 1#32
  let v785 : BitVec 1 := Scalar.cmpi .ne v2 c1_i32_709
  let v786 : BitVec 32 := Scalar.extui v785
  let c0_i32_711 : BitVec 32 := 0#32
  let v787 : BitVec 1 := Scalar.cmpi .ne v786 c0_i32_711
  v787

def k0_off164 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond195 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_712 : BitVec 32 := 2#32
  let v788 : BitVec 1 := Scalar.cmpi .ne v2 c2_i32_712
  let v789 : BitVec 32 := Scalar.extui v788
  let c0_i32_714 : BitVec 32 := 0#32
  let v790 : BitVec 1 := Scalar.cmpi .ne v789 c0_i32_714
  v790

def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond196 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_715 : BitVec 32 := 3#32
  let v791 : BitVec 1 := Scalar.cmpi .ne v2 c3_i32_715
  let v792 : BitVec 32 := Scalar.extui v791
  let c0_i32_717 : BitVec 32 := 0#32
  let v793 : BitVec 1 := Scalar.cmpi .ne v792 c0_i32_717
  v793

def k0_off166 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond197 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_718 : BitVec 32 := 4#32
  let v794 : BitVec 1 := Scalar.cmpi .ne v2 c4_i32_718
  let v795 : BitVec 32 := Scalar.extui v794
  let c0_i32_720 : BitVec 32 := 0#32
  let v796 : BitVec 1 := Scalar.cmpi .ne v795 c0_i32_720
  v796

def k0_off167 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond198 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_721 : BitVec 32 := 5#32
  let v797 : BitVec 1 := Scalar.cmpi .ne v2 c5_i32_721
  let v798 : BitVec 32 := Scalar.extui v797
  let c0_i32_723 : BitVec 32 := 0#32
  let v799 : BitVec 1 := Scalar.cmpi .ne v798 c0_i32_723
  v799

def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond199 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_724 : BitVec 32 := 6#32
  let v800 : BitVec 1 := Scalar.cmpi .ne v2 c6_i32_724
  let v801 : BitVec 32 := Scalar.extui v800
  let c0_i32_726 : BitVec 32 := 0#32
  let v802 : BitVec 1 := Scalar.cmpi .ne v801 c0_i32_726
  v802

def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond200 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_727 : BitVec 32 := 7#32
  let v803 : BitVec 1 := Scalar.cmpi .ne v2 c7_i32_727
  let v804 : BitVec 32 := Scalar.extui v803
  let c0_i32_729 : BitVec 32 := 0#32
  let v805 : BitVec 1 := Scalar.cmpi .ne v804 c0_i32_729
  v805

def k0_off170 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond201 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_730 : BitVec 32 := 8#32
  let v806 : BitVec 1 := Scalar.cmpi .ne v2 c8_i32_730
  let v807 : BitVec 32 := Scalar.extui v806
  let c0_i32_732 : BitVec 32 := 0#32
  let v808 : BitVec 1 := Scalar.cmpi .ne v807 c0_i32_732
  v808

def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond202 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_733 : BitVec 32 := 9#32
  let v809 : BitVec 1 := Scalar.cmpi .ne v2 c9_i32_733
  let v810 : BitVec 32 := Scalar.extui v809
  let c0_i32_735 : BitVec 32 := 0#32
  let v811 : BitVec 1 := Scalar.cmpi .ne v810 c0_i32_735
  v811

def k0_off172 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond203 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_736 : BitVec 32 := 10#32
  let v812 : BitVec 1 := Scalar.cmpi .ne v2 c10_i32_736
  let v813 : BitVec 32 := Scalar.extui v812
  let c0_i32_738 : BitVec 32 := 0#32
  let v814 : BitVec 1 := Scalar.cmpi .ne v813 c0_i32_738
  v814

def k0_off173 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond204 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_739 : BitVec 32 := 11#32
  let v815 : BitVec 1 := Scalar.cmpi .ne v2 c11_i32_739
  let v816 : BitVec 32 := Scalar.extui v815
  let c0_i32_741 : BitVec 32 := 0#32
  let v817 : BitVec 1 := Scalar.cmpi .ne v816 c0_i32_741
  v817

def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond205 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_742 : BitVec 32 := 12#32
  let v818 : BitVec 1 := Scalar.cmpi .ne v2 c12_i32_742
  let v819 : BitVec 32 := Scalar.extui v818
  let c0_i32_744 : BitVec 32 := 0#32
  let v820 : BitVec 1 := Scalar.cmpi .ne v819 c0_i32_744
  v820

def k0_off175 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond206 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_745 : BitVec 32 := 13#32
  let v821 : BitVec 1 := Scalar.cmpi .ne v2 c13_i32_745
  let v822 : BitVec 32 := Scalar.extui v821
  let c0_i32_747 : BitVec 32 := 0#32
  let v823 : BitVec 1 := Scalar.cmpi .ne v822 c0_i32_747
  v823

def k0_off176 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond207 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_748 : BitVec 32 := 14#32
  let v824 : BitVec 1 := Scalar.cmpi .ne v2 c14_i32_748
  let v825 : BitVec 32 := Scalar.extui v824
  let c0_i32_750 : BitVec 32 := 0#32
  let v826 : BitVec 1 := Scalar.cmpi .ne v825 c0_i32_750
  v826

def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond208 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_751 : BitVec 32 := 15#32
  let v827 : BitVec 1 := Scalar.cmpi .ne v2 c15_i32_751
  let v828 : BitVec 32 := Scalar.extui v827
  let c0_i32_753 : BitVec 32 := 0#32
  let v829 : BitVec 1 := Scalar.cmpi .ne v828 c0_i32_753
  v829

def k0_off178 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond209 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_754 : BitVec 32 := 16#32
  let v830 : BitVec 1 := Scalar.cmpi .ne v2 c16_i32_754
  let v831 : BitVec 32 := Scalar.extui v830
  let c0_i32_756 : BitVec 32 := 0#32
  let v832 : BitVec 1 := Scalar.cmpi .ne v831 c0_i32_756
  v832

def k0_off179 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond210 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_757 : BitVec 32 := 17#32
  let v833 : BitVec 1 := Scalar.cmpi .ne v2 c17_i32_757
  let v834 : BitVec 32 := Scalar.extui v833
  let c0_i32_759 : BitVec 32 := 0#32
  let v835 : BitVec 1 := Scalar.cmpi .ne v834 c0_i32_759
  v835

def k0_off180 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond211 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_760 : BitVec 32 := 18#32
  let v836 : BitVec 1 := Scalar.cmpi .ne v2 c18_i32_760
  let v837 : BitVec 32 := Scalar.extui v836
  let c0_i32_762 : BitVec 32 := 0#32
  let v838 : BitVec 1 := Scalar.cmpi .ne v837 c0_i32_762
  v838

def k0_off181 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond212 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_763 : BitVec 32 := 19#32
  let v839 : BitVec 1 := Scalar.cmpi .ne v2 c19_i32_763
  let v840 : BitVec 32 := Scalar.extui v839
  let c0_i32_765 : BitVec 32 := 0#32
  let v841 : BitVec 1 := Scalar.cmpi .ne v840 c0_i32_765
  v841

def k0_off182 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond213 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_766 : BitVec 32 := 20#32
  let v842 : BitVec 1 := Scalar.cmpi .ne v2 c20_i32_766
  let v843 : BitVec 32 := Scalar.extui v842
  let c0_i32_768 : BitVec 32 := 0#32
  let v844 : BitVec 1 := Scalar.cmpi .ne v843 c0_i32_768
  v844

def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond214 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_769 : BitVec 32 := 21#32
  let v845 : BitVec 1 := Scalar.cmpi .ne v2 c21_i32_769
  let v846 : BitVec 32 := Scalar.extui v845
  let c0_i32_771 : BitVec 32 := 0#32
  let v847 : BitVec 1 := Scalar.cmpi .ne v846 c0_i32_771
  v847

def k0_off184 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond215 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_772 : BitVec 32 := 22#32
  let v848 : BitVec 1 := Scalar.cmpi .ne v2 c22_i32_772
  let v849 : BitVec 32 := Scalar.extui v848
  let c0_i32_774 : BitVec 32 := 0#32
  let v850 : BitVec 1 := Scalar.cmpi .ne v849 c0_i32_774
  v850

def k0_off185 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond216 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_775 : BitVec 32 := 23#32
  let v851 : BitVec 1 := Scalar.cmpi .ne v2 c23_i32_775
  let v852 : BitVec 32 := Scalar.extui v851
  let c0_i32_777 : BitVec 32 := 0#32
  let v853 : BitVec 1 := Scalar.cmpi .ne v852 c0_i32_777
  v853

def k0_off186 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond217 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_778 : BitVec 32 := 24#32
  let v854 : BitVec 1 := Scalar.cmpi .ne v2 c24_i32_778
  let v855 : BitVec 32 := Scalar.extui v854
  let c0_i32_780 : BitVec 32 := 0#32
  let v856 : BitVec 1 := Scalar.cmpi .ne v855 c0_i32_780
  v856

def k0_off187 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond218 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_781 : BitVec 32 := 25#32
  let v857 : BitVec 1 := Scalar.cmpi .ne v2 c25_i32_781
  let v858 : BitVec 32 := Scalar.extui v857
  let c0_i32_783 : BitVec 32 := 0#32
  let v859 : BitVec 1 := Scalar.cmpi .ne v858 c0_i32_783
  v859

def k0_off188 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond219 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_784 : BitVec 32 := 26#32
  let v860 : BitVec 1 := Scalar.cmpi .ne v2 c26_i32_784
  let v861 : BitVec 32 := Scalar.extui v860
  let c0_i32_786 : BitVec 32 := 0#32
  let v862 : BitVec 1 := Scalar.cmpi .ne v861 c0_i32_786
  v862

def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond220 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_787 : BitVec 32 := 27#32
  let v863 : BitVec 1 := Scalar.cmpi .ne v2 c27_i32_787
  let v864 : BitVec 32 := Scalar.extui v863
  let c0_i32_789 : BitVec 32 := 0#32
  let v865 : BitVec 1 := Scalar.cmpi .ne v864 c0_i32_789
  v865

def k0_off190 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond221 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_790 : BitVec 32 := 28#32
  let v866 : BitVec 1 := Scalar.cmpi .ne v2 c28_i32_790
  let v867 : BitVec 32 := Scalar.extui v866
  let c0_i32_792 : BitVec 32 := 0#32
  let v868 : BitVec 1 := Scalar.cmpi .ne v867 c0_i32_792
  v868

def k0_off191 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond222 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_793 : BitVec 32 := 29#32
  let v869 : BitVec 1 := Scalar.cmpi .ne v2 c29_i32_793
  let v870 : BitVec 32 := Scalar.extui v869
  let c0_i32_795 : BitVec 32 := 0#32
  let v871 : BitVec 1 := Scalar.cmpi .ne v870 c0_i32_795
  v871

def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond223 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_796 : BitVec 32 := 30#32
  let v872 : BitVec 1 := Scalar.cmpi .ne v2 c30_i32_796
  let v873 : BitVec 32 := Scalar.extui v872
  let c0_i32_798 : BitVec 32 := 0#32
  let v874 : BitVec 1 := Scalar.cmpi .ne v873 c0_i32_798
  v874

def k0_off193 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
def k0_cond224 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_799 : BitVec 32 := 31#32
  let v875 : BitVec 1 := Scalar.cmpi .ne v2 c31_i32_799
  let v876 : BitVec 32 := Scalar.extui v875
  let c0_i32_801 : BitVec 32 := 0#32
  let v877 : BitVec 1 := Scalar.cmpi .ne v876 c0_i32_801
  v877

def k0_off194 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_809 : BitVec 32 := 0#32
  let c0_i32_810 : BitVec 32 := 0#32
  ![v2.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x128 : Shape := ⟨2, ![256, 128]⟩
abbrev S512x2 : Shape := ⟨2, ![512, 2]⟩
abbrev S128x256x512 : Shape := ⟨3, ![128, 256, 512]⟩
abbrev S512x128 : Shape := ⟨2, ![512, 128]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 90
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x2, .i32⟩
  | .hbm, ⟨3, _⟩ => ⟨S128x256x512, .bf16⟩
  | .hbm, ⟨4, _⟩ => ⟨S512x256, .f32⟩
  | .hbm, ⟨5, _⟩ => ⟨S256x128, .f32⟩
  | .hbm, ⟨6, _⟩ => ⟨S512x128, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x128, .f32⟩
  | .hbm, ⟨17, _⟩ => ⟨S512x128, .f32⟩
  | .hbm, ⟨18, _⟩ => ⟨S512x1, .i32⟩
  | .hbm, ⟨19, _⟩ => ⟨S512, .i32⟩
  | .hbm, ⟨20, _⟩ => ⟨S512x1, .i32⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S512x1, .i32⟩
  | .hbm, ⟨39, _⟩ => ⟨S512x2, .i32⟩
  | .hbm, ⟨40, _⟩ => ⟨S512, .f32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S512, .i32⟩
  | .hbm, ⟨55, _⟩ => ⟨S512x1, .i32⟩
  | .hbm, ⟨56, _⟩ => ⟨S512x1, .i32⟩
  | .hbm, ⟨57, _⟩ => ⟨S512x2, .i32⟩
  | .hbm, ⟨58, _⟩ => ⟨S512, .f32⟩
  | .hbm, ⟨59, _⟩ => ⟨S512, .f32⟩
  | .hbm, ⟨60, _⟩ => ⟨S128x256x512, .f32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S512x1, .i32⟩
  | .hbm, ⟨69, _⟩ => ⟨S512x256x512, .f32⟩
  | .hbm, ⟨70, _⟩ => ⟨S512x512, .f32⟩
  | .hbm, ⟨71, _⟩ => ⟨S_, .i32⟩
  | .hbm, ⟨72, _⟩ => ⟨S512, .i32⟩
  | .hbm, ⟨73, _⟩ => ⟨S512, .i1⟩
  | .hbm, ⟨74, _⟩ => ⟨S_, .i32⟩
  | .hbm, ⟨75, _⟩ => ⟨S512, .i32⟩
  | .hbm, ⟨76, _⟩ => ⟨S512, .i32⟩
  | .hbm, ⟨77, _⟩ => ⟨S512, .i32⟩
  | .hbm, ⟨78, _⟩ => ⟨S512x1, .i32⟩
  | .hbm, ⟨79, _⟩ => ⟨S512x256x512, .f32⟩
  | .hbm, ⟨80, _⟩ => ⟨S512x512, .f32⟩
  | .hbm, ⟨81, _⟩ => ⟨S512, .f32⟩
  | .hbm, ⟨82, _⟩ => ⟨S512x1, .f32⟩
  | .hbm, ⟨83, _⟩ => ⟨S512x512, .f32⟩
  | .hbm, ⟨84, _⟩ => ⟨S512x512, .f32⟩
  | .hbm, ⟨85, _⟩ => ⟨S512, .f32⟩
  | .hbm, ⟨86, _⟩ => ⟨S512x1, .f32⟩
  | .hbm, ⟨87, _⟩ => ⟨S512x512, .f32⟩
  | .hbm, ⟨88, _⟩ => ⟨S512x512, .f32⟩
  | .hbm, ⟨89, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.KernelIdealProto.lean ====
/-
# The exchange between the devices: cells, schedule, contents

Thirty-two devices exchange twice. In the first exchange device `c` sends rows `16j … 16j+15` of its partial result
(`stage1`) to device `j`'s slot `c`; each device then adds up its thirty-two slots. In the second it sends that sum
(`stage2`) to slot `c` of every other device. A device sends nothing to itself: its own slot it writes locally.

Per semaphore — who waits on it, who adds to it, and what an addition hands over:

* the barrier of `c`: `c` waits for 31; each other device `d` adds one unit, handing over `d`'s slots number `c` of the
  two landing buffers, at any contents;
* `send1 (c, j)`: `c` waits; `c`'s first copy to `j` adds the transfer's credit, handing back the rows of `stage1` read;
* `recv1 (c, j)`: `c` waits; `j`'s first copy to `c` adds the credit, handing over slot `j` of `c`'s first landing
  buffer holding `j`'s rows `16c …`;
* `send2 (c, j)`: `c` waits; `c`'s second copy to `j` adds the credit, handing back the share of `stage2` it read;
* `recv2 (c, j)`: `c` waits; `j`'s second copy to `c` adds the credit, handing over slot `j` of `c`'s second landing
  buffer holding `j`'s sum.

Each cell lives one round. Nobody waits on a cell `(c, c)`, and nobody adds to it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra: the pipeline library's copy and the exchange's, whose duties are named by devices -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs and cells -/

abbrev xM : Memref sig .tc .vmem S512x256 .bf16 := Memref.whole cc0_stg0_0
abbrev rwM : Memref sig .tc .vmem S256x128 .bf16 := Memref.whole cc0_stg1_0
abbrev riM : Memref sig .tc .vmem S512x2 .i32 := Memref.whole cc0_stg2_0
abbrev ewM : Memref sig .tc .vmem S4x256x512 .bf16 := Memref.whole cc0_stg3_0
abbrev oM : Memref sig .tc .vmem S512x512 .f32 := Memref.whole cc0_stg4_0
/-- The four experts' weights side by side, -/
abbrev wM : Memref sig .tc .vmem S256x2048 .bf16 := Memref.whole cc0_scratch0
/-- the partial result, -/
abbrev pM : Memref sig .tc .vmem S512x512 .bf16 := Memref.whole cc0_scratch1
/-- the first landing buffer, -/
abbrev aM : Memref sig .tc .vmem S32x16x512 .bf16 := Memref.whole cc0_scratch2
/-- the sum, -/
abbrev sM : Memref sig .tc .vmem S16x512 .bf16 := Memref.whole cc0_scratch3
/-- the second landing buffer. -/
abbrev bM : Memref sig .tc .vmem S32x16x512 .bf16 := Memref.whole cc0_scratch4

/-- The runtime's barrier semaphore of collective id 0. -/
abbrev barS : Sem sig := (SemArray.scalar (sig.barrier 0 rfl) : Sems sig S_).sem

/-- The `k`-th of the four arrays of thirty-two transfer semaphores: send and receive of the first exchange, send and
    receive of the second. -/
def xS (k : Fin 4) (j : Fin 32) : DmaSem sig := ⟨5 + 32 * k.val + j.val, by
  have := k.isLt; have := j.isLt; show _ < 133; omega⟩

theorem xS_inj {k k' : Fin 4} {j j' : Fin 32} (h : xS k j = xS k' j') : k = k' ∧ j = j' := by
  have := congrArg Fin.val h
  simp only [xS] at this
  constructor <;> (apply Fin.ext; omega)

/-- A device's cells: its barrier, then its transfer semaphores. -/
abbrev CK : Type := Unit ⊕ (Fin 4 × Fin 32)
abbrev osem : Fin 4 × Fin 32 → SemLoc sig := fun p => .dma (xS p.1 p.2)
def csem : CK → SemLoc sig
  | .inl _ => .reg barS
  | .inr p => osem p
def kcell (ck : Dev nD × CK) : GSem nD τ sig := ((ck.1 : Thread nD τ), csem ck.2)

abbrev barCell (c : Dev nD) : GSem nD τ sig := ((c : Thread nD τ), .reg barS)
abbrev xCell (k : Fin 4) (c : Dev nD) (j : Fin 32) : GSem nD τ sig := ((c : Thread nD τ), .dma (xS k j))

theorem kcell_bar (c : Dev nD) : kcell (c, .inl ()) = barCell c := rfl
theorem kcell_x (c : Dev nD) (k : Fin 4) (j : Fin 32) : kcell (c, .inr (k, j)) = xCell k c j := rfl

theorem csem_injective : Function.Injective csem := by
  rintro (⟨⟩ | ⟨k, j⟩) (⟨⟩ | ⟨k', j'⟩) h
  · rfl
  · cases h
  · cases h
  · have h' : xS k j = xS k' j' := by simpa [csem, osem] using h
    obtain ⟨rfl, rfl⟩ := xS_inj h'; rfl

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-- The credit of one transfer: of sixteen rows of 512. -/
abbrev N : ℕ := (sM : Memref sig .tc .vmem S16x512 .bf16).view.dmaCredit
theorem N_pos : 0 < N := View.dmaCredit_pos _ (by decide)

/-! ## Contents

Everything a device computes is a function of the four blocks it is given. -/

def xstg (c : Dev nD) : S512x256.Idx → Elt F .bf16 :=
  (win0_0.blk (0 : Fin 1)).view.read (Elt F) (m ((c : Thread nD τ).loc main_arg0))
def rwstg (c : Dev nD) : S256x128.Idx → Elt F .bf16 :=
  (win0_1.blk (0 : Fin 1)).view.read (Elt F) (m ((c : Thread nD τ).loc main_arg1))
def ristg (c : Dev nD) : S512x2.Idx → Elt F .i32 :=
  (win0_2.blk (0 : Fin 1)).view.read (Elt F) (m ((c : Thread nD τ).loc main_arg2))
def ewstg (c : Dev nD) : S4x256x512.Idx → Elt F .bf16 :=
  (win0_3.blk (0 : Fin 1)).view.read (Elt F) (m ((c : Thread nD τ).loc main_arg3))

/-- The device's number as the kernel computes it. -/
def devWord (c : Dev nD) : BitVec 32 := Scalar.remsi (Scalar.divsi (Dev.word c) 1#32) 32#32

/-- Column `k` of the table of chosen experts, as the kernel loads it. -/
def ri0 (c : Dev nD) : S512x1.Idx → Elt F .i32 :=
  (riM : Memref sig .tc .vmem S512x2 .i32).view.readAt (Elt F) (Rect.unit (s := S512x2) ![0, 0] S512x1.size inb_S512x2_S512x1_0_0).toLoadRect (ristg m c)
def ri1 (c : Dev nD) : S512x1.Idx → Elt F .i32 :=
  (riM : Memref sig .tc .vmem S512x2 .i32).view.readAt (Elt F) (Rect.unit (s := S512x2) ![0, 1] S512x1.size inb_S512x2_S512x1_0_1).toLoadRect (ristg m c)

/-- Expert `k`'s weights, as the kernel loads and casts them. -/
def wk0 (c : Dev nD) : S256x512.Idx → Elt F .bf16 :=
  k0_pay2 ((ewM : Memref sig .tc .vmem S4x256x512 .bf16).view.readAt (Elt F) (Rect.unit (s := S4x256x512) ![0, 0, 0] S1x256x512.size inb_S4x256x512_S1x256x512_0_0_0).toLoadRect (ewstg m c))
def wk1 (c : Dev nD) : S256x512.Idx → Elt F .bf16 :=
  k0_pay3 ((ewM : Memref sig .tc .vmem S4x256x512 .bf16).view.readAt (Elt F) (Rect.unit (s := S4x256x512) ![1, 0, 0] S1x256x512.size inb_S4x256x512_S1x256x512_1_0_0).toLoadRect (ewstg m c))
def wk2 (c : Dev nD) : S256x512.Idx → Elt F .bf16 :=
  k0_pay4 ((ewM : Memref sig .tc .vmem S4x256x512 .bf16).view.readAt (Elt F) (Rect.unit (s := S4x256x512) ![2, 0, 0] S1x256x512.size inb_S4x256x512_S1x256x512_2_0_0).toLoadRect (ewstg m c))
def wk3 (c : Dev nD) : S256x512.Idx → Elt F .bf16 :=
  k0_pay6 (k0_pay5 ((ewM : Memref sig .tc .vmem S4x256x512 .bf16).view.readAt (Elt F) (Rect.unit (s := S4x256x512) ![3, 0, 0] S1x256x512.size inb_S4x256x512_S1x256x512_3_0_0).toLoadRect (ewstg m c)))

/-- The buffer of the four experts' weights after its four stores, over what it held. -/
def wAll (c : Dev nD) (f : S256x2048.Idx → Elt F .bf16) : S256x2048.Idx → Elt F .bf16 :=
  ((wM : Memref sig .tc .vmem S256x2048 .bf16).access (Rect.unit (s := S256x2048) ![0, 1536] S256x512.size inb_S256x2048_S256x512_0_1536)).write (Elt F)
    (((wM : Memref sig .tc .vmem S256x2048 .bf16).access (Rect.unit (s := S256x2048) ![0, 1024] S256x512.size inb_S256x2048_S256x512_0_1024)).write (Elt F)
      (((wM : Memref sig .tc .vmem S256x2048 .bf16).access (Rect.unit (s := S256x2048) ![0, 512] S256x512.size inb_S256x2048_S256x512_0_512)).write (Elt F)
        (((wM : Memref sig .tc .vmem S256x2048 .bf16).access (Rect.unit (s := S256x2048) ![0, 0] S256x512.size inb_S256x2048_S256x512_0_0)).write (Elt F)
          f (wk0 m c) Finset.univ) (wk1 m c) Finset.univ) (wk2 m c) Finset.univ) (wk3 m c) Finset.univ

/-- The same, place by place: columns `512k …` hold expert `k`'s weights. -/
def wCat (c : Dev nD) : S256x2048.Idx → Elt F .bf16 := fun i =>
  let q : S256x512.Idx := ix2 (i 0) ⟨(i 1).val % 512, Nat.mod_lt _ (by decide)⟩
  if (i 1).val < 512 then wk0 m c q else if (i 1).val < 1024 then wk1 m c q else if (i 1).val < 1536 then wk2 m c q else wk3 m c q

/-- The weights the device's four experts get from each token. -/
def wloc (c : Dev nD) : S512x4.Idx → Elt F .f32 :=
  k0_pay15 (F := F) (k0_pay9 (F := F) (ri1 m c)) (k0_pay11 (xstg m c) (rwstg m c) (ri0 m c) (ri1 m c)) (k0_pay12 (devWord c))
    (k0_pay13 (devWord c) (ri0 m c)) (k0_pay14 (xstg m c) (rwstg m c) (ri0 m c) (ri1 m c))

/-- The four blocks of rows of the partial result. -/
def part0 (c : Dev nD) : S128x512.Idx → Elt F .bf16 :=
  k0_pay16 (k0_pay7 (xstg m c)) (k0_pay9 (F := F) (ri1 m c)) (k0_pay11 (xstg m c) (rwstg m c) (ri0 m c) (ri1 m c)) (k0_pay12 (devWord c))
    (k0_pay13 (devWord c) (ri0 m c)) (k0_pay14 (xstg m c) (rwstg m c) (ri0 m c) (ri1 m c)) (wCat m c)
def part1 (c : Dev nD) : S128x512.Idx → Elt F .bf16 :=
  k0_pay20 (wloc m c) (k0_pay17 (k0_pay7 (xstg m c)) (wCat m c)) (k0_pay18 (k0_pay7 (xstg m c)) (wloc m c) (wCat m c))
    (k0_pay19 (k0_pay7 (xstg m c)) (wloc m c) (wCat m c))
def part2 (c : Dev nD) : S128x512.Idx → Elt F .bf16 := k0_pay21 (k0_pay7 (xstg m c)) (wloc m c) (wCat m c)
def part3 (c : Dev nD) : S128x512.Idx → Elt F .bf16 :=
  k0_pay26 (wloc m c) (k0_pay22 (k0_pay7 (xstg m c)) (wCat m c)) (k0_pay23 (k0_pay7 (xstg m c)) (wloc m c) (wCat m c))
    (k0_pay24 (wloc m c)) (k0_pay25 (k0_pay7 (xstg m c)) (wCat m c))

/-- The partial result of device `c`. -/
def P1 (c : Dev nD) : S512x512.Idx → Elt F .bf16 := fun i =>
  let q : S128x512.Idx := ix2 ⟨(i 0).val % 128, Nat.mod_lt _ (by decide)⟩ (i 1)
  if (i 0).val < 128 then part0 m c q else if (i 0).val < 256 then part1 m c q else if (i 0).val < 384 then part2 m c q else part3 m c q

/-- What the first exchange brings device `c`: in slot `d`, rows `16c …` of device `d`'s partial result. -/
def A1 (c : Dev nD) : S32x16x512.Idx → Elt F .bf16 := fun i =>
  P1 m (i 0) (ix2 ⟨16 * c.val + (i 1).val, by
    have h1 : (i 1).val < 16 := (i 1).isLt
    have h2 : c.val < 32 := c.isLt
    omega⟩ (i 2))

/-- The sum over the slots, rounded. -/
def P2 (c : Dev nD) : S16x512.Idx → Elt F .bf16 := k0_pay29 (k0_pay28 (A1 m c))

/-- What the second exchange brings every device: in slot `d`, device `d`'s sum. -/
def A2 : S32x16x512.Idx → Elt F .bf16 := fun i => P2 m (i 0) (ix2 (i 1) (i 2))

/-- The result, the same on every device. -/
def outv : S512x512.Idx → Elt F .f32 := k0_pay1 (A2 m)

/-! ## Pieces of buffers -/

/-- Rows `16j …` of the partial result. -/
def chunk (j : Fin 32) : Finset S512x512.Idx := Finset.univ.filter fun i => (i 0).val / 16 = j.val
/-- Slot `j` of a landing buffer. -/
def slot (j : Fin 32) : Finset S32x16x512.Idx := Finset.univ.filter fun i => (i 0).val = j.val

theorem mem_chunk {j : Fin 32} {i : S512x512.Idx} : i ∈ chunk j ↔ (i 0).val / 16 = j.val := by simp [chunk]
theorem mem_slot {j : Fin 32} {i : S32x16x512.Idx} : i ∈ slot j ↔ (i 0).val = j.val := by simp [slot]

def pPts (c : Dev nD) (I : Finset S512x512.Idx) (f : S512x512.Idx → Elt F .bf16) : sProp 𝕄 := ((c : Thread nD τ).loc cc0_scratch1) ↦[I]{fullShare} f
def aPts (c : Dev nD) (I : Finset S32x16x512.Idx) (f : S32x16x512.Idx → Elt F .bf16) : sProp 𝕄 := ((c : Thread nD τ).loc cc0_scratch2) ↦[I]{fullShare} f
def sPts (c : Dev nD) (q : PosShare TreeShare) (f : S16x512.Idx → Elt F .bf16) : sProp 𝕄 := ((c : Thread nD τ).loc cc0_scratch3) ↦{q} f
def bPts (c : Dev nD) (I : Finset S32x16x512.Idx) (f : S32x16x512.Idx → Elt F .bf16) : sProp 𝕄 := ((c : Thread nD τ).loc cc0_scratch4) ↦[I]{fullShare} f

omit [FloatOps F] in
instance pPts_storable (c : Dev nD) (I f) : BI.Storable (upEmb : UEmb _ 𝕄) (pPts (F := F) c I f) := by unfold pPts; infer_instance
omit [FloatOps F] in
instance aPts_storable (c : Dev nD) (I f) : BI.Storable (upEmb : UEmb _ 𝕄) (aPts (F := F) c I f) := by unfold aPts; infer_instance
omit [FloatOps F] in
instance sPts_storable (c : Dev nD) (q f) : BI.Storable (upEmb : UEmb _ 𝕄) (sPts (F := F) c q f) := by unfold sPts; infer_instance
omit [FloatOps F] in
instance bPts_storable (c : Dev nD) (I f) : BI.Storable (upEmb : UEmb _ 𝕄) (bPts (F := F) c I f) := by unfold bPts; infer_instance

/-- What is left of a full share after `n` left halves have been cut off, -/
def restShare : ℕ → PosShare TreeShare
  | 0 => fullShare
  | n + 1 => (restShare n).right
/-- and the `n`-th of them: the share of the sum that the second copy to device `n` reads. -/
def cutShare (n : ℕ) : PosShare TreeShare := (restShare n).left

/-! ## The schedule -/

def barPay (c : Dev nD) (d : Fin 32) : sProp 𝕄 := iprop((∃ f, aPts d (slot c) f) ∗ (∃ f, bPts d (slot c) f))
def xPay (k : Fin 4) (c : Dev nD) (j : Fin 32) : sProp 𝕄 :=
  match k with
  | 0 => pPts c (chunk j) (P1 m c)
  | 1 => aPts c (slot j) (A1 m c)
  | 2 => sPts c (cutShare j.val) (P2 m c)
  | 3 => bPts c (slot j) (A2 m)

/-- The array and place of a transfer semaphore. -/
def kOf (s : DmaSem sig) : Option (Fin 4 × Fin 32) :=
  if h : 5 ≤ s.val ∧ s.val < 133 then some (⟨(s.val - 5) / 32, by omega⟩, ⟨(s.val - 5) % 32, by omega⟩) else none

theorem kOf_xS (k : Fin 4) (j : Fin 32) : kOf (xS k j) = some (k, j) := by
  have := k.isLt; have := j.isLt
  unfold kOf xS
  rw [dif_pos ⟨by show 5 ≤ 5 + 32 * k.val + j.val; omega, by show 5 + 32 * k.val + j.val < 133; omega⟩]
  simp only [Option.some.injEq, Prod.mk.injEq]
  constructor <;> (apply Fin.ext; simp only; omega)

/-- One round. A barrier has one duty of one unit per other device; a transfer cell `(c, j)`, `j ≠ c`, one duty of the
    transfer's credit. -/
def duties₀ (g : GSem nD τ sig) : Finset (Fin 32) :=
  if g.1.2 = .tc then
    match g.2 with
    | .reg s => if s = barS then Finset.univ.filter (fun d => d ≠ g.1.1) else ∅
    | .dma s => match kOf s with
      | some p => if p.2 = g.1.1 then ∅ else {0}
      | none => ∅
  else ∅

def payload₀ (g : GSem nD τ sig) (d : Fin 32) : sProp 𝕄 :=
  match g.2 with
  | .reg s => barPay g.1.1 d
  | .dma s => match kOf s with
    | some p => xPay m p.1 g.1.1 p.2
    | none => iprop(emp)

def amount₀ (g : GSem nD τ sig) : ℕ :=
  match g.2 with
  | .reg _ => 1
  | .dma _ => N

def xRd : Rounds.Schedule (GSem nD τ sig) (Fin 32) 𝕄 where
  duties g r := if r = 0 then duties₀ g else ∅
  unitless _ := False
  amount g _ _ := amount₀ g
  payload g _ d := payload₀ m g d
  amount_pos g _ _ _ := by
    unfold amount₀
    split
    · exact Nat.one_pos
    · exact N_pos

instance xRd_payload_storable (g : GSem nD τ sig) (r : ℕ) (d : Fin 32) :
    BI.Storable (upEmb : UEmb _ 𝕄) ((xRd (F := F) m).payload g r d) := by
  show BI.Storable upEmb (payload₀ m g d)
  unfold payload₀ barPay
  split
  · infer_instance
  · split
    · rename_i p _
      obtain ⟨k, j⟩ := p
      fin_cases k <;> (unfold xPay; infer_instance)
    · infer_instance

section Sched
variable (c : Dev nD) (j : Fin 32) (k : Fin 4)

omit [FloatOps F] in
theorem duties_later' [FloatOps F] (g : GSem nD τ sig) : ∀ r, 1 ≤ r → (xRd (F := F) m).duties g r = ∅ :=
  fun r hr => by dsimp only [xRd]; rw [if_neg (by omega)]

theorem duties_bar : (xRd (F := F) m).duties (barCell c) 0 = Finset.univ.filter (fun d => d ≠ c) := by
  dsimp only [xRd, duties₀]; rw [if_pos rfl, if_pos rfl, if_pos rfl]
theorem duties_x (h : j ≠ c) : (xRd (F := F) m).duties (xCell k c j) 0 = {0} := by
  dsimp only [xRd, duties₀]; rw [if_pos rfl, if_pos rfl, kOf_xS]; exact if_neg h
theorem duties_x_self : ∀ r, 0 ≤ r → (xRd (F := F) m).duties (xCell k c c) r = ∅ := fun r _ => by
  dsimp only [xRd, duties₀]
  split
  · rw [if_pos rfl, kOf_xS]; exact if_pos rfl
  · rfl

theorem amount_bar (d : Fin 32) : (xRd (F := F) m).amount (barCell c) 0 d = 1 := rfl
theorem amount_x (d : Fin 32) : (xRd (F := F) m).amount (xCell k c j) 0 d = N := rfl

theorem expect_bar : (xRd (F := F) m).expect (barCell c) 0 = 31 := by
  unfold Schedule.expect Schedule.amountOf
  rw [duties_bar, Finset.sum_congr rfl fun d _ => amount_bar m c d, Finset.sum_const, smul_eq_mul, mul_one]
  revert c; decide
theorem expect_x (h : j ≠ c) : (xRd (F := F) m).expect (xCell k c j) 0 = N := by
  unfold Schedule.expect Schedule.amountOf; rw [duties_x m c j k h, Finset.sum_singleton, amount_x]

theorem payload_bar (d : Fin 32) : (xRd (F := F) m).payload (barCell c) 0 d = barPay c d := rfl
theorem payload_x (d : Fin 32) : (xRd (F := F) m).payload (xCell k c j) 0 d = xPay m k c j := by
  dsimp only [xRd, payload₀]; rw [kOf_xS]

theorem rest_bar : bigSep ((xRd (F := F) m).duties (barCell c) 0 \ ∅) (fun d => (xRd (F := F) m).payload (barCell c) 0 d)
    = bigSep (Finset.univ.filter (fun d => d ≠ c)) (fun d => barPay (F := F) c d) := by
  rw [Finset.sdiff_empty, duties_bar]; rfl
theorem rest_x (h : j ≠ c) : bigSep ((xRd (F := F) m).duties (xCell k c j) 0 \ ∅) (fun d => (xRd (F := F) m).payload (xCell k c j) 0 d) = xPay m k c j := by
  rw [Finset.sdiff_empty, duties_x m c j k h, bigSep_singleton, payload_x]

end Sched

/-! ## What each device owes at launch; the levels -/

/-- The devices from number `n` on, without `c`. -/
def ahead (c : Dev nD) (n : ℕ) : Finset (Fin 32) := Finset.univ.filter fun j => n ≤ j.val ∧ j ≠ c

theorem mem_ahead {c : Dev nD} {n : ℕ} {j : Fin 32} : j ∈ ahead c n ↔ n ≤ j.val ∧ j ≠ c := by simp [ahead]

theorem ahead_succ_self (c : Dev nD) : ahead c (c.val + 1) = ahead c c.val := by
  ext j; rw [mem_ahead, mem_ahead]
  constructor
  · rintro ⟨h, h'⟩; exact ⟨by omega, h'⟩
  · rintro ⟨h, h'⟩; exact ⟨Nat.lt_of_le_of_ne h fun e => h' (Fin.ext e.symm), h'⟩

theorem ahead_eq {c : Dev nD} {j : Fin 32} (h : j ≠ c) : ahead c j.val = insert j (ahead c (j.val + 1)) := by
  ext i; rw [Finset.mem_insert, mem_ahead, mem_ahead]
  constructor
  · rintro ⟨h1, h2⟩
    by_cases e : i = j
    · exact Or.inl e
    · exact Or.inr ⟨Nat.lt_of_le_of_ne h1 fun e' => e (Fin.ext e'.symm), h2⟩
  · rintro (rfl | ⟨h1, h2⟩)
    · exact ⟨le_refl _, h⟩
    · exact ⟨by omega, h2⟩

theorem not_mem_ahead_succ {c : Dev nD} {j : Fin 32} : j ∉ ahead c (j.val + 1) := fun h => by
  have := (mem_ahead.mp h).1; omega

theorem ahead_end (c : Dev nD) : ahead c 32 = ∅ := by
  ext j; rw [mem_ahead]; constructor
  · rintro ⟨h, _⟩; have := j.isLt; omega
  · intro h; cases h

/-- The debts to the barriers, the first and the second receive cells of the devices from `n` on. -/
def oBar (c : Dev nD) (n : ℕ) : CellTallies nD τ sig Unit := ∑ j ∈ ahead c n, tallyAt (barCell j) () 1
def oX (k : Fin 4) (c : Dev nD) (n : ℕ) : CellTallies nD τ sig Unit := ∑ j ∈ ahead c n, tallyAt (xCell k j c) () N

def O₀ (c : Dev nD) : CellTallies nD τ sig Unit := oBar c 0 + (oX 1 c 0 + oX 3 c 0)

theorem oBar_step {c : Dev nD} {j : Fin 32} (h : j ≠ c) : oBar c j.val = oBar c (j.val + 1) + tallyAt (barCell j) () 1 := by
  unfold oBar; rw [ahead_eq h, Finset.sum_insert not_mem_ahead_succ, add_comm]
theorem oBar_self (c : Dev nD) : oBar c (c.val + 1) = oBar c c.val := by unfold oBar; rw [ahead_succ_self]
theorem oBar_end (c : Dev nD) : oBar c 32 = 0 := by unfold oBar; rw [ahead_end, Finset.sum_empty]
theorem oX_step (k : Fin 4) {c : Dev nD} {j : Fin 32} (h : j ≠ c) : oX k c j.val = oX k c (j.val + 1) + tallyAt (xCell k j c) () N := by
  unfold oX; rw [ahead_eq h, Finset.sum_insert not_mem_ahead_succ, add_comm]
theorem oX_self (k : Fin 4) (c : Dev nD) : oX k c (c.val + 1) = oX k c c.val := by unfold oX; rw [ahead_succ_self]
theorem oX_end (k : Fin 4) (c : Dev nD) : oX k c 32 = 0 := by unfold oX; rw [ahead_end, Finset.sum_empty]

theorem oBar_pos {c : Dev nD} {n : ℕ} {g : GSem nD τ sig} {u : Unit} (h : 0 < oBar c n g u) : ∃ j, g = barCell j := by
  unfold oBar at h
  rw [Finset.sum_apply, Finsupp.finset_sum_apply] at h
  by_contra hn
  refine absurd h (by rw [Finset.sum_eq_zero]; · exact Nat.lt_irrefl 0
                      intro j _; rw [tallyAt_apply, if_neg fun e => hn ⟨j, e.1⟩])
theorem oX_pos {k : Fin 4} {c : Dev nD} {n : ℕ} {g : GSem nD τ sig} {u : Unit} (h : 0 < oX k c n g u) : ∃ j, g = xCell k j c := by
  unfold oX at h
  rw [Finset.sum_apply, Finsupp.finset_sum_apply] at h
  by_contra hn
  refine absurd h (by rw [Finset.sum_eq_zero]; · exact Nat.lt_irrefl 0
                      intro j _; rw [tallyAt_apply, if_neg fun e => hn ⟨j, e.1⟩])

def L (g : GSem nD τ sig) : Finset Unit := if g.1.2 = .tc then {()} else ∅
/-- Barriers at 1, first receive cells at 2, second at 3, everything else at 0. -/
def lv (g : GSem nD τ sig) (_ : Unit) : ℕ :=
  match g.2 with
  | .reg _ => 1
  | .dma s => match kOf s with
    | some p => if p.1 = 1 then 2 else if p.1 = 3 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_x (k : Fin 4) (c : Dev nD) (j : Fin 32) (u : Unit) : lv (xCell k c j) u = if k = 1 then 2 else if k = 3 then 3 else 0 := by
  dsimp only [lv]; rw [kOf_xS]

/-- A device may wait on any of its semaphores at a level below all it owes. -/
theorem mayWait_of (c : Dev nD) (sm : SemLoc sig) (O : CellTallies nD τ sig Unit) (n : ℕ) (hs : lv ((c : Thread nD τ), sm) () ≤ n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- At its barrier a device owes receive credits only, -/
theorem mayWait_bar (c : Dev nD) : (levAts L lv : sProp 𝕄) ⊢ MayWait (c : Thread nD τ) (.reg barS) () (oX 1 c 0 + oX 3 c 0) :=
  mayWait_of c _ _ 1 (le_refl _) fun g u hg => by
    rw [Pi.add_apply, Finsupp.add_apply] at hg
    rcases Nat.eq_zero_or_pos (oX 1 c 0 g u) with h0 | h0
    · rw [h0, Nat.zero_add] at hg
      obtain ⟨j, rfl⟩ := oX_pos hg
      exact ⟨rfl, by rw [lv_x]; decide⟩
    · obtain ⟨j, rfl⟩ := oX_pos h0
      exact ⟨rfl, by rw [lv_x]; decide⟩
/-- in the first exchange's waits second receive credits only. -/
theorem mayWait_x (c : Dev nD) (k : Fin 4) (j : Fin 32) (hk : k ≠ 3) (n : ℕ) :
    (levAts L lv : sProp 𝕄) ⊢ MayWait (c : Thread nD τ) (.dma (xS k j)) () (oX 3 c n) :=
  mayWait_of c _ _ 2 (by
      show lv (xCell k c j) () ≤ 2
      rw [lv_x, if_neg hk]
      split <;> omega) fun g u hg => by
    obtain ⟨j, rfl⟩ := oX_pos hg
    exact ⟨rfl, by rw [lv_x]; decide⟩
/-- On a staging semaphore it may wait at launch. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine mayWait_of c _ _ 0 ?_ fun g u hg => ?_
    · dsimp only [lv]
      have : kOf q = none := by unfold kOf; rw [dif_neg (by omega)]
      rw [this]
    · unfold O₀ at hg
      rw [Pi.add_apply, Finsupp.add_apply, Pi.add_apply, Finsupp.add_apply] at hg
      rcases Nat.eq_zero_or_pos (oBar c 0 g u) with h0 | h0
      · rw [h0, Nat.zero_add] at hg
        rcases Nat.eq_zero_or_pos (oX 1 c 0 g u) with h1 | h1
        · rw [h1, Nat.zero_add] at hg
          obtain ⟨j, rfl⟩ := oX_pos hg
          exact ⟨rfl, by rw [lv_x]; decide⟩
        · obtain ⟨j, rfl⟩ := oX_pos h1
          exact ⟨rfl, by rw [lv_x]; decide⟩
      · obtain ⟨j, rfl⟩ := oBar_pos h0
        exact ⟨rfl, by rw [lv_bar]; decide⟩
  · rw [MayWait_zero]; iintro -; iempintro

end Cert.KernelIdeal.Moe

end
-- ==== Proof.KernelIdealViews.lean ====
/-
# The pieces of buffers that the copies, loads and stores go through

Which elements each view covers, and what a read or a write through it is, element by element.
-/
module

public import proofs.«01_k».proof.Proof.KernelIdealProto
public import Idealize.ShloMosaic.Lib.ValueLayout

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The device's number -/

theorem devWord_toNat (c : Dev nD) : (devWord c).toNat = c.val := by revert c; decide
theorem off_one (c : Dev nD) : (![(devWord c).toNat] : Fin 1 → ℕ) = ![c.val] := by rw [devWord_toNat]
theorem off_slot (c : Dev nD) : (![(devWord c).toNat, 0, 0] : Fin 3 → ℕ) = ![c.val, 0, 0] := by rw [devWord_toNat]

/-- The kernel's test "this device is not number `n`". -/
theorem guard_iff (n : ℕ) (hn : n < 32) (c : Dev nD) :
    Scalar.cmpi .ne (Scalar.extui (Scalar.cmpi .ne (devWord c) (BitVec.ofNat 32 n)) : BitVec 32) 0#32 = 1#1 ↔ (⟨n, hn⟩ : Fin 32) ≠ c := by
  have key : ∀ (j : Fin 32) (c : Dev nD),
      Scalar.cmpi .ne (Scalar.extui (Scalar.cmpi .ne (devWord c) (BitVec.ofNat 32 j.val)) : BitVec 32) 0#32 = 1#1 ↔ j ≠ c := by decide +kernel
  exact key ⟨n, hn⟩ c

/-! ## Semaphores -/

theorem sem_unit {p base : ℕ} (hb : base + S32.numel ≤ p) (off : Fin 1 → ℕ) (inb : ∀ a, off a + S1.size a ≤ S32.size a) (hq : S1.Squeezes S_)
    (j : Fin 32) (ho : off = ![j.val]) :
    ((((SemArray.consecutive (n := p) base S32 hb).slice (Rect.unit (s := S32) off S1.size inb)).squeeze S_ hq : SemArray (Fin p) S_).sem).val = base + j.val := by
  subst ho
  show base + (S32.rowMajor _).val = base + j.val
  rw [Shape.rowMajor_val_one]
  have h : ∀ z : Fin 1, j.val + 1 * z.val = j.val := fun z => by omega
  exact congrArg (base + ·) (h _)

/-! ## One slot of a landing area -/

section Slot

variable (M : Memref sig .tc .vmem S32x16x512 .bf16) (off : Fin 3 → ℕ) (inb : ∀ a, off a + S1x16x512.size a ≤ S32x16x512.size a)
  (hsub) (hq : S1x16x512.Squeezes S16x512)

/-- The sixteen rows of one slot, as a matrix. -/
abbrev slotM : Memref sig .tc .vmem S16x512 .bf16 := (M.slice (Rect.unit (s := S32x16x512) off S1x16x512.size inb) hsub).squeeze S16x512 hq

theorem slot_emb (j : Fin 32) (ho : off = ![j.val, 0, 0]) (y : S16x512.Idx) :
    (slotM M off inb hsub hq).view.emb y = M.view.emb (ix3 j (y 0) (y 1)) := by
  subst ho
  show M.view.emb ((Rect.unit (s := S32x16x512) ![j.val, 0, 0] S1x16x512.size inb).emb (Shape.reshapeEquiv _ y)) = _
  have e : ∀ h, Shape.reshapeEquiv (s := S1x16x512) (s' := S16x512) h y = ix3 (⟨0, Nat.one_pos⟩ : Fin 1) (y 0) (y 1) := fun h => by
    conv_lhs => rw [show y = ix2 (y 0) (y 1) from eq_ix2 y]
    exact reshapeEquiv_ix2_1ab h (y 0) (y 1)
  refine congrArg M.view.emb ?_
  rw [e]
  funext a
  apply Fin.ext
  refine (Rect.emb_apply _ _ a).trans ?_
  match a with
  | 0 => show j.val + 1 * 0 = j.val; omega
  | 1 => show 0 + 1 * (y 0).val = (y 0).val; omega
  | 2 => show 0 + 1 * (y 1).val = (y 1).val; omega

end Slot

section SlotAt

variable (off : Fin 3 → ℕ) (inb : ∀ a, off a + S1x16x512.size a ≤ S32x16x512.size a) (hsub) (hq : S1x16x512.Squeezes S16x512)
  (j : Fin 32) (ho : off = ![j.val, 0, 0])

theorem mem_slot_ix {j : Fin 32} {i : S32x16x512.Idx} (h : i ∈ slot j) : i = ix3 j (i 1) (i 2) := by
  rw [show j = i 0 from Fin.ext (mem_slot.mp h).symm]
  exact eq_ix3 i

include ho in
theorem slot_set_a : (slotM aM off inb hsub hq).view.set = slot j := by
  ext i
  rw [View.set, Finset.mem_map]
  constructor
  · rintro ⟨y, -, rfl⟩
    rw [slot_emb aM off inb hsub hq j ho]; exact mem_slot.mpr rfl
  · intro h
    exact ⟨ix2 (i 1) (i 2), Finset.mem_univ _, by rw [slot_emb aM off inb hsub hq j ho, mem_slot_ix h]; rfl⟩
include ho in
theorem slot_set_b : (slotM bM off inb hsub hq).view.set = slot j := by
  ext i
  rw [View.set, Finset.mem_map]
  constructor
  · rintro ⟨y, -, rfl⟩
    rw [slot_emb bM off inb hsub hq j ho]; exact mem_slot.mpr rfl
  · intro h
    exact ⟨ix2 (i 1) (i 2), Finset.mem_univ _, by rw [slot_emb bM off inb hsub hq j ho, mem_slot_ix h]; rfl⟩

include ho in
theorem slot_write_a (f : S32x16x512.Idx → Elt F .bf16) (w : S16x512.Idx → Elt F .bf16) (i : S32x16x512.Idx) (h : i ∈ slot j) :
    (slotM aM off inb hsub hq).view.write (Elt F) f w Finset.univ i = w (ix2 (i 1) (i 2)) := by
  have e : i = (slotM aM off inb hsub hq).view.emb (ix2 (i 1) (i 2)) := by
    rw [slot_emb aM off inb hsub hq j ho]; exact mem_slot_ix h
  conv_lhs => rw [e]
  rw [View.write_emb_of_mem _ _ (Finset.mem_univ _)]; rfl
include ho in
theorem slot_write_b (f : S32x16x512.Idx → Elt F .bf16) (w : S16x512.Idx → Elt F .bf16) (i : S32x16x512.Idx) (h : i ∈ slot j) :
    (slotM bM off inb hsub hq).view.write (Elt F) f w Finset.univ i = w (ix2 (i 1) (i 2)) := by
  have e : i = (slotM bM off inb hsub hq).view.emb (ix2 (i 1) (i 2)) := by
    rw [slot_emb bM off inb hsub hq j ho]; exact mem_slot_ix h
  conv_lhs => rw [e]
  rw [View.write_emb_of_mem _ _ (Finset.mem_univ _)]; rfl

/-! A local store to a slot, of a block with a leading axis of one. -/

theorem slotr_emb (ho : off = ![j.val, 0, 0]) (y : S1x16x512.Idx) :
    (Rect.unit (s := S32x16x512) off S1x16x512.size inb).emb y = ix3 j (y 1) (y 2) := by
  subst ho
  funext a
  apply Fin.ext
  rw [Rect.emb_apply]
  have h0 : (y 0).val = 0 := by have : (y 0).val < 1 := (y 0).isLt; omega
  match a with
  | 0 => show j.val + 1 * (y 0).val = j.val; omega
  | 1 => show 0 + 1 * (y 1).val = (y 1).val; omega
  | 2 => show 0 + 1 * (y 2).val = (y 2).val; omega

include ho in
theorem slot_access_a : (aM.access (Rect.unit (s := S32x16x512) off S1x16x512.size inb)).setOn Finset.univ = slot j := by
  ext i
  rw [View.setOn, Finset.mem_map]
  constructor
  · rintro ⟨y, -, rfl⟩
    exact mem_slot.mpr (by
      show (((Rect.unit (s := S32x16x512) off S1x16x512.size inb).emb y) 0).val = j.val
      rw [slotr_emb off inb j ho])
  · intro h
    refine ⟨ix3 (0 : Fin 1) (i 1) (i 2), Finset.mem_univ _, ?_⟩
    show (Rect.unit (s := S32x16x512) off S1x16x512.size inb).emb _ = i
    rw [slotr_emb off inb j ho]; exact (mem_slot_ix h).symm
include ho in
theorem slot_access_b : (bM.access (Rect.unit (s := S32x16x512) off S1x16x512.size inb)).setOn Finset.univ = slot j :=
  slot_access_a off inb j ho

include ho in
theorem slot_store_a (f : S32x16x512.Idx → Elt F .bf16) (w : S1x16x512.Idx → Elt F .bf16) (i : S32x16x512.Idx) (h : i ∈ slot j) :
    (aM.access (Rect.unit (s := S32x16x512) off S1x16x512.size inb)).write (Elt F) f w Finset.univ i = w (ix3 (0 : Fin 1) (i 1) (i 2)) := by
  have e : i = (aM.access (Rect.unit (s := S32x16x512) off S1x16x512.size inb)).emb (ix3 (0 : Fin 1) (i 1) (i 2)) := by
    show i = (Rect.unit (s := S32x16x512) off S1x16x512.size inb).emb _
    rw [slotr_emb off inb j ho]; exact mem_slot_ix h
  conv_lhs => rw [e]
  rw [View.write_emb_of_mem _ _ (Finset.mem_univ _)]; rfl
include ho in
theorem slot_store_b (f : S32x16x512.Idx → Elt F .bf16) (w : S1x16x512.Idx → Elt F .bf16) (i : S32x16x512.Idx) (h : i ∈ slot j) :
    (bM.access (Rect.unit (s := S32x16x512) off S1x16x512.size inb)).write (Elt F) f w Finset.univ i = w (ix3 (0 : Fin 1) (i 1) (i 2)) := by
  have e : i = (bM.access (Rect.unit (s := S32x16x512) off S1x16x512.size inb)).emb (ix3 (0 : Fin 1) (i 1) (i 2)) := by
    show i = (Rect.unit (s := S32x16x512) off S1x16x512.size inb).emb _
    rw [slotr_emb off inb j ho]; exact mem_slot_ix h
  conv_lhs => rw [e]
  rw [View.write_emb_of_mem _ _ (Finset.mem_univ _)]; rfl

end SlotAt

/-! ## Rows of the partial result -/

section Rows

variable (k : ℕ) (off : Fin 2 → ℕ) (inb : ∀ a, off a + (⟨2, ![k, 512]⟩ : Shape).size a ≤ S512x512.size a) (n : ℕ) (ho : off = ![n, 0])

include ho in
theorem rows_emb (y : (⟨2, ![k, 512]⟩ : Shape).Idx) (h : n + (y 0).val < 512) :
    (Rect.unit (s := S512x512) off (⟨2, ![k, 512]⟩ : Shape).size inb).emb y = ix2 ⟨n + (y 0).val, h⟩ (y 1) := by
  subst ho
  funext a
  apply Fin.ext
  rw [Rect.emb_apply]
  match a with
  | 0 => show n + 1 * (y 0).val = n + (y 0).val; omega
  | 1 => show 0 + 1 * (y 1).val = (y 1).val; omega

include inb ho in
theorem rows_lt (y : (⟨2, ![k, 512]⟩ : Shape).Idx) : n + (y 0).val < 512 := by
  have h1 : (y 0).val < k := (y 0).isLt
  have h2 := inb 0
  subst ho
  have h3 : n + k ≤ 512 := h2
  omega

include ho in
theorem rows_set (i : S512x512.Idx) :
    i ∈ (pM.view.slice (Rect.unit (s := S512x512) off (⟨2, ![k, 512]⟩ : Shape).size inb)).setOn Finset.univ ↔ n ≤ (i 0).val ∧ (i 0).val < n + k := by
  rw [View.setOn, Finset.mem_map]
  constructor
  · rintro ⟨y, -, rfl⟩
    have h1 : (y 0).val < k := (y 0).isLt
    have e : ((pM.view.slice (Rect.unit (s := S512x512) off (⟨2, ![k, 512]⟩ : Shape).size inb)).emb y : S512x512.Idx) = ix2 ⟨n + (y 0).val, rows_lt k off inb n ho y⟩ (y 1) :=
      rows_emb k off inb n ho y _
    rw [e]
    exact ⟨Nat.le_add_right _ _, Nat.add_lt_add_left h1 n⟩
  · rintro ⟨h1, h2⟩
    let y : (⟨2, ![k, 512]⟩ : Shape).Idx := ix2 ⟨(i 0).val - n, by omega⟩ (i 1)
    refine ⟨y, Finset.mem_univ _, ?_⟩
    refine (rows_emb k off inb n ho y (rows_lt k off inb n ho y)).trans ?_
    funext a
    apply Fin.ext
    match a with
    | 0 => show n + ((i 0).val - n) = (i 0).val; omega
    | 1 => rfl

include ho in
theorem rows_write (f : S512x512.Idx → Elt F .bf16) (w : (⟨2, ![k, 512]⟩ : Shape).Idx → Elt F .bf16) (i : S512x512.Idx) :
    (pM.view.slice (Rect.unit (s := S512x512) off (⟨2, ![k, 512]⟩ : Shape).size inb)).write (Elt F) f w Finset.univ i
      = if h : n ≤ (i 0).val ∧ (i 0).val < n + k then w (ix2 ⟨(i 0).val - n, by omega⟩ (i 1)) else f i := by
  split
  · rename_i h
    let y : (⟨2, ![k, 512]⟩ : Shape).Idx := ix2 ⟨(i 0).val - n, by omega⟩ (i 1)
    have e : i = (pM.view.slice (Rect.unit (s := S512x512) off (⟨2, ![k, 512]⟩ : Shape).size inb)).emb y := by
      refine Eq.trans ?_ (rows_emb k off inb n ho y (rows_lt k off inb n ho y)).symm
      funext a
      apply Fin.ext
      match a with
      | 0 => show (i 0).val = n + ((i 0).val - n); omega
      | 1 => rfl
    conv_lhs => rw [e]
    rw [View.write_emb_of_mem _ _ (Finset.mem_univ _)]; rfl
  · rename_i h
    exact View.write_of_not_mem _ _ (M := Finset.univ) (h := fun h' => h ((rows_set k off inb n ho i).mp h'))

end Rows

/-- Chunk `j` as the copies see it. -/
theorem chunk_set (off : Fin 2 → ℕ) (inb : ∀ a, off a + S16x512.size a ≤ S512x512.size a) (hsub) (j : Fin 32) (ho : off = ![16 * j.val, 0]) :
    (pM.slice (Rect.unit (s := S512x512) off S16x512.size inb) hsub).view.set = chunk j := by
  ext i
  rw [mem_chunk]
  refine (rows_set 16 off inb (16 * j.val) ho i).trans ?_
  omega

/-- What reading it gives. -/
theorem chunk_read (off : Fin 2 → ℕ) (inb : ∀ a, off a + S16x512.size a ≤ S512x512.size a) (hsub) (j : Fin 32) (ho : off = ![16 * j.val, 0])
    (f : S512x512.Idx → Elt F .bf16) (y : S16x512.Idx) (h : 16 * j.val + (y 0).val < 512) :
    (pM.slice (Rect.unit (s := S512x512) off S16x512.size inb) hsub).view.read (Elt F) f y = f (ix2 ⟨16 * j.val + (y 0).val, h⟩ (y 1)) := by
  rw [View.read_apply]
  exact congrArg f (rows_emb 16 off inb (16 * j.val) ho y h)

end Cert.KernelIdeal.Moe

end
-- ==== Proof.KernelIdealSteps.lean ====
/-
# One step of each kind

The kernel's loops over the other devices are written out, one guarded operation per device: "if this device is not
number `n`, …". This module proves each kind of operation once, for any `n`, in the form: from the state after `n`
devices have been served the guarded operation leads to the state after `n + 1`.
-/
module

public import proofs.«01_k».proof.Proof.KernelIdealViews

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running `P` on device `c`. -/
abbrev runs (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-- The same, opaque, the form in which the steps are chained. -/
@[irreducible] def run (c : Dev nD) {α : Type} (P : Prog (TpuEff nD τ sig (Elt F) Λ₀ .tc) α) (Q : α → sProp 𝕄) : sProp 𝕄 :=
  runs c P Q

/-! ## A resource per other device, the first `n` of them already used up -/

@[irreducible] def served (c : Dev nD) (A B : Fin 32 → sProp 𝕄) (n : ℕ) : sProp 𝕄 :=
  bigSep Finset.univ fun j => if j = c then iprop(emp) else if j.val < n then B j else A j

omit [FloatOps F] in
theorem served_take {c : Dev nD} {A B : Fin 32 → sProp 𝕄} {j : Fin 32} (h : j ≠ c) :
    served c A B j.val ⊢ iprop(A j ∗ (B j -∗ served c A B (j.val + 1))) := by
  unfold served
  rw [bigSep_univ_split j, if_neg h, if_neg (Nat.lt_irrefl _)]
  refine Entails.trans (Q := iprop(A j ∗ bigSep (Finset.univ.erase j) fun i => if i = c then iprop(emp) else if i.val < j.val + 1 then B i else A i)) (Entails.of_eq ?_) ?_
  · congr 1
    refine bigSep_congr fun i hi => ?_
    have hne : i ≠ j := Finset.ne_of_mem_erase hi
    have : i.val ≠ j.val := fun e => hne (Fin.ext e)
    by_cases hc : i = c
    · rw [if_pos hc, if_pos hc]
    · rw [if_neg hc, if_neg hc]
      by_cases hl : i.val < j.val
      · rw [if_pos hl, if_pos (by omega)]
      · rw [if_neg hl, if_neg (by omega)]
  · iintro ⟨HA, Hr⟩
    isplitl [HA]; · iexact HA
    iintro HB
    iapply (Entails.of_eq (show iprop(B j ∗ bigSep (Finset.univ.erase j) fun i => if i = c then iprop(emp) else if i.val < j.val + 1 then B i else A i)
      = bigSep Finset.univ fun i => if i = c then iprop(emp) else if i.val < j.val + 1 then B i else A i by
        rw [bigSep_univ_split j, if_neg h, if_pos (Nat.lt_succ_self _)]; rfl))
    isplitl [HB]; · iexact HB
    iexact Hr
omit [FloatOps F] in
theorem served_self {c : Dev nD} {A B : Fin 32 → sProp 𝕄} : served c A B c.val = served c A B (c.val + 1) := by
  unfold served
  refine bigSep_congr fun i _ => ?_
  by_cases hc : i = c
  · rw [if_pos hc, if_pos hc]
  · rw [if_neg hc, if_neg hc]
    have : i.val ≠ c.val := fun e => hc (Fin.ext e)
    by_cases hl : i.val < c.val
    · rw [if_pos hl, if_pos (by omega)]
    · rw [if_neg hl, if_neg (by omega)]
omit [FloatOps F] in
theorem served_zero {c : Dev nD} {A B : Fin 32 → sProp 𝕄} : served c A B 0 = bigSep (Finset.univ.filter (· ≠ c)) A := by
  unfold served
  rw [bigSep_filter]
  refine bigSep_congr fun i _ => ?_
  by_cases hc : i = c
  · rw [if_pos hc, if_neg (fun h => h hc)]; rfl
  · rw [if_neg hc, if_neg (Nat.not_lt_zero _), if_pos hc]
omit [FloatOps F] in
theorem served_end {c : Dev nD} {A B : Fin 32 → sProp 𝕄} : served c A B 32 = bigSep (Finset.univ.filter (· ≠ c)) B := by
  unfold served
  rw [bigSep_filter]
  refine bigSep_congr fun i _ => ?_
  by_cases hc : i = c
  · rw [if_pos hc, if_neg (fun h => h hc)]; rfl
  · rw [if_neg hc, if_pos i.isLt, if_pos hc]

/-! ## What everyone knows: the invariants of all cells, that they are at round 0, and the levels -/

variable (K : Dev nD × CK → ℕ)

@[irreducible] def records : sProp 𝕄 :=
  iprop((bigSep Finset.univ fun ck : Dev nD × CK => cellInv ER (xRd m) (K ck) (kcell ck))
    ∗ bigSep Finset.univ fun ck : Dev nD × CK => reached ER (kcell ck) 0)
/-- The levels, under a name of their own. -/
@[irreducible] def levels : sProp 𝕄 := levAts L lv
omit [FloatOps F] in
instance levels_persistent : BI.Persistent (levels (F := F)) := by unfold levels; infer_instance
@[irreducible] def known : sProp 𝕄 := iprop(records m K ∗ levels (F := F))

instance records_persistent : BI.Persistent (records m K) := by unfold records; infer_instance
instance known_persistent : BI.Persistent (known m K) := by unfold known; infer_instance

theorem inv_at (ck : Dev nD × CK) :
    (bigSep Finset.univ fun ck : Dev nD × CK => (cellInv ER (xRd m) (K ck) (kcell ck) : sProp 𝕄)) ⊢ cellInv ER (xRd m) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

theorem known_inv (ck : Dev nD × CK) : known m K ⊢ cellInv ER (xRd m) (K ck) (kcell ck) := by
  unfold known records
  iintro ⟨⟨H, -⟩, -⟩
  iapply (inv_at m K ck); iexact H
theorem known_reached (ck : Dev nD × CK) : known m K ⊢ reached ER (kcell ck) 0 := by
  unfold known records
  iintro ⟨⟨-, H⟩, -⟩
  iapply (reached_at ck); iexact H
theorem known_levels : known m K ⊢ levels (F := F) := by
  unfold known; iintro ⟨-, H⟩; iexact H
/-- What the levels allow. -/
theorem known_may {X : sProp 𝕄} (h : levels (F := F) ⊢ X) : known m K ⊢ X := BIBase.Entails.trans (known_levels m K) h

/-- What `c` still owes. -/
@[irreducible] def debt (c : Dev nD) (O : CellTallies nD τ sig Unit) : sProp 𝕄 := iprop(∃ W, owes (c : Thread nD τ) O W)

/-! ## Signalling every other device's barrier -/

@[irreducible] def SigSt (c : Dev nD) (n : ℕ) : sProp 𝕄 :=
  iprop(known m K ∗ debt c (oBar c n + (oX 1 c 0 + oX 3 c 0))
    ∗ served c (fun j => iprop(dutyTok ER (barCell j) 0 c ∗ barPay j c)) (fun _ => iprop(emp)) n)

theorem step_sig (c : Dev nD) (n : ℕ) (hn : n < 32) {b : BitVec 1} (hb : b = 1#1 ↔ (⟨n, hn⟩ : Fin 32) ≠ c) {inst : Decidable (b = 1#1)}
    {dv : b = 1#1 → Dev nD} (hd : ∀ h, (dv h).val = n)
    {α : Type} {f : Prog (TpuEff nD τ sig (Elt F) Λ₀ .tc) α} {Q : α → sProp 𝕄} {R : sProp 𝕄}
    (hk : iprop(SigSt m K c (n + 1) ∗ R) ⊢ run c f Q) :
    iprop(SigSt m K c n ∗ R) ⊢ run c (if h : b = 1#1 then (semSignalWord (dv h) barS 1#32 >>= fun _ => f) else f) Q := by
  unfold run at hk ⊢
  by_cases h : b = 1#1
  · rw [dif_pos h]
    have hne := hb.mp h
    rw [show dv h = (⟨n, hn⟩ : Fin 32) from Fin.ext (hd h)]
    simp only [semSignalWord, Prog.bind_op, Prog.bind_ret]
    unfold SigSt debt
    have hO : oBar c n + (oX 1 c 0 + oX 3 c 0) = (oBar c (n + 1) + (oX 1 c 0 + oX 3 c 0)) + tallyAt (barCell ⟨n, hn⟩) () 1 :=
      (congrArg (· + (oX 1 c 0 + oX 3 c 0)) (oBar_step hne)).trans (add_right_comm _ _ _)
    iintro ⟨⟨#HK, ⟨%W, HO⟩, HS⟩, HR⟩
    ihave HS' := (served_take hne) $$ HS
    icases HS' with ⟨⟨Ht, Hp⟩, Hback⟩
    ihave #HI := (known_inv m K ((⟨n, hn⟩ : Fin 32), .inl ())) $$ HK
    ihave #HR0 := (known_reached m K ((⟨n, hn⟩ : Fin 32), .inl ())) $$ HK
    iapply (Rounds.wp_signal 𝒱₀ ER (xRd m) (c : Thread nD τ) none (dst := ((⟨n, hn⟩ : Dev nD) : Thread nD τ)) (κ := K ((⟨n, hn⟩ : Fin 32), .inl ()))
        (d := c) (by rw [duties_bar]; exact Finset.mem_filter.mpr ⟨Finset.mem_univ _, fun e => hne e.symm⟩)
        ((amount_bar m (⟨n, hn⟩ : Fin 32) c).trans (by decide)) () (oBar c (n + 1) + (oX 1 c 0 + oX 3 c 0)) hO) $$ [HO Ht Hp]
    · isplitr; · iexact HI
      isplitl [HO]; · iexact HO
      isplitl [Ht]; · iexact Ht
      isplitl [Hp]; · rw [payload_bar]; iexact Hp
      iexact HR0
    iintro HO
    iapply hk
    unfold SigSt debt
    isplitr [HR]
    · isplitr; · iexact HK
      isplitl [HO]; · iexists W; iexact HO
      iapply Hback; iempintro
    iexact HR
  · rw [dif_neg h]
    have hc : (⟨n, hn⟩ : Fin 32) = c := by by_contra hne; exact h (hb.mpr hne)
    have hcn : n = c.val := congrArg Fin.val hc
    refine Entails.trans (Entails.of_eq ?_) hk
    unfold SigSt
    rw [hcn, oBar_self, ← served_self]

/-! ## The wait on a device's own barrier: every other device hands over its two slots -/

@[irreducible] def BarSt (c : Dev nD) : sProp 𝕄 :=
  iprop(known m K ∗ debt c (oX 1 c 0 + oX 3 c 0) ∗ atPos ER (barCell c) 1 ∅ 0 ∗ bigSep (Finset.univ.filter fun d => d ≠ c) fun d => barPay c d)

theorem step_bar (c : Dev nD) {α : Type} {f : PUnit → Prog (TpuEff nD τ sig (Elt F) Λ₀ .tc) α} {Q : α → sProp 𝕄} {R : sProp 𝕄}
    (hk : iprop(BarSt m K c ∗ R) ⊢ run c (f ⟨⟩) Q) :
    iprop(known m K ∗ debt c (oX 1 c 0 + oX 3 c 0) ∗ cred (tallyAt (barCell c) () 31) ∗ atPos ER (barCell c) 0 ∅ 0 ∗ R)
      ⊢ run c (semWaitWord barS 31#32 >>= f) Q := by
  unfold run at hk ⊢
  simp only [semWaitWord, Prog.bind_op, Prog.bind_ret]
  unfold debt
  iintro ⟨#HK, ⟨%W, HO⟩, Hc, Ha, HR⟩
  ihave #HI := (known_inv m K (c, .inl ())) $$ HK
  iapply (Rounds.wp_wait_rest_token 𝒱₀ ER (xRd m) (c : Thread nD τ) none (κ := K (c, .inl ()))
      (wpE_semWait_eq 𝒱₀ (c : Thread nD τ) none Set.univ) (Set.mem_univ _) () (O := oX 1 c 0 + oX 3 c 0) (W := W) (R := 0) (m := 0) (T := ∅)
      (by rw [expect_bar]; decide)) $$ [Hc HO Ha]
  · isplitr; · iexact HI
    isplitl [Hc]; · iexact Hc
    isplitl [HO]; · iexact HO
    isplitr; · iapply (known_may m K (by unfold levels; exact mayWait_bar c)); iexact HK
    iexact Ha
  iintro ⟨HO, Ha, -, Hpay⟩
  ihave Hp := (Entails.of_eq (rest_bar m c)) $$ Hpay
  iapply hk
  unfold BarSt debt
  isplitr [HR]
  · isplitr; · iexact HK
    isplitl [HO]; · iexists _; iexact HO
    isplitl [Ha]; · iexact Ha
    iexact Hp
  iexact HR

/-! ## Waiting for a transfer, once per other device -/

/-- Waiting on the `k`-th array of transfer semaphores while owing `O`: what is in hand before, and after. -/
@[irreducible] def WSt (k : Fin 4) (c : Dev nD) (O : CellTallies nD τ sig Unit) (n : ℕ) : sProp 𝕄 :=
  iprop(known m K ∗ debt c O
    ∗ served c (fun j => iprop(cred (tallyAt (xCell k c j) () N) ∗ atPos ER (xCell k c j) 0 ∅ 0)) (fun j => iprop(atPos ER (xCell k c j) 1 ∅ 0 ∗ xPay m k c j)) n)

theorem step_wait (k : Fin 4) (c : Dev nD) (O : CellTallies nD τ sig Unit)
    (hO : ∀ j, levels (F := F) ⊢ MayWait (c : Thread nD τ) (.dma (xS k j)) () O)
    (n : ℕ) (hn : n < 32) {b : BitVec 1} (hb : b = 1#1 ↔ (⟨n, hn⟩ : Fin 32) ≠ c) {inst : Decidable (b = 1#1)}
    {sm : b = 1#1 → DmaSem sig} (hs : ∀ h, (sm h).val = (xS k ⟨n, hn⟩).val)
    {s s' : Shape} {sp sp' : CoreSpace} {e e' : EltTy} {src : b = 1#1 → Memref sig .tc sp s e} {dst : b = 1#1 → Memref sig .tc sp' s' e'}
    {h₁ : ∀ h, (src h).view.WordExact} {h₂ : ∀ h, (dst h).view.WordExact} (hN : ∀ h, (dst h).view.dmaCredit = N)
    {α : Type} {f : Prog (TpuEff nD τ sig (Elt F) Λ₀ .tc) α} {Q : α → sProp 𝕄} {R : sProp 𝕄}
    (hk : iprop(WSt m K k c O (n + 1) ∗ R) ⊢ run c f Q) :
    iprop(WSt m K k c O n ∗ R) ⊢ run c (if h : b = 1#1 then (Prog.lift (.waitDma2 (sm h) (src h) (dst h) (h₁ h) (h₂ h)) >>= fun _ => f) else f) Q := by
  unfold run at hk ⊢
  by_cases h : b = 1#1
  · rw [dif_pos h]
    have hne := hb.mp h
    have hse : sm h = xS k ⟨n, hn⟩ := Fin.ext (hs h)
    rw [hse]
    simp only [Prog.lift, Prog.bind_op, Prog.bind_ret]
    unfold WSt debt
    iintro ⟨⟨#HK, ⟨%W, HO⟩, HS⟩, HR⟩
    ihave HS' := (served_take hne) $$ HS
    icases HS' with ⟨⟨Hc, Ha⟩, Hback⟩
    ihave #HI := (known_inv m K (c, .inr (k, (⟨n, hn⟩ : Fin 32)))) $$ HK
    iapply (Rounds.wp_wait_rest_token 𝒱₀ ER (xRd m) (c : Thread nD τ) none (κ := K (c, .inr (k, (⟨n, hn⟩ : Fin 32))))
        (wpE_waitDma2_eq 𝒱₀ (c : Thread nD τ) none Set.univ) (Set.mem_univ _) () (O := O) (W := W) (R := 0) (m := 0) (T := ∅)
        (by rw [Nat.zero_add, expect_x m c _ k hne]; exact hN h)) $$ [Hc HO Ha]
    · isplitr; · iexact HI
      isplitl [Hc]; · rw [hN h]; iexact Hc
      isplitl [HO]; · iexact HO
      isplitr; · iapply (known_may m K (hO (⟨n, hn⟩ : Fin 32))); iexact HK
      iexact Ha
    iintro ⟨HO, Ha, -, Hpay⟩
    ihave Hp := (Entails.of_eq (rest_x m c (⟨n, hn⟩ : Fin 32) k hne)) $$ Hpay
    iapply hk
    unfold WSt debt
    isplitr [HR]
    · isplitr; · iexact HK
      isplitl [HO]; · iexists _; iexact HO
      iapply Hback
      isplitl [Ha]; · iexact Ha
      iexact Hp
    iexact HR
  · rw [dif_neg h]
    have hc : (⟨n, hn⟩ : Fin 32) = c := by by_contra hne; exact h (hb.mpr hne)
    have hcn : n = c.val := congrArg Fin.val hc
    refine Entails.trans (Entails.of_eq ?_) hk
    unfold WSt
    rw [hcn, ← served_self]

/-! ## The first exchange: a chunk of the partial result to every other device -/

/-- The rows of the partial result still in hand when the chunks below `n` have left: those from chunk `n` on, and the own chunk. -/
def held (c : Dev nD) (n : ℕ) : Finset S512x512.Idx := Finset.univ.filter fun i => 16 * n ≤ (i 0).val ∨ (i 0).val / 16 = c.val

theorem mem_held {c : Dev nD} {n : ℕ} {i : S512x512.Idx} : i ∈ held c n ↔ 16 * n ≤ (i 0).val ∨ (i 0).val / 16 = c.val := by simp [held]
theorem chunk_held (c : Dev nD) (j : Fin 32) : chunk j ⊆ held c j.val := fun i h => by
  rw [mem_chunk] at h; rw [mem_held]; omega
theorem held_succ {c : Dev nD} {j : Fin 32} (h : j ≠ c) : held c j.val \ chunk j = held c (j.val + 1) := by
  ext i
  rw [Finset.mem_sdiff, mem_held, mem_held, mem_chunk]
  have : j.val ≠ c.val := fun e => h (Fin.ext e)
  omega
theorem held_self (c : Dev nD) : held c (c.val + 1) = held c c.val := by
  ext i; rw [mem_held, mem_held]; omega

/-- `n` chunks served, the first `k` blocks of 128 rows computed. -/
@[irreducible] def S1St (c : Dev nD) (k n : ℕ) : sProp 𝕄 :=
  iprop(known m K ∗ debt c (oX 1 c n + oX 3 c 0)
    ∗ (∃ f, ⌜∀ i, (i 0).val < 128 * k → f i = P1 m c i⌝ ∗ pPts c (held c n) f)
    ∗ served c (fun j => iprop(dutyTok ER (xCell 0 c j) 0 0 ∗ dutyTok ER (xCell 1 j c) 0 0 ∗ ∃ f, aPts j (slot c) f))
        (fun j => cred (tallyAt (xCell 0 c j) () N)) n)

theorem land1 (c j : Dev nD) (off : Fin 2 → ℕ) (inb) (hsub) (off' : Fin 3 → ℕ) (inb') (hsub') (hq)
    (ho : off = ![16 * j.val, 0]) (ho' : off' = ![c.val, 0, 0]) (fd : S32x16x512.Idx → Elt F .bf16) (i : S32x16x512.Idx) (h : i ∈ slot c) :
    (slotM aM off' inb' hsub' hq).view.write (Elt F) fd
      ((pM.slice (Rect.unit (s := S512x512) off S16x512.size inb) hsub).view.read (Elt F) (P1 m c)) Finset.univ i = A1 m j i := by
  rw [slot_write_a off' inb' hsub' hq c ho' fd _ i h]
  have h1 : (i 1).val < 16 := (i 1).isLt
  have h2 : j.val < 32 := j.isLt
  refine (chunk_read off inb hsub j ho (P1 m c) (ix2 (i 1) (i 2)) (by show 16 * j.val + (i 1).val < 512; omega)).trans ?_
  have hi : i 0 = c := Fin.ext (mem_slot.mp h)
  unfold A1
  rw [hi]

/-- A chunk out of the rows in hand. -/
theorem take_chunk (c : Dev nD) (j : Fin 32) (h : j ≠ c) (k : ℕ) (hk : j.val < 8 * k) (g : S512x512.Idx → Elt F .bf16)
    (hg : ∀ i, (i 0).val < 128 * k → g i = P1 m c i) :
    pPts c (held c j.val) g ⊢ iprop(pPts c (chunk j) (P1 m c) ∗ pPts c (held c (j.val + 1)) g) := by
  unfold pPts
  refine (pointsTo_split_subset (chunk_held c j)).1.trans (Entails.of_eq ?_)
  rw [held_succ h]
  congr 1
  exact pointsTo_congr fun i hi => hg i (by have := mem_chunk.mp hi; omega)

theorem wp_start1 (c j : Dev nD) (hne : j ≠ c) (off : Fin 2 → ℕ) (inb) (hsub) (off' : Fin 3 → ℕ) (inb') (hsub') (hq)
    (ho : off = ![16 * j.val, 0]) (ho' : off' = ![c.val, 0, 0]) (fd : S32x16x512.Idx → Elt F .bf16)
    (O₁ O : CellTallies nD τ sig Unit) (hO : O₁ = O + tallyAt (xCell 1 j c) () N) (W : Waits sig Unit)
    {hsc : (slotM aM off' inb' hsub' hq).view.ref.isScScratch = false}
    {h₁ : (pM.slice (Rect.unit (s := S512x512) off S16x512.size inb) hsub).view.WordExact} {h₂ : (slotM aM off' inb' hsub' hq).view.WordExact}
    {h₃ : DmaTarget.Typed .vmem (.dma (xS 1 c)) (.remote (Dev.tc j : Thread nD τ) (slotM aM off' inb' hsub' hq) (.dma (xS 0 j)) hsc)}
    {α : Type} {f : PUnit → Prog (TpuEff nD τ sig (Elt F) Λ₀ .tc) α} {Q : α → sProp 𝕄} :
    iprop(cellInv ER (xRd m) (K (c, .inr (0, j))) (xCell 0 c j) ∗ cellInv ER (xRd m) (K (j, .inr (1, c))) (xCell 1 j c)
        ∗ pPts c (chunk j) (P1 m c) ∗ aPts j (slot c) fd ∗ owes (c : Thread nD τ) O₁ W
        ∗ dutyTok ER (xCell 0 c j) 0 0 ∗ reached ER (xCell 0 c j) 0 ∗ dutyTok ER (xCell 1 j c) 0 0 ∗ reached ER (xCell 1 j c) 0)
      ⊢ iprop(((cred (tallyAt (xCell 0 c j) () N) ∗ owes (c : Thread nD τ) O W) -∗ runs c (f ⟨⟩) Q)
          -∗ runs c (.op (.enqueueDma (pM.slice (Rect.unit (s := S512x512) off S16x512.size inb) hsub)
              (.remote (Dev.tc j : Thread nD τ) (slotM aM off' inb' hsub' hq) (.dma (xS 0 j)) hsc) (.dma (xS 1 c)) h₁ h₂ h₃) f) Q) := by
  have e₁ : ∀ g : S512x512.Idx → Elt F .bf16, (pPts c (chunk j) g : sProp 𝕄)
      = ((pM.slice (Rect.unit (s := S512x512) off S16x512.size inb) hsub).view.loc (c : Thread nD τ)
          ↦[(pM.slice (Rect.unit (s := S512x512) off S16x512.size inb) hsub).view.set]{fullShare} g) := fun g => by
    rw [chunk_set off inb hsub j ho]; rfl
  have e₂ : ∀ g : S32x16x512.Idx → Elt F .bf16, (aPts j (slot c) g : sProp 𝕄)
      = ((slotM aM off' inb' hsub' hq).view.loc (j : Thread nD τ) ↦[(slotM aM off' inb' hsub' hq).view.set]{fullShare} g) := fun g => by
    rw [slot_set_a off' inb' hsub' hq c ho']; rfl
  have e₃ : (aPts j (slot c) ((slotM aM off' inb' hsub' hq).view.write (Elt F) fd
      ((pM.slice (Rect.unit (s := S512x512) off S16x512.size inb) hsub).view.read (Elt F) (P1 m c)) Finset.univ) : sProp 𝕄) = aPts j (slot c) (A1 m j) := by
    unfold aPts
    exact pointsTo_congr fun i hi => land1 m c j off inb hsub off' inb' hsub' hq ho ho' fd i hi
  rw [e₁, e₂]
  exact Rounds.wp_send_pointsTo 𝒱₀ ER (xRd m) (c : Thread nD τ) none (r₁ := 0) (r₂ := 0) (d₁ := 0) (d₂ := 0)
    (by rw [duties_x m c _ 0 hne]; exact Finset.mem_singleton_self _)
    (by rw [duties_x m j c 1 (Ne.symm hne)]; exact Finset.mem_singleton_self _)
    () () N rfl (amount_x m c _ 0 0) (amount_x m j c 1 0) O hO
    (by rw [payload_x, ← e₁]; exact Entails.refl _)
    (by rw [payload_x, ← e₂]; exact Entails.of_eq e₃)

theorem step_start1 (c : Dev nD) (k n : ℕ) (hn : n < 32) (hkn : n < 8 * k) {b : BitVec 1} (hb : b = 1#1 ↔ (⟨n, hn⟩ : Fin 32) ≠ c) {inst : Decidable (b = 1#1)}
    {s₁ s₂ : b = 1#1 → DmaSem sig} (hs₁ : ∀ h, (s₁ h).val = (xS 0 ⟨n, hn⟩).val) (hs₂ : ∀ h, (s₂ h).val = (xS 1 c).val)
    {dv : b = 1#1 → Dev nD} (hd : ∀ h, (dv h).val = n)
    {off : b = 1#1 → Fin 2 → ℕ} {inb : ∀ h a, off h a + S16x512.size a ≤ S512x512.size a} {hsub : ∀ h a, (Rect.unit (s := S512x512) (off h) S16x512.size (inb h)).stride a = 1}
    {off' : b = 1#1 → Fin 3 → ℕ} {inb' : ∀ h a, off' h a + S1x16x512.size a ≤ S32x16x512.size a} {hsub' : ∀ h a, (Rect.unit (s := S32x16x512) (off' h) S1x16x512.size (inb' h)).stride a = 1}
    {hq : b = 1#1 → S1x16x512.Squeezes S16x512} (ho : ∀ h, off h = ![16 * n, 0]) (ho' : ∀ h, off' h = ![c.val, 0, 0])
    {hsc : ∀ h, (slotM aM (off' h) (inb' h) (hsub' h) (hq h)).view.ref.isScScratch = false}
    {h₁ : ∀ h, (pM.slice (Rect.unit (s := S512x512) (off h) S16x512.size (inb h)) (hsub h)).view.WordExact}
    {h₂ : ∀ h, (slotM aM (off' h) (inb' h) (hsub' h) (hq h)).view.WordExact}
    {h₃ : ∀ h, DmaTarget.Typed .vmem (.dma (s₂ h)) (.remote (Dev.tc (dv h) : Thread nD τ) (slotM aM (off' h) (inb' h) (hsub' h) (hq h)) (.dma (s₁ h)) (hsc h))}
    {α : Type} {f : Prog (TpuEff nD τ sig (Elt F) Λ₀ .tc) α} {Q : α → sProp 𝕄} {R : sProp 𝕄}
    (hk : iprop(S1St m K c k (n + 1) ∗ R) ⊢ run c f Q) :
    iprop(S1St m K c k n ∗ R) ⊢ run c (if h : b = 1#1 then
      (Prog.lift (.enqueueDma (pM.slice (Rect.unit (s := S512x512) (off h) S16x512.size (inb h)) (hsub h))
        (.remote (Dev.tc (dv h) : Thread nD τ) (slotM aM (off' h) (inb' h) (hsub' h) (hq h)) (.dma (s₁ h)) (hsc h)) (.dma (s₂ h)) (h₁ h) (h₂ h) (h₃ h)) >>= fun _ => f) else f) Q := by
  unfold run at hk ⊢
  by_cases h : b = 1#1
  · rw [dif_pos h]
    have hne := hb.mp h
    have hs₁ := Fin.ext (hs₁ h)
    have hs₂ := Fin.ext (hs₂ h)
    have hd : dv h = (⟨n, hn⟩ : Fin 32) := Fin.ext (hd h)
    have ho := ho h
    have ho' := ho' h
    generalize hsc h = hsc, h₁ h = h₁, h₂ h = h₂, h₃ h = h₃ at *
    generalize hsub h = hsub, hsub' h = hsub' at *
    generalize inb h = inb, inb' h = inb', hq h = hq at *
    generalize off h = off, off' h = off', dv h = dv, s₁ h = s₁, s₂ h = s₂ at *
    subst hd hs₁ hs₂
    simp only [Prog.lift, Prog.bind_op, Prog.bind_ret]
    unfold S1St debt
    have hO : oX 1 c n + oX 3 c 0 = (oX 1 c (n + 1) + oX 3 c 0) + tallyAt (xCell 1 ⟨n, hn⟩ c) () N :=
      (congrArg (· + oX 3 c 0) (oX_step 1 hne)).trans (add_right_comm _ _ _)
    iintro ⟨⟨#HK, ⟨%W, HO⟩, ⟨%g, %hg, Hp⟩, HS⟩, HR⟩
    ihave HS' := (served_take hne) $$ HS
    icases HS' with ⟨⟨Ht1, Ht2, ⟨%fd, Hd⟩⟩, Hback⟩
    ihave #HI1 := (known_inv m K (c, .inr (0, (⟨n, hn⟩ : Fin 32)))) $$ HK
    ihave #HR1 := (known_reached m K (c, .inr (0, (⟨n, hn⟩ : Fin 32)))) $$ HK
    ihave #HI2 := (known_inv m K ((⟨n, hn⟩ : Fin 32), .inr (1, c))) $$ HK
    ihave #HR2 := (known_reached m K ((⟨n, hn⟩ : Fin 32), .inr (1, c))) $$ HK
    ihave Hp2 := (take_chunk m c ⟨n, hn⟩ hne k hkn g hg) $$ Hp
    icases Hp2 with ⟨Hsrc, Hp⟩
    iapply (wp_start1 m K c ⟨n, hn⟩ hne off inb hsub off' inb' hsub' hq ho ho' fd _ _ hO W) $$ [HO Hsrc Hd Ht1 Ht2]
    · isplitr; · iexact HI1
      isplitr; · iexact HI2
      isplitl [Hsrc]; · iexact Hsrc
      isplitl [Hd]; · iexact Hd
      isplitl [HO]; · iexact HO
      isplitl [Ht1]; · iexact Ht1
      isplitr; · iexact HR1
      isplitl [Ht2]; · iexact Ht2
      iexact HR2
    iintro ⟨Hc, HO⟩
    iapply hk
    unfold S1St debt
    isplitr [HR]
    · isplitr; · iexact HK
      isplitl [HO]; · iexists _; iexact HO
      isplitl [Hp]
      · iexists g
        isplitr; · ipureintro; exact hg
        iexact Hp
      iapply Hback; iexact Hc
    iexact HR
  · rw [dif_neg h]
    have hc : (⟨n, hn⟩ : Fin 32) = c := by by_contra hne; exact h (hb.mpr hne)
    have hcn : n = c.val := congrArg Fin.val hc
    refine Entails.trans (Entails.of_eq ?_) hk
    unfold S1St
    rw [hcn, oX_self, ← served_self, held_self]

/-! ## The second exchange: the sum to every other device -/

@[irreducible] def S2St (c : Dev nD) (n : ℕ) : sProp 𝕄 :=
  iprop(known m K ∗ debt c (oX 3 c n)
    ∗ served c (fun j => iprop((dutyTok ER (xCell 2 c j) 0 0 ∗ dutyTok ER (xCell 3 j c) 0 0 ∗ ∃ f, bPts j (slot c) f) ∗ sPts c (cutShare j.val) (P2 m c)))
        (fun j => cred (tallyAt (xCell 2 c j) () N)) n)

theorem land2 (c : Dev nD) (off' : Fin 3 → ℕ) (inb') (hsub') (hq)
    (ho' : off' = ![c.val, 0, 0]) (fd : S32x16x512.Idx → Elt F .bf16) (i : S32x16x512.Idx) (h : i ∈ slot c) :
    (slotM bM off' inb' hsub' hq).view.write (Elt F) fd ((sM : Memref sig .tc .vmem S16x512 .bf16).view.read (Elt F) (P2 m c)) Finset.univ i = A2 m i := by
  rw [slot_write_b off' inb' hsub' hq c ho' fd _ i h, View.read_whole]
  have hi : i 0 = c := Fin.ext (mem_slot.mp h)
  unfold A2
  rw [hi]

theorem wp_start2 (c j : Dev nD) (hne : j ≠ c) (off' : Fin 3 → ℕ) (inb') (hsub') (hq)
    (ho' : off' = ![c.val, 0, 0]) (fd : S32x16x512.Idx → Elt F .bf16)
    (O₁ O : CellTallies nD τ sig Unit) (hO : O₁ = O + tallyAt (xCell 3 j c) () N) (W : Waits sig Unit)
    {hsc : (slotM bM off' inb' hsub' hq).view.ref.isScScratch = false}
    {h₁ : (sM : Memref sig .tc .vmem S16x512 .bf16).view.WordExact} {h₂ : (slotM bM off' inb' hsub' hq).view.WordExact}
    {h₃ : DmaTarget.Typed .vmem (.dma (xS 3 c)) (.remote (Dev.tc j : Thread nD τ) (slotM bM off' inb' hsub' hq) (.dma (xS 2 j)) hsc)}
    {α : Type} {f : PUnit → Prog (TpuEff nD τ sig (Elt F) Λ₀ .tc) α} {Q : α → sProp 𝕄} :
    iprop(cellInv ER (xRd m) (K (c, .inr (2, j))) (xCell 2 c j) ∗ cellInv ER (xRd m) (K (j, .inr (3, c))) (xCell 3 j c)
        ∗ sPts c (cutShare j.val) (P2 m c) ∗ bPts j (slot c) fd ∗ owes (c : Thread nD τ) O₁ W
        ∗ dutyTok ER (xCell 2 c j) 0 0 ∗ reached ER (xCell 2 c j) 0 ∗ dutyTok ER (xCell 3 j c) 0 0 ∗ reached ER (xCell 3 j c) 0)
      ⊢ iprop(((cred (tallyAt (xCell 2 c j) () N) ∗ owes (c : Thread nD τ) O W) -∗ runs c (f ⟨⟩) Q)
          -∗ runs c (.op (.enqueueDma (sM : Memref sig .tc .vmem S16x512 .bf16)
              (.remote (Dev.tc j : Thread nD τ) (slotM bM off' inb' hsub' hq) (.dma (xS 2 j)) hsc) (.dma (xS 3 c)) h₁ h₂ h₃) f) Q) := by
  have e₁ : ∀ g : S16x512.Idx → Elt F .bf16, (sPts c (cutShare j.val) g : sProp 𝕄)
      = ((sM : Memref sig .tc .vmem S16x512 .bf16).view.loc (c : Thread nD τ)
          ↦[(sM : Memref sig .tc .vmem S16x512 .bf16).view.set]{cutShare j.val} g) := fun g => by
    rw [View.set_whole]; rfl
  have e₂ : ∀ g : S32x16x512.Idx → Elt F .bf16, (bPts j (slot c) g : sProp 𝕄)
      = ((slotM bM off' inb' hsub' hq).view.loc (j : Thread nD τ) ↦[(slotM bM off' inb' hsub' hq).view.set]{fullShare} g) := fun g => by
    rw [slot_set_b off' inb' hsub' hq c ho']; rfl
  have e₃ : (bPts j (slot c) ((slotM bM off' inb' hsub' hq).view.write (Elt F) fd
      ((sM : Memref sig .tc .vmem S16x512 .bf16).view.read (Elt F) (P2 m c)) Finset.univ) : sProp 𝕄) = bPts j (slot c) (A2 m) := by
    unfold bPts
    exact pointsTo_congr fun i hi => land2 m c off' inb' hsub' hq ho' fd i hi
  rw [e₁, e₂]
  exact Rounds.wp_send_pointsTo 𝒱₀ ER (xRd m) (c : Thread nD τ) none (r₁ := 0) (r₂ := 0) (d₁ := 0) (d₂ := 0)
    (by rw [duties_x m c _ 2 hne]; exact Finset.mem_singleton_self _)
    (by rw [duties_x m j c 3 (Ne.symm hne)]; exact Finset.mem_singleton_self _)
    () () N rfl (amount_x m c _ 2 0) (amount_x m j c 3 0) O hO
    (by rw [payload_x, ← e₁]; exact Entails.refl _)
    (by rw [payload_x, ← e₂]; exact Entails.of_eq e₃)

theorem step_start2 (c : Dev nD) (n : ℕ) (hn : n < 32) {b : BitVec 1} (hb : b = 1#1 ↔ (⟨n, hn⟩ : Fin 32) ≠ c) {inst : Decidable (b = 1#1)}
    {s₁ s₂ : b = 1#1 → DmaSem sig} (hs₁ : ∀ h, (s₁ h).val = (xS 2 ⟨n, hn⟩).val) (hs₂ : ∀ h, (s₂ h).val = (xS 3 c).val)
    {dv : b = 1#1 → Dev nD} (hd : ∀ h, (dv h).val = n)
    {off' : b = 1#1 → Fin 3 → ℕ} {inb' : ∀ h a, off' h a + S1x16x512.size a ≤ S32x16x512.size a} {hsub' : ∀ h a, (Rect.unit (s := S32x16x512) (off' h) S1x16x512.size (inb' h)).stride a = 1}
    {hq : b = 1#1 → S1x16x512.Squeezes S16x512} (ho' : ∀ h, off' h = ![c.val, 0, 0])
    {hsc : ∀ h, (slotM bM (off' h) (inb' h) (hsub' h) (hq h)).view.ref.isScScratch = false}
    {h₁ : b = 1#1 → (sM : Memref sig .tc .vmem S16x512 .bf16).view.WordExact}
    {h₂ : ∀ h, (slotM bM (off' h) (inb' h) (hsub' h) (hq h)).view.WordExact}
    {h₃ : ∀ h, DmaTarget.Typed .vmem (.dma (s₂ h)) (.remote (Dev.tc (dv h) : Thread nD τ) (slotM bM (off' h) (inb' h) (hsub' h) (hq h)) (.dma (s₁ h)) (hsc h))}
    {α : Type} {f : Prog (TpuEff nD τ sig (Elt F) Λ₀ .tc) α} {Q : α → sProp 𝕄} {R : sProp 𝕄}
    (hk : iprop(S2St m K c (n + 1) ∗ R) ⊢ run c f Q) :
    iprop(S2St m K c n ∗ R) ⊢ run c (if h : b = 1#1 then
      (Prog.lift (.enqueueDma (sM : Memref sig .tc .vmem S16x512 .bf16)
        (.remote (Dev.tc (dv h) : Thread nD τ) (slotM bM (off' h) (inb' h) (hsub' h) (hq h)) (.dma (s₁ h)) (hsc h)) (.dma (s₂ h)) (h₁ h) (h₂ h) (h₃ h)) >>= fun _ => f) else f) Q := by
  unfold run at hk ⊢
  by_cases h : b = 1#1
  · rw [dif_pos h]
    have hne := hb.mp h
    have hs₁ := Fin.ext (hs₁ h)
    have hs₂ := Fin.ext (hs₂ h)
    have hd : dv h = (⟨n, hn⟩ : Fin 32) := Fin.ext (hd h)
    have ho' := ho' h
    generalize hsc h = hsc, h₁ h = h₁, h₂ h = h₂, h₃ h = h₃ at *
    generalize hsub' h = hsub' at *
    generalize inb' h = inb', hq h = hq at *
    generalize off' h = off', dv h = dv, s₁ h = s₁, s₂ h = s₂ at *
    subst hd hs₁ hs₂
    simp only [Prog.lift, Prog.bind_op, Prog.bind_ret]
    unfold S2St debt
    iintro ⟨⟨#HK, ⟨%W, HO⟩, HS⟩, HR⟩
    ihave HS' := (served_take hne) $$ HS
    icases HS' with ⟨⟨⟨Ht1, Ht2, ⟨%fd, Hd⟩⟩, Hsrc⟩, Hback⟩
    ihave #HI1 := (known_inv m K (c, .inr (2, (⟨n, hn⟩ : Fin 32)))) $$ HK
    ihave #HR1 := (known_reached m K (c, .inr (2, (⟨n, hn⟩ : Fin 32)))) $$ HK
    ihave #HI2 := (known_inv m K ((⟨n, hn⟩ : Fin 32), .inr (3, c))) $$ HK
    ihave #HR2 := (known_reached m K ((⟨n, hn⟩ : Fin 32), .inr (3, c))) $$ HK
    iapply (wp_start2 m K c ⟨n, hn⟩ hne off' inb' hsub' hq ho' fd _ _ (oX_step 3 hne) W) $$ [HO Hsrc Hd Ht1 Ht2]
    · isplitr; · iexact HI1
      isplitr; · iexact HI2
      isplitl [Hsrc]; · iexact Hsrc
      isplitl [Hd]; · iexact Hd
      isplitl [HO]; · iexact HO
      isplitl [Ht1]; · iexact Ht1
      isplitr; · iexact HR1
      isplitl [Ht2]; · iexact Ht2
      iexact HR2
    iintro ⟨Hc, HO⟩
    iapply hk
    unfold S2St debt
    isplitr [HR]
    · isplitr; · iexact HK
      isplitl [HO]; · iexists _; iexact HO
      iapply Hback; iexact Hc
    iexact HR
  · rw [dif_neg h]
    have hc : (⟨n, hn⟩ : Fin 32) = c := by by_contra hne; exact h (hb.mpr hne)
    have hcn : n = c.val := congrArg Fin.val hc
    refine Entails.trans (Entails.of_eq ?_) hk
    unfold S2St
    rw [hcn, oX_self, ← served_self]

end Cert.KernelIdeal.Moe

end
-- ==== Proof.KernelIdealMem.lean ====
/-
# Local loads and stores, and the pieces of the buffers

The landing buffers are handed round in slots, the partial result in chunks, the sum in shares; this module cuts and
joins them, and proves the kernel's local loads and stores in the form of the guarded steps.
-/
module

public import proofs.«01_k».proof.Proof.KernelIdealSteps
public import Idealize.ShloMosaic.Lib.Pipeline.Value

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

theorem zz2 : (![0, 0] : Fin 2 → ℕ) = fun _ => 0 := by funext a; fin_cases a <;> rfl
theorem zz3 : (![0, 0, 0] : Fin 3 → ℕ) = fun _ => 0 := by funext a; fin_cases a <;> rfl

/-! ## Splitting the landing buffers into slots and the partial result into chunks -/

/-- Every device but `c`. -/
abbrev others (c : Dev nD) : Finset (Fin 32) := Finset.univ.filter fun d => d ≠ c

omit [FloatOps F] in
theorem all_others (c : Dev nD) (Φ : Fin 32 → sProp 𝕄) : bigSep Finset.univ Φ = iprop(Φ c ∗ bigSep (others c) Φ) := by
  rw [bigSep_univ_split c, others, Finset.filter_ne']; rfl

theorem slots_all {inst : DecidableEq S32x16x512.Idx} : @Finset.biUnion _ _ inst (Finset.univ : Finset (Fin 32)) slot = Finset.univ := by
  ext i
  simp only [Finset.mem_biUnion, Finset.mem_univ, true_and, iff_true]
  exact ⟨i 0, mem_slot.mpr rfl⟩
theorem slots_disj : ∀ t ∈ (Finset.univ : Finset (Fin 32)), ∀ t' ∈ (Finset.univ : Finset (Fin 32)), t ≠ t' → Disjoint (slot t) (slot t') :=
  fun t _ t' _ h => Finset.disjoint_left.mpr fun i h1 h2 => h (Fin.ext ((mem_slot.mp h1).symm.trans (mem_slot.mp h2)))
theorem chunks_all {inst : DecidableEq S512x512.Idx} : @Finset.biUnion _ _ inst (Finset.univ : Finset (Fin 32)) chunk = Finset.univ := by
  ext i
  simp only [Finset.mem_biUnion, Finset.mem_univ, true_and, iff_true]
  have h : (i 0).val < 512 := (i 0).isLt
  exact ⟨⟨(i 0).val / 16, by omega⟩, mem_chunk.mpr rfl⟩
theorem chunks_disj : ∀ t ∈ (Finset.univ : Finset (Fin 32)), ∀ t' ∈ (Finset.univ : Finset (Fin 32)), t ≠ t' → Disjoint (chunk t) (chunk t') :=
  fun t _ t' _ h => Finset.disjoint_left.mpr fun i h1 h2 => h (Fin.ext ((mem_chunk.mp h1).symm.trans (mem_chunk.mp h2)))

omit [FloatOps F] in
theorem aPts_slots (c : Dev nD) (f : S32x16x512.Idx → Elt F .bf16) :
    (aPts c Finset.univ f : sProp 𝕄) = iprop(aPts c (slot c) f ∗ bigSep (others c) fun j => aPts c (slot j) f) := by
  rw [← all_others c (fun j => aPts c (slot j) f)]
  unfold aPts
  refine Eq.trans ?_ (pointsTo_biUnion (ℓ := (c : Thread nD τ).loc cc0_scratch2) Finset.univ slot slots_disj)
  exact congrArg (fun I => (aPts c I f : sProp 𝕄)) slots_all.symm
omit [FloatOps F] in
theorem bPts_slots (c : Dev nD) (f : S32x16x512.Idx → Elt F .bf16) :
    (bPts c Finset.univ f : sProp 𝕄) = iprop(bPts c (slot c) f ∗ bigSep (others c) fun j => bPts c (slot j) f) := by
  rw [← all_others c (fun j => bPts c (slot j) f)]
  unfold bPts
  refine Eq.trans ?_ (pointsTo_biUnion (ℓ := (c : Thread nD τ).loc cc0_scratch4) Finset.univ slot slots_disj)
  exact congrArg (fun I => (bPts c I f : sProp 𝕄)) slots_all.symm
omit [FloatOps F] in
theorem pPts_chunks (c : Dev nD) (f : S512x512.Idx → Elt F .bf16) :
    (pPts c Finset.univ f : sProp 𝕄) = iprop(pPts c (chunk c) f ∗ bigSep (others c) fun j => pPts c (chunk j) f) := by
  rw [← all_others c (fun j => pPts c (chunk j) f)]
  unfold pPts
  refine Eq.trans ?_ (pointsTo_biUnion (ℓ := (c : Thread nD τ).loc cc0_scratch1) Finset.univ chunk chunks_disj)
  exact congrArg (fun I => (pPts c I f : sProp 𝕄)) chunks_all.symm

/-! The sum is lent in thirty-two shares and a rest. -/

omit [FloatOps F] in
theorem sPts_cut (c : Dev nD) (f : S16x512.Idx → Elt F .bf16) (n : ℕ) (hn : n ≤ 32) :
    (sPts c fullShare f : sProp 𝕄) ⊣⊢ iprop(sPts c (restShare n) f ∗ bigSep (Finset.univ.filter fun j : Fin 32 => j.val < n) fun j => sPts c (cutShare j.val) f) := by
  induction n with
  | zero =>
    have h : (Finset.univ.filter fun j : Fin 32 => j.val < 0) = ∅ := Finset.filter_false_of_mem fun j _ => Nat.not_lt_zero _
    rw [h, bigSep_empty]
    constructor
    · iintro H; isplitl [H]; · iexact H
      iempintro
    · iintro ⟨H, -⟩; iexact H
  | succ n ih =>
    have h : (Finset.univ.filter fun j : Fin 32 => j.val < n + 1) = insert (⟨n, hn⟩ : Fin 32) (Finset.univ.filter fun j : Fin 32 => j.val < n) := by
      ext j
      simp only [Finset.mem_filter, Finset.mem_univ, true_and, Finset.mem_insert, Fin.ext_iff]
      omega
    have hi : (⟨n, hn⟩ : Fin 32) ∉ (Finset.univ.filter fun j : Fin 32 => j.val < n) := by simp
    have hs : (sPts c (restShare n) f : sProp 𝕄) ⊣⊢ iprop(sPts c (cutShare n) f ∗ sPts c (restShare (n + 1)) f) := by
      unfold sPts; exact pointsTo_share (PosShare.mem_left_op_right _)
    have ih := ih (by omega)
    have hb : bigSep (insert (⟨n, hn⟩ : Fin 32) (Finset.univ.filter fun j : Fin 32 => j.val < n)) (fun j => (sPts c (cutShare j.val) f : sProp 𝕄))
        = iprop(sPts c (cutShare n) f ∗ bigSep (Finset.univ.filter fun j : Fin 32 => j.val < n) fun j => sPts c (cutShare j.val) f) := bigSep_insert hi
    rw [h, hb]
    constructor
    · refine ih.1.trans ?_
      iintro ⟨H, Hb⟩
      ihave H2 := hs.1 $$ H
      icases H2 with ⟨H1, H2⟩
      isplitl [H2]; · iexact H2
      isplitl [H1]; · iexact H1
      iexact Hb
    · refine BIBase.Entails.trans ?_ ih.2
      iintro ⟨H2, H1, Hb⟩
      isplitl [H1 H2]
      · iapply hs.2; isplitl [H1]; · iexact H1
        iexact H2
      iexact Hb

omit [FloatOps F] in
theorem sPts_shares (c : Dev nD) (f : S16x512.Idx → Elt F .bf16) :
    (sPts c fullShare f : sProp 𝕄) ⊣⊢ iprop(sPts c (restShare 32) f ∗ sPts c (cutShare c.val) f ∗ bigSep (others c) fun j => sPts c (cutShare j.val) f) := by
  have h := sPts_cut c f 32 (le_refl _)
  rw [Finset.filter_true_of_mem (fun j : Fin 32 => fun _ => j.isLt), all_others c (fun j => sPts c (cutShare j.val) f)] at h
  exact h

/-! ## Local loads and stores -/

/-- The loaded weights of the four experts. -/
def wPts (c : Dev nD) (f : S256x2048.Idx → Elt F .bf16) : sProp 𝕄 := ((c : Thread nD τ).loc cc0_scratch0) ↦{fullShare} f

theorem step_wload (c : Dev nD) (g : S256x2048.Idx → Elt F .bf16) {inb} {hl}
    {α : Type} {f : (S256x2048.Idx → Elt F .bf16) → Prog (TpuEff nD τ sig (Elt F) Λ₀ .tc) α} {Q : α → sProp 𝕄} {S R : sProp 𝕄}
    (hk : iprop(S ∗ wPts c g ∗ R) ⊢ run c (f g) Q) :
    iprop(S ∗ wPts c g ∗ R) ⊢ run c (Prog.lift (.load wM (Rect.unit (s := S256x2048) ![0, 0] S256x2048.size inb).toLoadRect hl) >>= f) Q := by
  unfold run at hk ⊢
  simp only [Prog.lift, Prog.bind_op, Prog.bind_ret]
  unfold wPts
  iintro ⟨HS, Hw, HR⟩
  iapply (wp_load 𝒱₀ (c : Thread nD τ) none Set.univ (m := wM) (Finset.subset_univ _)) $$ Hw; iintro Hw
  rw [show (wM : Memref sig .tc .vmem S256x2048 .bf16).view.readAt (Elt F) (Rect.unit (s := S256x2048) ![0, 0] S256x2048.size inb).toLoadRect g = g from
    Memref.readAt_unit_zero (Elt F) cc0_scratch0 zz2 _ g]
  iapply hk
  unfold wPts
  isplitl [HS]; · iexact HS
  isplitl [Hw]; · iexact Hw
  iexact HR

theorem step_aload (c : Dev nD) (g : S32x16x512.Idx → Elt F .bf16) {inb} {hl}
    {α : Type} {f : (S32x16x512.Idx → Elt F .bf16) → Prog (TpuEff nD τ sig (Elt F) Λ₀ .tc) α} {Q : α → sProp 𝕄} {S R : sProp 𝕄}
    (hk : iprop(S ∗ aPts c Finset.univ g ∗ R) ⊢ run c (f g) Q) :
    iprop(S ∗ aPts c Finset.univ g ∗ R) ⊢ run c (Prog.lift (.load aM (Rect.unit (s := S32x16x512) ![0, 0, 0] S32x16x512.size inb).toLoadRect hl) >>= f) Q := by
  unfold run at hk ⊢
  simp only [Prog.lift, Prog.bind_op, Prog.bind_ret]
  unfold aPts
  iintro ⟨HS, Hw, HR⟩
  iapply (wp_load 𝒱₀ (c : Thread nD τ) none Set.univ (m := aM) (Finset.subset_univ _)) $$ Hw; iintro Hw
  rw [show (aM : Memref sig .tc .vmem S32x16x512 .bf16).view.readAt (Elt F) (Rect.unit (s := S32x16x512) ![0, 0, 0] S32x16x512.size inb).toLoadRect g = g from
    Memref.readAt_unit_zero (Elt F) cc0_scratch2 zz3 _ g]
  iapply hk
  unfold aPts
  isplitl [HS]; · iexact HS
  isplitl [Hw]; · iexact Hw
  iexact HR

/-- The partial result with `k` blocks computed and `n` chunks gone. -/
@[irreducible] def PSt (c : Dev nD) (k n : ℕ) : sProp 𝕄 :=
  iprop(∃ f, ⌜∀ i : S512x512.Idx, (i 0).val < 128 * k → f i = P1 m c i⌝ ∗ pPts c (held c n) f)

theorem step_block (c : Dev nD) (k : ℕ) (hk4 : k < 4) {off : Fin 2 → ℕ} (ho : off = ![128 * k, 0]) {inb inb'} {hl} {w : S128x512.Idx → Elt F .bf16} {hs} {hm}
    (hw : ∀ i : S512x512.Idx, 128 * k ≤ (i 0).val → (i 0).val < 128 * k + 128 →
      w (ix2 ⟨(i 0).val % 128, Nat.mod_lt _ (by decide)⟩ (i 1)) = P1 m c i)
    {α : Type} {f : Prog (TpuEff nD τ sig (Elt F) Λ₀ .tc) α} {Q : α → sProp 𝕄} {R : sProp 𝕄}
    (hk : iprop(PSt m c (k + 1) (8 * k) ∗ R) ⊢ run c f Q) :
    iprop(PSt m c k (8 * k) ∗ R) ⊢ run c (Prog.lift (.load pM (Rect.unit (s := S512x512) off S128x512.size inb).toLoadRect hl)
      >>= fun _ => Prog.lift (.store pM (Rect.unit (s := S512x512) off S128x512.size inb') w Finset.univ hs hm) >>= fun _ => f) Q := by
  unfold run at hk ⊢
  simp only [Prog.lift, Prog.bind_op, Prog.bind_ret]
  have hsub : (pM.access (Rect.unit (s := S512x512) off S128x512.size inb)).setOn Finset.univ ⊆ held c (8 * k) := fun i hi => by
    have h := (rows_set 128 off inb (128 * k) ho i).mp hi
    exact mem_held.mpr (Or.inl (by omega))
  unfold PSt pPts
  iintro ⟨⟨%g, %hg, Hp⟩, HR⟩
  iapply (wp_load_rect 𝒱₀ (c : Thread nD τ) none Set.univ (m := pM) (r := Rect.unit (s := S512x512) off S128x512.size inb) (S := held c (8 * k)) hsub) $$ Hp; iintro Hp
  iapply (wp_store 𝒱₀ (c : Thread nD τ) none Set.univ (m := pM) (r := Rect.unit (s := S512x512) off S128x512.size inb') (Mk := Finset.univ) (S := held c (8 * k)) hsub) $$ Hp; iintro Hp
  iapply hk
  unfold PSt pPts
  isplitr [HR]
  · iexists ((pM.access (Rect.unit (s := S512x512) off S128x512.size inb')).write (Elt F) g w Finset.univ)
    isplitr [Hp]
    · ipureintro
      intro i hi
      rw [show (pM.access (Rect.unit (s := S512x512) off S128x512.size inb')).write (Elt F) g w Finset.univ i = _ from rows_write 128 off inb' (128 * k) ho g w i]
      split
      · rename_i h
        refine Eq.trans (congrArg w ?_) (hw i h.1 h.2)
        refine congrArg (fun z => (ix2 z (i 1) : S128x512.Idx)) (Fin.ext ?_)
        show (i 0).val - 128 * k = (i 0).val % 128
        omega
      · rename_i h
        exact hg i (by omega)
    iexact Hp
  iexact HR

theorem step_own1 (c : Dev nD) {off : Fin 2 → ℕ} (ho : off = ![16 * c.val, 0]) {off' : Fin 3 → ℕ} (ho' : off' = ![c.val, 0, 0]) {inb} {hl} {inb'} {hl'} {inb''} {hs} {hm}
    {α : Type} {f : Prog (TpuEff nD τ sig (Elt F) Λ₀ .tc) α} {Q : α → sProp 𝕄} {R : sProp 𝕄}
    (hk : iprop(pPts c (chunk c) (P1 m c) ∗ aPts c (slot c) (A1 m c) ∗ R) ⊢ run c f Q) :
    iprop(pPts c (chunk c) (P1 m c) ∗ (∃ g, aPts c (slot c) g) ∗ R) ⊢ run c (Prog.lift (.load pM (Rect.unit (s := S512x512) off S16x512.size inb).toLoadRect hl)
      >>= fun v => Prog.lift (.load aM (Rect.unit (s := S32x16x512) off' S1x16x512.size inb').toLoadRect hl')
      >>= fun _ => Prog.lift (.store aM (Rect.unit (s := S32x16x512) off' S1x16x512.size inb'') (k0_pay27 v) Finset.univ hs hm) >>= fun _ => f) Q := by
  unfold run at hk ⊢
  simp only [Prog.lift, Prog.bind_op, Prog.bind_ret]
  have hsub : (pM.access (Rect.unit (s := S512x512) off S16x512.size inb)).set ⊆ chunk c := (chunk_set off inb (fun _ => rfl) c ho).subset
  have hsub' : (aM.access (Rect.unit (s := S32x16x512) off' S1x16x512.size inb')).setOn Finset.univ ⊆ slot c := (slot_access_a off' inb' c ho').subset
  unfold aPts pPts
  iintro ⟨Hp, ⟨%g, Ha⟩, HR⟩
  iapply (wp_load_rect 𝒱₀ (c : Thread nD τ) none Set.univ (m := pM) (r := Rect.unit (s := S512x512) off S16x512.size inb) (S := chunk c) hsub) $$ Hp; iintro Hp
  iapply (wp_load_rect 𝒱₀ (c : Thread nD τ) none Set.univ (m := aM) (r := Rect.unit (s := S32x16x512) off' S1x16x512.size inb') (S := slot c) hsub') $$ Ha; iintro Ha
  iapply (wp_store 𝒱₀ (c : Thread nD τ) none Set.univ (m := aM) (r := Rect.unit (s := S32x16x512) off' S1x16x512.size inb'') (Mk := Finset.univ) (S := slot c) hsub') $$ Ha; iintro Ha
  iapply hk
  isplitl [Hp]; · unfold pPts; iexact Hp
  isplitl [Ha]
  · have e : (((aM.access (Rect.unit (s := S32x16x512) off' S1x16x512.size inb'')).loc (c : Thread nD τ)) ↦[slot c]{fullShare}
        ((aM.access (Rect.unit (s := S32x16x512) off' S1x16x512.size inb'')).write (Elt F) g
          (k0_pay27 ((pM.access (Rect.unit (s := S512x512) off S16x512.size inb)).read (Elt F) (P1 m c))) Finset.univ) : sProp 𝕄) = aPts c (slot c) (A1 m c) := by
      unfold aPts
      refine pointsTo_congr fun i hi => ?_
      rw [slot_store_a off' inb'' c ho' _ _ i hi]
      unfold k0_pay27
      rw [shapeCast_self]
      have h1 : (i 1).val < 16 := (i 1).isLt
      have h2 : c.val < 32 := c.isLt
      refine (shapeCast_ab_1ab_apply _ _ _ _ _).trans ?_
      refine (chunk_read off inb (fun _ => rfl) c ho (P1 m c) (ix2 (i 1) (i 2)) (by show 16 * c.val + (i 1).val < 512; omega)).trans ?_
      have hi0 : i 0 = c := Fin.ext (mem_slot.mp hi)
      unfold A1
      rw [hi0]
    iapply (Entails.of_eq e); iexact Ha
  iexact HR

theorem step_own2 (c : Dev nD) {q : PosShare TreeShare} {off' : Fin 3 → ℕ} (ho' : off' = ![c.val, 0, 0]) {inb} {hl} {inb'} {hl'} {inb''} {hs} {hm}
    {α : Type} {f : Prog (TpuEff nD τ sig (Elt F) Λ₀ .tc) α} {Q : α → sProp 𝕄} {R : sProp 𝕄}
    (hk : iprop(sPts c q (P2 m c) ∗ bPts c (slot c) (A2 m) ∗ R) ⊢ run c f Q) :
    iprop(sPts c q (P2 m c) ∗ (∃ g, bPts c (slot c) g) ∗ R) ⊢ run c (Prog.lift (.load sM (Rect.unit (s := S16x512) ![0, 0] S16x512.size inb).toLoadRect hl)
      >>= fun v => Prog.lift (.load bM (Rect.unit (s := S32x16x512) off' S1x16x512.size inb').toLoadRect hl')
      >>= fun _ => Prog.lift (.store bM (Rect.unit (s := S32x16x512) off' S1x16x512.size inb'') (k0_pay30 v) Finset.univ hs hm) >>= fun _ => f) Q := by
  unfold run at hk ⊢
  simp only [Prog.lift, Prog.bind_op, Prog.bind_ret]
  have hsub' : (bM.access (Rect.unit (s := S32x16x512) off' S1x16x512.size inb')).setOn Finset.univ ⊆ slot c := (slot_access_b off' inb' c ho').subset
  unfold bPts sPts
  iintro ⟨Hp, ⟨%g, Ha⟩, HR⟩
  iapply (wp_load 𝒱₀ (c : Thread nD τ) none Set.univ (m := sM) (Finset.subset_univ _)) $$ Hp; iintro Hp
  rw [show (sM : Memref sig .tc .vmem S16x512 .bf16).view.readAt (Elt F) (Rect.unit (s := S16x512) ![0, 0] S16x512.size inb).toLoadRect (P2 m c) = P2 m c from
    Memref.readAt_unit_zero (Elt F) cc0_scratch3 zz2 _ (P2 m c)]
  iapply (wp_load_rect 𝒱₀ (c : Thread nD τ) none Set.univ (m := bM) (r := Rect.unit (s := S32x16x512) off' S1x16x512.size inb') (S := slot c) hsub') $$ Ha; iintro Ha
  iapply (wp_store 𝒱₀ (c : Thread nD τ) none Set.univ (m := bM) (r := Rect.unit (s := S32x16x512) off' S1x16x512.size inb'') (Mk := Finset.univ) (S := slot c) hsub') $$ Ha; iintro Ha
  iapply hk
  isplitl [Hp]; · unfold sPts; iexact Hp
  isplitl [Ha]
  · have e : (((bM.access (Rect.unit (s := S32x16x512) off' S1x16x512.size inb'')).loc (c : Thread nD τ)) ↦[slot c]{fullShare}
        ((bM.access (Rect.unit (s := S32x16x512) off' S1x16x512.size inb'')).write (Elt F) g (k0_pay30 (P2 m c)) Finset.univ) : sProp 𝕄) = bPts c (slot c) (A2 m) := by
      unfold bPts
      refine pointsTo_congr fun i hi => ?_
      rw [slot_store_b off' inb'' c ho' _ _ i hi]
      unfold k0_pay30
      rw [shapeCast_self]
      refine (shapeCast_ab_1ab_apply _ _ _ _ _).trans ?_
      have hi0 : i 0 = c := Fin.ext (mem_slot.mp hi)
      unfold A2
      rw [hi0]
    iapply (Entails.of_eq e); iexact Ha
  iexact HR

theorem step_sum (c : Dev nD) {w : S16x512.Idx → Elt F .bf16} {inb} {hl} {inb'} {hs} {hm}
    {α : Type} {f : Prog (TpuEff nD τ sig (Elt F) Λ₀ .tc) α} {Q : α → sProp 𝕄} {R : sProp 𝕄}
    (hk : iprop(sPts c fullShare w ∗ R) ⊢ run c f Q) :
    iprop((∃ g, sPts c fullShare g) ∗ R) ⊢ run c (Prog.lift (.load sM (Rect.unit (s := S16x512) ![0, 0] S16x512.size inb).toLoadRect hl)
      >>= fun _ => Prog.lift (.store sM (Rect.unit (s := S16x512) ![0, 0] S16x512.size inb') w Finset.univ hs hm) >>= fun _ => f) Q := by
  unfold run at hk ⊢
  simp only [Prog.lift, Prog.bind_op, Prog.bind_ret]
  unfold sPts
  iintro ⟨⟨%g, Hp⟩, HR⟩
  iapply (wp_load 𝒱₀ (c : Thread nD τ) none Set.univ (m := sM) (Finset.subset_univ _)) $$ Hp; iintro Hp
  iapply (wp_store 𝒱₀ (c : Thread nD τ) none Set.univ (m := sM) (r := Rect.unit (s := S16x512) ![0, 0] S16x512.size inb') (Mk := Finset.univ) (Finset.subset_univ _)) $$ Hp; iintro Hp
  rw [show (sM.access (Rect.unit (s := S16x512) ![0, 0] S16x512.size inb')).write (Elt F) g w Finset.univ = w from
    Memref.write_access_unit_zero_univ (Elt F) cc0_scratch3 zz2 _ g w]
  iapply hk
  unfold sPts
  isplitl [Hp]; · iexact Hp
  iexact HR

/-! The blocks of the partial result, place by place. -/

section Blocks
variable (c : Dev nD) (i : S512x512.Idx)

theorem P1_0 (h : 128 * 0 ≤ (i 0).val) (h' : (i 0).val < 128 * 0 + 128) : part0 m c (ix2 ⟨(i 0).val % 128, Nat.mod_lt _ (by decide)⟩ (i 1)) = P1 m c i := by
  unfold P1; rw [if_pos (by omega)]
theorem P1_1 (h : 128 * 1 ≤ (i 0).val) (h' : (i 0).val < 128 * 1 + 128) : part1 m c (ix2 ⟨(i 0).val % 128, Nat.mod_lt _ (by decide)⟩ (i 1)) = P1 m c i := by
  unfold P1; rw [if_neg (by omega), if_pos (by omega)]
theorem P1_2 (h : 128 * 2 ≤ (i 0).val) (h' : (i 0).val < 128 * 2 + 128) : part2 m c (ix2 ⟨(i 0).val % 128, Nat.mod_lt _ (by decide)⟩ (i 1)) = P1 m c i := by
  unfold P1; rw [if_neg (by omega), if_neg (by omega), if_pos (by omega)]
theorem P1_3 (h : 128 * 3 ≤ (i 0).val) (h' : (i 0).val < 128 * 3 + 128) : part3 m c (ix2 ⟨(i 0).val % 128, Nat.mod_lt _ (by decide)⟩ (i 1)) = P1 m c i := by
  unfold P1; rw [if_neg (by omega), if_neg (by omega), if_neg (by omega)]

end Blocks

/-- Where the own chunk and the own slot lie, as the kernel computes it. -/
theorem off_own (c : Dev nD) : k0_off65 c = ![16 * c.val, 0] := by
  have h : ∀ c : Dev nD, (Scalar.indexCast (Scalar.muli (devWord c) 16#32)).toNat = 16 * c.val := by decide +kernel
  show ![(Scalar.indexCast (Scalar.muli (devWord c) 16#32)).toNat, 0] = _
  rw [h]
theorem off_ownslot (c : Dev nD) : k0_off66 c = ![c.val, 0, 0] := by
  have h : ∀ c : Dev nD, (Scalar.indexCast (devWord c)).toNat = c.val := by decide +kernel
  show ![(Scalar.indexCast (devWord c)).toNat, 0, 0] = _
  rw [h]

/-- Once all chunks have left only the own one is in hand. -/
theorem own_rows (c : Dev nD) : PSt m c 4 32 ⊢ pPts c (chunk c) (P1 m c) := by
  unfold PSt pPts
  iintro ⟨%f, %hf, H⟩
  have e : held c 32 = chunk c := by
    ext i; rw [mem_held, mem_chunk]
    have h : (i 0).val < 512 := (i 0).isLt
    omega
  have e' : (((c : Thread nD τ).loc cc0_scratch1) ↦[held c 32]{fullShare} f : sProp 𝕄) = (((c : Thread nD τ).loc cc0_scratch1) ↦[chunk c]{fullShare} (P1 m c)) := by
    rw [e]
    exact pointsTo_congr fun i _ => hf i (by have h : (i 0).val < 512 := (i 0).isLt; omega)
  iapply (Entails.of_eq e'); iexact H
/-- At the start all rows are. -/
theorem all_rows (c : Dev nD) (f : S512x512.Idx → Elt F .bf16) : pPts c Finset.univ f ⊢ PSt m c 0 0 := by
  unfold PSt
  iintro H
  iexists f
  isplitr
  · ipureintro; intro i hi; omega
  have e : held c 0 = Finset.univ := by
    ext i; rw [mem_held]; simp
  rw [e]; iexact H

end Cert.KernelIdeal.Moe

end
-- ==== Proof.KernelIdealGlue.lean ====
/-
The steps that pass from one phase of the kernel to the next: reading the staged inputs, filling the weights' buffer, and
what each phase takes up and hands on.
-/
module

public import proofs.«01_k».proof.Proof.KernelIdealMem
public import proofs.«01_k».proof.Proof.Gen.KernelIdeal.Skeleton

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- Naming the device. -/
theorem step_dev (c : Dev nD) {α : Type} {f : Dev nD → Prog (TpuEff nD τ sig (Elt F) Λ₀ .tc) α} {Q : α → sProp 𝕄} {S : sProp 𝕄}
    (hk : S ⊢ run c (f c) Q) : S ⊢ run c (Prog.lift .deviceId >>= f) Q := by
  unfold run at hk ⊢
  simp only [Prog.lift, Prog.bind_op, Prog.bind_ret, wp_deviceId]
  exact hk

/-- Returning. -/
theorem step_ret (c : Dev nD) {α : Type} {v : α} {Q : α → sProp 𝕄} {S : sProp 𝕄} (hk : S ⊢ Q v) :
    S ⊢ run c (pure v) Q := by
  unfold run
  show S ⊢ wp frame (wpE (defs₀ (F := F)) 𝒱₀ (c : Thread nD τ) none) Set.univ (Prog.ret v) Q
  rw [wp_ret]
  exact hk.trans fupd_intro

/-- One program after another. -/
theorem step_bind (c : Dev nD) {α β : Type} {p : Prog (TpuEff nD τ sig (Elt F) Λ₀ .tc) α} {f : α → Prog (TpuEff nD τ sig (Elt F) Λ₀ .tc) β}
    {Q : β → sProp 𝕄} {S : sProp 𝕄} (hk : S ⊢ run c p fun v => run c (f v) Q) : S ⊢ run c (p >>= f) Q := by
  unfold run at hk ⊢
  exact hk.trans (Entails.of_eq (by simp only [run, runs]; rw [wp_bind]))

/-- The credit of a copy into a slot of a landing buffer, or out of a chunk. -/
theorem credit_a {off : Fin 3 → ℕ} {inb} {hsub} {hq} : (slotM aM off inb hsub hq).view.dmaCredit = N := rfl
theorem credit_b {off : Fin 3 → ℕ} {inb} {hsub} {hq} : (slotM bM off inb hsub hq).view.dmaCredit = N := rfl
theorem credit_p {off : Fin 2 → ℕ} {inb} {hsub} : (pM.slice (Rect.unit (s := S512x512) off S16x512.size inb) hsub).view.dmaCredit = N := rfl

/-! ## What a device may wait on -/

theorem may3 (c : Dev nD) (k : Fin 4) (hk : k ≠ 3) (j : Fin 32) : levels (F := F) ⊢ MayWait (c : Thread nD τ) (.dma (xS k j)) () (oX 3 c 0) := by
  unfold levels; exact mayWait_x c k j hk 0
theorem may0 (c : Dev nD) (k : Fin 4) (j : Fin 32) : levels (F := F) ⊢ MayWait (c : Thread nD τ) (.dma (xS k j)) () 0 := by
  unfold levels
  refine mayWait_of c _ _ 3 ?_ fun g u hg => absurd hg (Nat.lt_irrefl 0)
  show lv (xCell k c j) () ≤ 3
  rw [lv_x]
  split
  · omega
  · split <;> omega

/-! ## The input blocks and the weights' buffer -/

/-- The four staged input blocks. -/
@[irreducible] def inPts (c : Dev nD) : sProp 𝕄 :=
  iprop((((c : Thread nD τ).loc cc0_stg0_0) ↦{fullShare} xstg m c) ∗ (((c : Thread nD τ).loc cc0_stg1_0) ↦{fullShare} rwstg m c)
    ∗ (((c : Thread nD τ).loc cc0_stg2_0) ↦{fullShare} ristg m c) ∗ (((c : Thread nD τ).loc cc0_stg3_0) ↦{fullShare} ewstg m c))

section Loads

variable (c : Dev nD) {α : Type}

theorem step_xload {Q : α → sProp 𝕄} {S R : sProp 𝕄} {inb} {hl} {f : (S512x256.Idx → Elt F .bf16) → Prog (TpuEff nD τ sig (Elt F) Λ₀ .tc) α}
    (hk : iprop(S ∗ inPts m c ∗ R) ⊢ run c (f (xstg m c)) Q) :
    iprop(S ∗ inPts m c ∗ R) ⊢ run c (Prog.lift (.load xM (Rect.unit (s := S512x256) ![0, 0] S512x256.size inb).toLoadRect hl) >>= f) Q := by
  unfold run inPts at *
  simp only [Prog.lift, Prog.bind_op, Prog.bind_ret]
  iintro ⟨HS, ⟨H0, H1, H2, H3⟩, HR⟩
  iapply (wp_load 𝒱₀ (c : Thread nD τ) none Set.univ (m := xM) (Finset.subset_univ _)) $$ H0; iintro H0
  rw [show (xM : Memref sig .tc .vmem S512x256 .bf16).view.readAt (Elt F) (Rect.unit (s := S512x256) ![0, 0] S512x256.size inb).toLoadRect (xstg m c) = xstg m c from
    Memref.readAt_unit_zero (Elt F) cc0_stg0_0 zz2 _ _]
  iapply hk
  isplitl [HS]; · iexact HS
  isplitr [HR]; · isplitl [H0]; · iexact H0
                  isplitl [H1]; · iexact H1
                  isplitl [H2]; · iexact H2
                  iexact H3
  iexact HR

theorem step_rwload {Q : α → sProp 𝕄} {S R : sProp 𝕄} {inb} {hl} {f : (S256x128.Idx → Elt F .bf16) → Prog (TpuEff nD τ sig (Elt F) Λ₀ .tc) α}
    (hk : iprop(S ∗ inPts m c ∗ R) ⊢ run c (f (rwstg m c)) Q) :
    iprop(S ∗ inPts m c ∗ R) ⊢ run c (Prog.lift (.load rwM (Rect.unit (s := S256x128) ![0, 0] S256x128.size inb).toLoadRect hl) >>= f) Q := by
  unfold run inPts at *
  simp only [Prog.lift, Prog.bind_op, Prog.bind_ret]
  iintro ⟨HS, ⟨H0, H1, H2, H3⟩, HR⟩
  iapply (wp_load 𝒱₀ (c : Thread nD τ) none Set.univ (m := rwM) (Finset.subset_univ _)) $$ H1; iintro H1
  rw [show (rwM : Memref sig .tc .vmem S256x128 .bf16).view.readAt (Elt F) (Rect.unit (s := S256x128) ![0, 0] S256x128.size inb).toLoadRect (rwstg m c) = rwstg m c from
    Memref.readAt_unit_zero (Elt F) cc0_stg1_0 zz2 _ _]
  iapply hk
  isplitl [HS]; · iexact HS
  isplitr [HR]; · isplitl [H0]; · iexact H0
                  isplitl [H1]; · iexact H1
                  isplitl [H2]; · iexact H2
                  iexact H3
  iexact HR

theorem step_riload {Q : α → sProp 𝕄} {S R : sProp 𝕄} {r : LoadRect S512x2} {hl} {f : (r.shape.Idx → Elt F .i32) → Prog (TpuEff nD τ sig (Elt F) Λ₀ .tc) α}
    (hk : iprop(S ∗ inPts m c ∗ R) ⊢ run c (f ((riM : Memref sig .tc .vmem S512x2 .i32).view.readAt (Elt F) r (ristg m c))) Q) :
    iprop(S ∗ inPts m c ∗ R) ⊢ run c (Prog.lift (.load riM r hl) >>= f) Q := by
  unfold run inPts at *
  simp only [Prog.lift, Prog.bind_op, Prog.bind_ret]
  iintro ⟨HS, ⟨H0, H1, H2, H3⟩, HR⟩
  iapply (wp_load 𝒱₀ (c : Thread nD τ) none Set.univ (m := riM) (Finset.subset_univ _)) $$ H2; iintro H2
  iapply hk
  isplitl [HS]; · iexact HS
  isplitr [HR]; · isplitl [H0]; · iexact H0
                  isplitl [H1]; · iexact H1
                  isplitl [H2]; · iexact H2
                  iexact H3
  iexact HR

theorem step_ewload {Q : α → sProp 𝕄} {S R : sProp 𝕄} {r : LoadRect S4x256x512} {hl} {f : (r.shape.Idx → Elt F .bf16) → Prog (TpuEff nD τ sig (Elt F) Λ₀ .tc) α}
    (hk : iprop(S ∗ inPts m c ∗ R) ⊢ run c (f ((ewM : Memref sig .tc .vmem S4x256x512 .bf16).view.readAt (Elt F) r (ewstg m c))) Q) :
    iprop(S ∗ inPts m c ∗ R) ⊢ run c (Prog.lift (.load ewM r hl) >>= f) Q := by
  unfold run inPts at *
  simp only [Prog.lift, Prog.bind_op, Prog.bind_ret]
  iintro ⟨HS, ⟨H0, H1, H2, H3⟩, HR⟩
  iapply (wp_load 𝒱₀ (c : Thread nD τ) none Set.univ (m := ewM) (Finset.subset_univ _)) $$ H3; iintro H3
  iapply hk
  isplitl [HS]; · iexact HS
  isplitr [HR]; · isplitl [H0]; · iexact H0
                  isplitl [H1]; · iexact H1
                  isplitl [H2]; · iexact H2
                  iexact H3
  iexact HR

/-- A load of the weights' buffer whose result is not used, and a store there. -/
theorem step_wdead {Q : α → sProp 𝕄} {S R : sProp 𝕄} {g : S256x2048.Idx → Elt F .bf16} {r : LoadRect S256x2048} {hl} {f : (r.shape.Idx → Elt F .bf16) → Prog (TpuEff nD τ sig (Elt F) Λ₀ .tc) α}
    {T : sProp 𝕄} (hk : ∀ v, iprop(S ∗ T ∗ wPts c g ∗ R) ⊢ run c (f v) Q) :
    iprop(S ∗ T ∗ wPts c g ∗ R) ⊢ run c (Prog.lift (.load wM r hl) >>= f) Q := by
  unfold run wPts at *
  simp only [Prog.lift, Prog.bind_op, Prog.bind_ret]
  iintro ⟨HS, HT, Hw, HR⟩
  iapply (wp_load 𝒱₀ (c : Thread nD τ) none Set.univ (m := wM) (Finset.subset_univ _)) $$ Hw; iintro Hw
  iapply (hk _)
  isplitl [HS]; · iexact HS
  isplitl [HT]; · iexact HT
  isplitl [Hw]; · iexact Hw
  iexact HR
theorem step_wstore {Q : α → sProp 𝕄} {S R : sProp 𝕄} {g : S256x2048.Idx → Elt F .bf16} {r : Rect S256x2048} {w : r.shape.Idx → Elt F .bf16} {hs} {hm}
    {f : PUnit → Prog (TpuEff nD τ sig (Elt F) Λ₀ .tc) α} {T : sProp 𝕄}
    (hk : iprop(S ∗ T ∗ wPts c (((wM : Memref sig .tc .vmem S256x2048 .bf16).access r).write (Elt F) g w Finset.univ) ∗ R) ⊢ run c (f ⟨⟩) Q) :
    iprop(S ∗ T ∗ wPts c g ∗ R) ⊢ run c (Prog.lift (.store wM r w Finset.univ hs hm) >>= f) Q := by
  unfold run wPts at *
  simp only [Prog.lift, Prog.bind_op, Prog.bind_ret]
  iintro ⟨HS, HT, Hw, HR⟩
  iapply (wp_store 𝒱₀ (c : Thread nD τ) none Set.univ (m := wM) (r := r) (Mk := Finset.univ) (Finset.subset_univ _)) $$ Hw; iintro Hw
  iapply hk
  isplitl [HS]; · iexact HS
  isplitl [HT]; · iexact HT
  isplitl [Hw]; · iexact Hw
  iexact HR

end Loads

/-- A store of 512 columns from column `n` on, place by place. -/
theorem cols_write (off : Fin 2 → ℕ) (inb : ∀ a, off a + S256x512.size a ≤ S256x2048.size a) (n : ℕ) (ho : off = ![0, n])
    (f : S256x2048.Idx → Elt F .bf16) (w : S256x512.Idx → Elt F .bf16) (i : S256x2048.Idx) :
    ((wM : Memref sig .tc .vmem S256x2048 .bf16).access (Rect.unit (s := S256x2048) off S256x512.size inb)).write (Elt F) f w Finset.univ i
      = if h : n ≤ (i 1).val ∧ (i 1).val < n + 512 then w (ix2 (i 0) ⟨(i 1).val - n, by omega⟩) else f i := by
  subst ho
  have hemb : ∀ y : S256x512.Idx, ((wM : Memref sig .tc .vmem S256x2048 .bf16).access (Rect.unit (s := S256x2048) ![0, n] S256x512.size inb)).emb y
      = (Rect.unit (s := S256x2048) ![0, n] S256x512.size inb).emb y := fun y => rfl
  split
  · rename_i h
    let y : S256x512.Idx := ix2 (i 0) ⟨(i 1).val - n, by omega⟩
    have e : i = ((wM : Memref sig .tc .vmem S256x2048 .bf16).access (Rect.unit (s := S256x2048) ![0, n] S256x512.size inb)).emb y := by
      rw [hemb]
      funext a
      apply Fin.ext
      rw [Rect.emb_apply]
      match a with
      | 0 => show (i 0).val = 0 + 1 * (i 0).val; omega
      | 1 => show (i 1).val = n + 1 * ((i 1).val - n); omega
    conv_lhs => rw [e]
    rw [View.write_emb_of_mem _ _ (Finset.mem_univ _)]; rfl
  · rename_i h
    refine View.write_of_not_mem _ _ _ ?_
    rw [View.setOn, Finset.mem_map]
    rintro ⟨y, -, rfl⟩
    have h1 : (y 1).val < 512 := (y 1).isLt
    have e : ((((wM : Memref sig .tc .vmem S256x2048 .bf16).access (Rect.unit (s := S256x2048) ![0, n] S256x512.size inb)).emb y : S256x2048.Idx) 1).val = n + 1 * (y 1).val := by
      rw [hemb, Rect.emb_apply]; rfl
    exact h (by rw [e]; omega)

/-- The four stores fill the buffer. -/
theorem wAll_eq (c : Dev nD) (f : S256x2048.Idx → Elt F .bf16) : wAll m c f = wCat m c := by
  funext i
  have hi : (i 1).val < 2048 := (i 1).isLt
  have q : ∀ {a b : ℕ} (ha : a < 512) (hb : b < 512), a = b → (ix2 (i 0) ⟨a, ha⟩ : S256x512.Idx) = ix2 (i 0) ⟨b, hb⟩ := fun _ _ e => by subst e; rfl
  unfold wAll wCat
  rw [cols_write _ _ 1536 rfl]
  split
  · rw [if_neg (by omega), if_neg (by omega), if_neg (by omega)]; exact congrArg _ (q _ _ (by omega))
  · rw [cols_write _ _ 1024 rfl]
    split
    · rw [if_neg (by omega), if_neg (by omega), if_pos (by omega)]; exact congrArg _ (q _ _ (by omega))
    · rw [cols_write _ _ 512 rfl]
      split
      · rw [if_neg (by omega), if_pos (by omega)]; exact congrArg _ (q _ _ (by omega))
      · rw [cols_write _ _ 0 rfl, dif_pos ⟨by omega, by omega⟩, if_pos (by omega)]; exact congrArg _ (q _ _ (by omega))

/-! ## What is held per other device -/

variable (K : Dev nD × CK → ℕ) (c : Dev nD)

/-- The tokens of the two exchanges' copies, -/
def tok1 : sProp 𝕄 := bigSep (others c) fun j => iprop(dutyTok ER (xCell 0 c j) 0 0 ∗ dutyTok ER (xCell 1 j c) 0 0)
def tok2 : sProp 𝕄 := bigSep (others c) fun j => iprop(dutyTok ER (xCell 2 c j) 0 0 ∗ dutyTok ER (xCell 3 j c) 0 0)
/-- the credit to be received on the `k`-th array, -/
def creds (k : Fin 4) : sProp 𝕄 := bigSep (others c) fun j => cred (tallyAt (xCell k c j) () N)
/-- the positions on it before and after, -/
def ready (k : Fin 4) : sProp 𝕄 := bigSep (others c) fun j => atPos ER (xCell k c j) 0 ∅ 0
def done (k : Fin 4) : sProp 𝕄 := bigSep (others c) fun j => atPos ER (xCell k c j) 1 ∅ 0
/-- what the transfers hand over, -/
def paid (k : Fin 4) : sProp 𝕄 := bigSep (others c) fun j => xPay m k c j
/-- and the slots of the other devices' second landing buffers. -/
def slotsB : sProp 𝕄 := bigSep (others c) fun j => iprop(∃ f, bPts (F := F) j (slot c) f)

theorem sig_enter :
    iprop(known m K ∗ debt c (O₀ c) ∗ (bigSep (others c) fun j => dutyTok ER (barCell j) 0 c) ∗ (∃ f, aPts c Finset.univ f) ∗ (∃ f, bPts c Finset.univ f))
      ⊢ iprop(SigSt m K c 0 ∗ (∃ f, aPts c (slot c) f) ∗ (∃ f, bPts c (slot c) f)) := by
  unfold SigSt
  rw [served_zero]
  iintro ⟨#HK, HO, Ht, ⟨%f, Ha⟩, ⟨%g, Hb⟩⟩
  ihave Ha' := (Entails.of_eq (aPts_slots c f)) $$ Ha
  ihave Hb' := (Entails.of_eq (bPts_slots c g)) $$ Hb
  icases Ha' with ⟨Ha, Has⟩
  icases Hb' with ⟨Hb, Hbs⟩
  isplitl [HO Ht Has Hbs]
  · isplitr; · iexact HK
    isplitl [HO]; · iexact HO
    iapply (show iprop((bigSep (others c) fun j => (dutyTok ER (barCell j) 0 c : sProp 𝕄)) ∗ (bigSep (others c) fun j => aPts c (slot j) f) ∗ (bigSep (others c) fun j => bPts c (slot j) g))
        ⊢ bigSep (others c) fun j => iprop(dutyTok ER (barCell j) 0 c ∗ barPay j c) from by
      rw [← bigSep_sep', ← bigSep_sep']
      refine bigSep_mono fun j _ => ?_
      change (_ : sProp 𝕄) ⊢ (_ : sProp 𝕄)
      unfold barPay
      iintro ⟨H1, H2, H3⟩
      isplitl [H1]; · iexact H1
      isplitl [H2]; · iexists f; iexact H2
      iexists g; iexact H3)
    isplitl [Ht]; · iexact Ht
    isplitl [Has]; · iexact Has
    iexact Hbs
  isplitl [Ha]; · iexists f; iexact Ha
  iexists g; iexact Hb

theorem sig_done : SigSt m K c 32 ⊢ iprop(known m K ∗ debt c (oX 1 c 0 + oX 3 c 0)) := by
  unfold SigSt
  rw [oBar_end, zero_add]
  iintro ⟨H, HO, -⟩
  isplitl [H]; · iexact H
  iexact HO

/-- The first exchange's state without the rows of the partial result. -/
@[irreducible] def S1R (n : ℕ) : sProp 𝕄 :=
  iprop(known m K ∗ debt c (oX 1 c n + oX 3 c 0)
    ∗ served c (fun j => iprop(dutyTok ER (xCell 0 c j) 0 0 ∗ dutyTok ER (xCell 1 j c) 0 0 ∗ ∃ f, aPts j (slot c) f))
        (fun j => cred (tallyAt (xCell 0 c j) () N)) n)

theorem S1St_split (k n : ℕ) : S1St m K c k n ⊢ iprop(PSt m c k n ∗ S1R m K c n) := by
  unfold S1St PSt S1R
  iintro ⟨H1, H2, H3, H4⟩
  isplitl [H3]; · iexact H3
  isplitl [H1]; · iexact H1
  isplitl [H2]; · iexact H2
  iexact H4
theorem S1St_join (k n : ℕ) : iprop(PSt m c k n ∗ S1R m K c n) ⊢ S1St m K c k n := by
  unfold S1St PSt S1R
  iintro ⟨H3, H1, H2, H4⟩
  isplitl [H1]; · iexact H1
  isplitl [H2]; · iexact H2
  isplitl [H3]; · iexact H3
  iexact H4

theorem enter1 : iprop(BarSt m K c ∗ PSt m c 1 0 ∗ tok1 c) ⊢ iprop(S1St m K c 1 0 ∗ atPos ER (barCell c) 1 ∅ 0 ∗ slotsB c) := by
  unfold BarSt tok1 slotsB
  iintro ⟨⟨HK, HO, Ha, Hp⟩, HP, Ht⟩
  ihave Hp' := (show (bigSep (others c) fun d => barPay (F := F) c d) ⊢
      iprop((bigSep (others c) fun d => iprop(∃ f, aPts (F := F) d (slot c) f)) ∗ bigSep (others c) fun d => iprop(∃ f, bPts (F := F) d (slot c) f)) from by
    rw [← bigSep_sep']; exact Entails.of_eq rfl) $$ Hp
  icases Hp' with ⟨Has, Hbs⟩
  isplitl [HK HO HP Ht Has]
  · iapply (S1St_join m K c 1 0)
    isplitl [HP]; · iexact HP
    unfold S1R
    rw [served_zero]
    isplitl [HK]; · iexact HK
    isplitl [HO]; · iexact HO
    iapply (show iprop((bigSep (others c) fun j => iprop(dutyTok ER (xCell 0 c j) 0 0 ∗ dutyTok ER (xCell 1 j c) 0 0)) ∗ (bigSep (others c) fun d => iprop(∃ f, aPts (F := F) d (slot c) f)))
        ⊢ bigSep (others c) fun j => iprop(dutyTok ER (xCell 0 c j) 0 0 ∗ dutyTok ER (xCell 1 j c) 0 0 ∗ ∃ f, aPts j (slot c) f) from by
      rw [← bigSep_sep']
      refine bigSep_mono fun j _ => ?_
      change (_ : sProp 𝕄) ⊢ (_ : sProp 𝕄)
      iintro ⟨⟨H1, H2⟩, H3⟩
      isplitl [H1]; · iexact H1
      isplitl [H2]; · iexact H2
      iexact H3)
    isplitl [Ht]; · iexact Ht
    iexact Has
  isplitl [Ha]; · iexact Ha
  iexact Hbs

theorem leave1 : S1St m K c 4 32 ⊢ iprop(pPts c (chunk c) (P1 m c) ∗ known m K ∗ debt c (oX 3 c 0) ∗ creds c 0) := by
  refine (S1St_split m K c 4 32).trans ?_
  unfold S1R creds
  rw [served_end, oX_end, zero_add]
  iintro ⟨HP, H1, H2, H3⟩
  isplitl [HP]; · iapply (own_rows m c); iexact HP
  isplitl [H1]; · iexact H1
  isplitl [H2]; · iexact H2
  iexact H3

theorem enterW (k : Fin 4) (O : CellTallies nD τ sig Unit) : iprop(known m K ∗ debt c O ∗ creds c k ∗ ready c k) ⊢ WSt m K k c O 0 := by
  unfold WSt creds ready
  rw [served_zero]
  iintro ⟨H1, H2, H3, H4⟩
  isplitl [H1]; · iexact H1
  isplitl [H2]; · iexact H2
  iapply (Entails.of_eq (bigSep_sep' (others c) (fun j => (cred (tallyAt (xCell k c j) () N) : sProp 𝕄)) (fun j => atPos ER (xCell k c j) 0 ∅ 0)).symm)
  isplitl [H3]; · iexact H3
  iexact H4

theorem leaveW (k : Fin 4) (O : CellTallies nD τ sig Unit) : WSt m K k c O 32 ⊢ iprop(known m K ∗ debt c O ∗ done c k ∗ paid m c k) := by
  unfold WSt done paid
  rw [served_end]
  iintro ⟨H1, H2, H3⟩
  isplitl [H1]; · iexact H1
  isplitl [H2]; · iexact H2
  iapply (show (bigSep (others c) fun j => iprop(atPos ER (xCell k c j) 1 ∅ 0 ∗ xPay m k c j))
    ⊢ iprop((bigSep (others c) fun j => atPos ER (xCell k c j) 1 ∅ 0) ∗ bigSep (others c) fun j => xPay m k c j) from by
      rw [← bigSep_sep'])
  iexact H3

theorem join_a : iprop(aPts c (slot c) (A1 m c) ∗ paid m c 1) ⊢ aPts c Finset.univ (A1 m c) := Entails.of_eq (aPts_slots c (A1 m c)).symm
theorem join_b : iprop(bPts c (slot c) (A2 m) ∗ paid m c 3) ⊢ bPts c Finset.univ (A2 m) := Entails.of_eq (bPts_slots c (A2 m)).symm
theorem join_p : iprop(pPts c (chunk c) (P1 m c) ∗ paid m c 0) ⊢ pPts c Finset.univ (P1 m c) := Entails.of_eq (pPts_chunks c (P1 m c)).symm
theorem join_s : iprop(sPts c (restShare 32) (P2 m c) ∗ sPts c (cutShare c.val) (P2 m c) ∗ paid m c 2) ⊢ sPts c fullShare (P2 m c) := (sPts_shares c (P2 m c)).2

theorem enter2 : iprop(known m K ∗ debt c (oX 3 c 0) ∗ sPts c fullShare (P2 m c) ∗ tok2 c ∗ slotsB c)
    ⊢ iprop(S2St m K c 0 ∗ sPts c (restShare 32) (P2 m c) ∗ sPts c (cutShare c.val) (P2 m c)) := by
  unfold S2St tok2 slotsB
  rw [served_zero]
  iintro ⟨HK, HO, Hs, Ht, Hb⟩
  ihave Hs' := (sPts_shares c (P2 m c)).1 $$ Hs
  icases Hs' with ⟨Hr, Hc, Hs⟩
  isplitl [HK HO Hs Ht Hb]
  · isplitl [HK]; · iexact HK
    isplitl [HO]; · iexact HO
    iapply (show iprop((bigSep (others c) fun j => iprop(dutyTok ER (xCell 2 c j) 0 0 ∗ dutyTok ER (xCell 3 j c) 0 0)) ∗ (bigSep (others c) fun d => iprop(∃ f, bPts (F := F) d (slot c) f))
          ∗ bigSep (others c) fun j => sPts c (cutShare j.val) (P2 m c))
        ⊢ bigSep (others c) fun j => iprop((dutyTok ER (xCell 2 c j) 0 0 ∗ dutyTok ER (xCell 3 j c) 0 0 ∗ ∃ f, bPts j (slot c) f) ∗ sPts c (cutShare j.val) (P2 m c)) from by
      rw [← bigSep_sep', ← bigSep_sep']
      refine bigSep_mono fun j _ => ?_
      change (_ : sProp 𝕄) ⊢ (_ : sProp 𝕄)
      iintro ⟨⟨H1, H2⟩, H3, H4⟩
      isplitr [H4]
      · isplitl [H1]; · iexact H1
        isplitl [H2]; · iexact H2
        iexact H3
      iexact H4)
    isplitl [Ht]; · iexact Ht
    isplitl [Hb]; · iexact Hb
    iexact Hs
  isplitl [Hr]; · iexact Hr
  iexact Hc

theorem leave2 : S2St m K c 32 ⊢ iprop(known m K ∗ debt c 0 ∗ creds c 2) := by
  unfold S2St creds
  rw [served_end, oX_end]

/-- A block of rows computed while the first exchange is under way. -/
theorem step_block1 (k : ℕ) (hk4 : k < 4) {off : Fin 2 → ℕ} (ho : off = ![128 * k, 0]) {inb inb'} {hl} {w : S128x512.Idx → Elt F .bf16} {hs} {hm}
    (hw : ∀ i : S512x512.Idx, 128 * k ≤ (i 0).val → (i 0).val < 128 * k + 128 →
      w (ix2 ⟨(i 0).val % 128, Nat.mod_lt _ (by decide)⟩ (i 1)) = P1 m c i)
    {α : Type} {f : Prog (TpuEff nD τ sig (Elt F) Λ₀ .tc) α} {Q : α → sProp 𝕄} {R : sProp 𝕄}
    (hk : iprop(S1St m K c (k + 1) (8 * k) ∗ R) ⊢ run c f Q) :
    iprop(S1St m K c k (8 * k) ∗ R) ⊢ run c (Prog.lift (.load pM (Rect.unit (s := S512x512) off S128x512.size inb).toLoadRect hl)
      >>= fun _ => Prog.lift (.store pM (Rect.unit (s := S512x512) off S128x512.size inb') w Finset.univ hs hm) >>= fun _ => f) Q := by
  refine BIBase.Entails.trans (Q := iprop(PSt m c k (8 * k) ∗ S1R m K c (8 * k) ∗ R)) ?_ (step_block m c k hk4 ho hw (BIBase.Entails.trans ?_ hk))
  · iintro ⟨H, HR⟩
    ihave H' := (S1St_split m K c k (8 * k)) $$ H
    icases H' with ⟨H1, H2⟩
    isplitl [H1]; · iexact H1
    isplitl [H2]; · iexact H2
    iexact HR
  · iintro ⟨H1, H2, HR⟩
    isplitr [HR]
    · iapply (S1St_join m K c (k + 1) (8 * k))
      isplitl [H1]; · iexact H1
      iexact H2
    iexact HR

end Cert.KernelIdeal.Moe

end
-- ==== Proof.KernelIdealParts1.lean ====
/-
The parts of the kernel up to the end of the local computation: every other device is signalled, the weights are filled in,
and the blocks of the partial result are computed and sent.
-/
module

public import proofs.«01_k».proof.Proof.KernelIdealGlue

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

section Parts

variable (K : Dev nD × CK → ℕ) (c : Dev nD)
  (h0 : (xM : Memref sig .tc .vmem S512x256 .bf16).IsWhole) (h1 : (rwM : Memref sig .tc .vmem S256x128 .bf16).IsWhole)
  (h2 : (riM : Memref sig .tc .vmem S512x2 .i32).IsWhole) (h3 : (ewM : Memref sig .tc .vmem S4x256x512 .bf16).IsWhole)
  (h4 : (oM : Memref sig .tc .vmem S512x512 .f32).IsWhole) (h5 : (wM : Memref sig .tc .vmem S256x2048 .bf16).IsWhole)
  (h6 : (pM : Memref sig .tc .vmem S512x512 .bf16).IsWhole) (h7 : (aM : Memref sig .tc .vmem S32x16x512 .bf16).IsWhole)
  (h8 : (sM : Memref sig .tc .vmem S16x512 .bf16).IsWhole) (h9 : (bM : Memref sig .tc .vmem S32x16x512 .bf16).IsWhole)

theorem part1_ok {R : sProp 𝕄} {Q : (Σ' (d0 : Dev nD) (v2 : BitVec 32), Sems sig S_) → sProp 𝕄}
    (hk : iprop(SigSt m K c 8 ∗ R) ⊢ Q ⟨c, devWord c, SemArray.scalar (sig.barrier 0 rfl)⟩) :
    iprop(SigSt m K c 0 ∗ R) ⊢ run c (k0_part1 (F := F) xM h0 rwM h1 riM h2 ewM h3 oM h4 wM h5 pM h6 aM h7 sM h8 bM h9 cc0_scratch5 cc0_scratch6 cc0_scratch7 cc0_scratch8) Q := by
  rw [k0_part1_eq_skeleton]
  unfold k0_part1_skel
  refine step_dev c ?_
  iterate 8
    refine step_sig m K c _ (by decide) (guard_iff _ (by decide) c) (fun _ => by rfl) ?_
  exact step_ret c hk

theorem part2_ok {R : sProp 𝕄} {Q : PUnit → sProp 𝕄}
    (hk : iprop(SigSt m K c 18 ∗ R) ⊢ Q ⟨⟩) :
    iprop(SigSt m K c 8 ∗ R) ⊢ run c (k0_part2 (F := F) xM h0 rwM h1 riM h2 ewM h3 oM h4 wM h5 pM h6 aM h7 sM h8 bM h9 cc0_scratch5 cc0_scratch6 cc0_scratch7 cc0_scratch8 c (devWord c) (SemArray.scalar (sig.barrier 0 rfl))) Q := by
  rw [k0_part2_eq_skeleton]
  unfold k0_part2_skel
  iterate 10
    refine step_sig m K c _ (by decide) (guard_iff _ (by decide) c) (fun _ => by rfl) ?_
  exact step_ret c hk

theorem part3_ok {R : sProp 𝕄} {Q : PUnit → sProp 𝕄}
    (hk : iprop(SigSt m K c 28 ∗ R) ⊢ Q ⟨⟩) :
    iprop(SigSt m K c 18 ∗ R) ⊢ run c (k0_part3 (F := F) xM h0 rwM h1 riM h2 ewM h3 oM h4 wM h5 pM h6 aM h7 sM h8 bM h9 cc0_scratch5 cc0_scratch6 cc0_scratch7 cc0_scratch8 c (devWord c) (SemArray.scalar (sig.barrier 0 rfl))) Q := by
  rw [k0_part3_eq_skeleton]
  unfold k0_part3_skel
  iterate 10
    refine step_sig m K c _ (by decide) (guard_iff _ (by decide) c) (fun _ => by rfl) ?_
  exact step_ret c hk

/-- The buffer after the first three of its four stores, and the last expert's weights before their last cast. -/
def w3 (g : S256x2048.Idx → Elt F .bf16) : S256x2048.Idx → Elt F .bf16 :=
  (((wM : Memref sig .tc .vmem S256x2048 .bf16).access (Rect.unit (s := S256x2048) ![0, 1024] S256x512.size inb_S256x2048_S256x512_0_1024)).write (Elt F)
      (((wM : Memref sig .tc .vmem S256x2048 .bf16).access (Rect.unit (s := S256x2048) ![0, 512] S256x512.size inb_S256x2048_S256x512_0_512)).write (Elt F)
        (((wM : Memref sig .tc .vmem S256x2048 .bf16).access (Rect.unit (s := S256x2048) ![0, 0] S256x512.size inb_S256x2048_S256x512_0_0)).write (Elt F)
          g (wk0 m c) Finset.univ) (wk1 m c) Finset.univ) (wk2 m c) Finset.univ)
def e3 : FVec F S256x512 .bf16 :=
  k0_pay5 ((ewM : Memref sig .tc .vmem S4x256x512 .bf16).view.readAt (Elt F) (Rect.unit (s := S4x256x512) ![3, 0, 0] S1x256x512.size inb_S4x256x512_S1x256x512_3_0_0).toLoadRect (ewstg m c))

theorem part4_ok {g : S256x2048.Idx → Elt F .bf16} {R : sProp 𝕄} {Q : (Σ' (v116 : FVec F S256x512 .bf16), Vec F S256x512 .bf16) → sProp 𝕄}
    (hk : ∀ v, iprop(SigSt m K c 32 ∗ inPts m c ∗ wPts c (w3 m c g) ∗ R) ⊢ Q ⟨e3 m c, v⟩) :
    iprop(SigSt m K c 28 ∗ inPts m c ∗ wPts c g ∗ R) ⊢ run c (k0_part4 (F := F) xM h0 rwM h1 riM h2 ewM h3 oM h4 wM h5 pM h6 aM h7 sM h8 bM h9 cc0_scratch5 cc0_scratch6 cc0_scratch7 cc0_scratch8 c (devWord c) (SemArray.scalar (sig.barrier 0 rfl))) Q := by
  rw [k0_part4_eq_skeleton]
  unfold k0_part4_skel
  iterate 4
    refine step_sig m K c _ (by decide) (guard_iff _ (by decide) c) (fun _ => by rfl) ?_
  refine step_ewload m c ?_
  refine step_wdead c fun _ => ?_
  refine step_wstore c ?_
  refine step_ewload m c ?_
  refine step_wdead c fun _ => ?_
  refine step_wstore c ?_
  refine step_ewload m c ?_
  refine step_wdead c fun _ => ?_
  refine step_wstore c ?_
  refine step_ewload m c ?_
  refine step_wdead c fun v => ?_
  exact step_ret c (hk v)

theorem part5_ok {g : S256x2048.Idx → Elt F .bf16} {v : Vec F S256x512 .bf16} {S R : sProp 𝕄} {Q : (Σ' (v121 : FVec F S512x256 .bf16) (v129 : IVec S512x1 32) (v149 : FVec F S512x1 .f32) (v153 : IVec S1x4 32) (v158 : FVec F S512x4 .f32), FVec F S512x4 .f32) → sProp 𝕄}
    (hk : iprop(S ∗ inPts m c ∗ wPts c (wCat m c) ∗ R) ⊢ Q ⟨k0_pay7 (xstg m c), k0_pay9 (F := F) (ri1 m c), k0_pay11 (xstg m c) (rwstg m c) (ri0 m c) (ri1 m c), k0_pay12 (devWord c), k0_pay13 (devWord c) (ri0 m c), k0_pay14 (xstg m c) (rwstg m c) (ri0 m c) (ri1 m c)⟩) :
    iprop(S ∗ inPts m c ∗ wPts c (w3 m c g) ∗ R) ⊢ run c (k0_part5 (F := F) xM h0 rwM h1 riM h2 ewM h3 oM h4 wM h5 pM h6 aM h7 sM h8 bM h9 cc0_scratch5 cc0_scratch6 cc0_scratch7 cc0_scratch8 (devWord c) (e3 m c) v) Q := by
  rw [k0_part5_eq_skeleton]
  unfold k0_part5_skel
  refine step_wstore c ?_
  refine step_xload m c ?_
  refine step_rwload m c ?_
  refine step_riload m c ?_
  refine step_riload m c ?_
  refine step_ret c ?_
  rw [← wAll_eq m c g] at hk
  exact hk

theorem part6_ok {T R : sProp 𝕄} {Q : FVec F S512x4 .f32 → sProp 𝕄}
    (hk : iprop(S1St m K c 1 1 ∗ wPts c (wCat m c) ∗ (atPos ER (barCell c) 1 ∅ 0 ∗ slotsB c) ∗ T ∗ R) ⊢ Q (wloc m c)) :
    iprop(SigSt m K c 32 ∗ T ∗ wPts c (wCat m c) ∗ (cred (tallyAt (barCell c) () 31) ∗ atPos ER (barCell c) 0 ∅ 0 ∗ PSt m c 0 0 ∗ tok1 c) ∗ R)
      ⊢ run c (k0_part6 (F := F) xM h0 rwM h1 riM h2 ewM h3 oM h4 wM h5 pM h6 aM h7 sM h8 bM h9 cc0_scratch5 cc0_scratch6 cc0_scratch7 cc0_scratch8 c (devWord c) (SemArray.scalar (sig.barrier 0 rfl)) (k0_pay7 (xstg m c)) (k0_pay9 (F := F) (ri1 m c)) (k0_pay11 (xstg m c) (rwstg m c) (ri0 m c) (ri1 m c)) (k0_pay12 (devWord c)) (k0_pay13 (devWord c) (ri0 m c)) (k0_pay14 (xstg m c) (rwstg m c) (ri0 m c) (ri1 m c))) Q := by
  rw [k0_part6_eq_skeleton]
  unfold k0_part6_skel
  refine BIBase.Entails.trans (Q := iprop(PSt m c 0 0 ∗ wPts c (wCat m c) ∗ T ∗ known m K ∗ debt c (oX 1 c 0 + oX 3 c 0) ∗ cred (tallyAt (barCell c) () 31)
    ∗ atPos ER (barCell c) 0 ∅ 0 ∗ tok1 c ∗ R)) ?_ ?_
  · iintro ⟨HS, HT, HW, ⟨H1, H2, H3, H4⟩, HR⟩
    ihave HS' := (sig_done m K c) $$ HS
    icases HS' with ⟨HK, HO⟩
    isplitl [H3]; · iexact H3
    isplitl [HW]; · iexact HW
    isplitl [HT]; · iexact HT
    isplitl [HK]; · iexact HK
    isplitl [HO]; · iexact HO
    isplitl [H1]; · iexact H1
    isplitl [H2]; · iexact H2
    isplitl [H4]; · iexact H4
    iexact HR
  refine step_wload c _ ?_
  refine step_block m c 0 (by decide) rfl (fun i h h' => P1_0 m c i h h') ?_
  refine BIBase.Entails.trans (Q := iprop(known m K ∗ debt c (oX 1 c 0 + oX 3 c 0) ∗ cred (tallyAt (barCell c) () 31) ∗ atPos ER (barCell c) 0 ∅ 0
    ∗ PSt m c 1 0 ∗ wPts c (wCat m c) ∗ T ∗ tok1 c ∗ R)) ?_ ?_
  · iintro ⟨H3, HW, HT, HK, HO, H1, H2, H4, HR⟩
    isplitl [HK]; · iexact HK
    isplitl [HO]; · iexact HO
    isplitl [H1]; · iexact H1
    isplitl [H2]; · iexact H2
    isplitl [H3]; · iexact H3
    isplitl [HW]; · iexact HW
    isplitl [HT]; · iexact HT
    isplitl [H4]; · iexact H4
    iexact HR
  refine step_bar m K c ?_
  refine BIBase.Entails.trans (Q := iprop(S1St m K c 1 0 ∗ wPts c (wCat m c) ∗ (atPos ER (barCell c) 1 ∅ 0 ∗ slotsB c) ∗ T ∗ R)) ?_ ?_
  · iintro ⟨HB, HP, HW, HT, H4, HR⟩
    ihave HE := (enter1 m K c) $$ [HB HP H4]
    · isplitl [HB]; · iexact HB
      isplitl [HP]; · iexact HP
      iexact H4
    icases HE with ⟨H1, H2⟩
    isplitl [H1]; · iexact H1
    isplitl [HW]; · iexact HW
    isplitl [H2]; · iexact H2
    isplitl [HT]; · iexact HT
    iexact HR
  refine step_start1 m K c _ _ (by decide) (by decide) (guard_iff _ (by decide) c) (fun _ => sem_unit _ _ _ _ ⟨_, by decide⟩ rfl)
    (fun _ => sem_unit _ _ _ _ c (off_one c)) (fun _ => by rfl) (fun _ => rfl) (fun _ => off_slot c) ?_
  exact step_ret c hk

theorem part7_ok {R : sProp 𝕄} {Q : (Σ' (v223 : FVec F S128x2048 .f32) (v229 : FVec F S128x512 .f32), FVec F S128x512 .f32) → sProp 𝕄}
    (hk : iprop(S1St m K c 1 8 ∗ wPts c (wCat m c) ∗ R) ⊢ Q ⟨k0_pay17 (k0_pay7 (xstg m c)) (wCat m c), k0_pay18 (k0_pay7 (xstg m c)) (wloc m c) (wCat m c), k0_pay19 (k0_pay7 (xstg m c)) (wloc m c) (wCat m c)⟩) :
    iprop(S1St m K c 1 1 ∗ wPts c (wCat m c) ∗ R) ⊢ run c (k0_part7 (F := F) xM h0 rwM h1 riM h2 ewM h3 oM h4 wM h5 pM h6 aM h7 sM h8 bM h9 cc0_scratch5 cc0_scratch6 cc0_scratch7 cc0_scratch8 c (devWord c) (k0_pay7 (xstg m c)) (wloc m c)) Q := by
  rw [k0_part7_eq_skeleton]
  unfold k0_part7_skel
  iterate 7
    refine step_start1 m K c _ _ (by decide) (by decide) (guard_iff _ (by decide) c) (fun _ => sem_unit _ _ _ _ ⟨_, by decide⟩ rfl)
      (fun _ => sem_unit _ _ _ _ c (off_one c)) (fun _ => by rfl) (fun _ => rfl) (fun _ => off_slot c) ?_
  refine step_wload c _ ?_
  exact step_ret c hk

theorem part8_ok {R : sProp 𝕄} {Q : PUnit → sProp 𝕄}
    (hk : iprop(S1St m K c 2 14 ∗ wPts c (wCat m c) ∗ R) ⊢ Q ⟨⟩) :
    iprop(S1St m K c 1 8 ∗ wPts c (wCat m c) ∗ R) ⊢ run c (k0_part8 (F := F) xM h0 rwM h1 riM h2 ewM h3 oM h4 wM h5 pM h6 aM h7 sM h8 bM h9 cc0_scratch5 cc0_scratch6 cc0_scratch7 cc0_scratch8 c (devWord c) (wloc m c) (k0_pay17 (k0_pay7 (xstg m c)) (wCat m c)) (k0_pay18 (k0_pay7 (xstg m c)) (wloc m c) (wCat m c)) (k0_pay19 (k0_pay7 (xstg m c)) (wloc m c) (wCat m c))) Q := by
  rw [k0_part8_eq_skeleton]
  unfold k0_part8_skel
  refine step_block1 m K c 1 (by decide) rfl (fun i h h' => P1_1 m c i h h') ?_
  iterate 6
    refine step_start1 m K c _ _ (by decide) (by decide) (guard_iff _ (by decide) c) (fun _ => sem_unit _ _ _ _ ⟨_, by decide⟩ rfl)
      (fun _ => sem_unit _ _ _ _ c (off_one c)) (fun _ => by rfl) (fun _ => rfl) (fun _ => off_slot c) ?_
  exact step_ret c hk

theorem part9_ok {R : sProp 𝕄} {Q : BitVec 32 → sProp 𝕄}
    (hk : iprop(S1St m K c 3 17 ∗ wPts c (wCat m c) ∗ R) ⊢ Q (Scalar.extui (Scalar.cmpi .ne (devWord c) 17#32))) :
    iprop(S1St m K c 2 14 ∗ wPts c (wCat m c) ∗ R) ⊢ run c (k0_part9 (F := F) xM h0 rwM h1 riM h2 ewM h3 oM h4 wM h5 pM h6 aM h7 sM h8 bM h9 cc0_scratch5 cc0_scratch6 cc0_scratch7 cc0_scratch8 c (devWord c) (k0_pay7 (xstg m c)) (wloc m c)) Q := by
  rw [k0_part9_eq_skeleton]
  unfold k0_part9_skel
  iterate 2
    refine step_start1 m K c _ _ (by decide) (by decide) (guard_iff _ (by decide) c) (fun _ => sem_unit _ _ _ _ ⟨_, by decide⟩ rfl)
      (fun _ => sem_unit _ _ _ _ c (off_one c)) (fun _ => by rfl) (fun _ => rfl) (fun _ => off_slot c) ?_
  refine step_wload c _ ?_
  refine step_block1 m K c 2 (by decide) rfl (fun i h h' => P1_2 m c i h h') ?_
  refine step_start1 m K c _ _ (by decide) (by decide) (guard_iff _ (by decide) c) (fun _ => sem_unit _ _ _ _ ⟨_, by decide⟩ rfl)
    (fun _ => sem_unit _ _ _ _ c (off_one c)) (fun _ => by rfl) (fun _ => rfl) (fun _ => off_slot c) ?_
  exact step_ret c hk

theorem part10_ok {R : sProp 𝕄} {Q : (Σ' (v327 : FVec F S128x2048 .f32) (v333 : FVec F S128x512 .f32) (v334 : FVec F S128x1 .f32), FVec F S128x512 .f32) → sProp 𝕄}
    (hk : iprop(S1St m K c 3 24 ∗ wPts c (wCat m c) ∗ R) ⊢ Q ⟨k0_pay22 (k0_pay7 (xstg m c)) (wCat m c), k0_pay23 (k0_pay7 (xstg m c)) (wloc m c) (wCat m c), k0_pay24 (wloc m c), k0_pay25 (k0_pay7 (xstg m c)) (wCat m c)⟩) :
    iprop(S1St m K c 3 17 ∗ wPts c (wCat m c) ∗ R) ⊢ run c (k0_part10 (F := F) xM h0 rwM h1 riM h2 ewM h3 oM h4 wM h5 pM h6 aM h7 sM h8 bM h9 cc0_scratch5 cc0_scratch6 cc0_scratch7 cc0_scratch8 c (devWord c) (k0_pay7 (xstg m c)) (wloc m c) (Scalar.extui (Scalar.cmpi .ne (devWord c) 17#32))) Q := by
  rw [k0_part10_eq_skeleton]
  unfold k0_part10_skel
  iterate 7
    refine step_start1 m K c _ _ (by decide) (by decide) (guard_iff _ (by decide) c) (fun _ => sem_unit _ _ _ _ ⟨_, by decide⟩ rfl)
      (fun _ => sem_unit _ _ _ _ c (off_one c)) (fun _ => by rfl) (fun _ => rfl) (fun _ => off_slot c) ?_
  refine step_wload c _ ?_
  exact step_ret c hk

theorem part11_ok {R : sProp 𝕄} {Q : (Σ' (v369 : BitVec 32), BitVec 32) → sProp 𝕄}
    (hk : iprop(S1St m K c 4 29 ∗ wPts c (wCat m c) ∗ R) ⊢ Q ⟨(Scalar.extui (Scalar.cmpi .ne (devWord c) 29#32)), 0#32⟩) :
    iprop(S1St m K c 3 24 ∗ wPts c (wCat m c) ∗ R) ⊢ run c (k0_part11 (F := F) xM h0 rwM h1 riM h2 ewM h3 oM h4 wM h5 pM h6 aM h7 sM h8 bM h9 cc0_scratch5 cc0_scratch6 cc0_scratch7 cc0_scratch8 c (devWord c) (wloc m c) (k0_pay22 (k0_pay7 (xstg m c)) (wCat m c)) (k0_pay23 (k0_pay7 (xstg m c)) (wloc m c) (wCat m c)) (k0_pay24 (wloc m c)) (k0_pay25 (k0_pay7 (xstg m c)) (wCat m c))) Q := by
  rw [k0_part11_eq_skeleton]
  unfold k0_part11_skel
  refine step_block1 m K c 3 (by decide) rfl (fun i h h' => P1_3 m c i h h') ?_
  iterate 5
    refine step_start1 m K c _ _ (by decide) (by decide) (guard_iff _ (by decide) c) (fun _ => sem_unit _ _ _ _ ⟨_, by decide⟩ rfl)
      (fun _ => sem_unit _ _ _ _ c (off_one c)) (fun _ => by rfl) (fun _ => rfl) (fun _ => off_slot c) ?_
  exact step_ret c hk

end Parts

end Cert.KernelIdeal.Moe

end
-- ==== Proof.KernelIdealParts2.lean ====
/-
The parts of the kernel that wait for the first exchange.
-/
module

public import proofs.«01_k».proof.Proof.KernelIdealGlue

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

section Parts

variable (K : Dev nD × CK → ℕ) (c : Dev nD)
  (h0 : (xM : Memref sig .tc .vmem S512x256 .bf16).IsWhole) (h1 : (rwM : Memref sig .tc .vmem S256x128 .bf16).IsWhole)
  (h2 : (riM : Memref sig .tc .vmem S512x2 .i32).IsWhole) (h3 : (ewM : Memref sig .tc .vmem S4x256x512 .bf16).IsWhole)
  (h4 : (oM : Memref sig .tc .vmem S512x512 .f32).IsWhole) (h5 : (wM : Memref sig .tc .vmem S256x2048 .bf16).IsWhole)
  (h6 : (pM : Memref sig .tc .vmem S512x512 .bf16).IsWhole) (h7 : (aM : Memref sig .tc .vmem S32x16x512 .bf16).IsWhole)
  (h8 : (sM : Memref sig .tc .vmem S16x512 .bf16).IsWhole) (h9 : (bM : Memref sig .tc .vmem S32x16x512 .bf16).IsWhole)

theorem part12_ok {R : sProp 𝕄} {Q : BitVec 32 → sProp 𝕄}
    (hk : iprop(WSt m K 1 c (oX 3 c 0) 3 ∗ (aPts c (slot c) (A1 m c) ∗ pPts c (chunk c) (P1 m c) ∗ creds c 0) ∗ R) ⊢ Q (Scalar.extui (Scalar.cmpi .ne (devWord c) 3#32))) :
    iprop(S1St m K c 4 29 ∗ (∃ g, aPts c (slot c) g) ∗ (creds c 1 ∗ ready c 1) ∗ R)
      ⊢ run c (k0_part12 (F := F) xM h0 rwM h1 riM h2 ewM h3 oM h4 wM h5 pM h6 aM h7 sM h8 bM h9 cc0_scratch5 cc0_scratch6 cc0_scratch7 cc0_scratch8 c (devWord c) (Scalar.extui (Scalar.cmpi .ne (devWord c) 29#32)) 0#32) Q := by
  rw [k0_part12_eq_skeleton]
  unfold k0_part12_skel
  iterate 3
    refine step_start1 m K c _ _ (by decide) (by decide) (guard_iff _ (by decide) c) (fun _ => sem_unit _ _ _ _ ⟨_, by decide⟩ rfl)
      (fun _ => sem_unit _ _ _ _ c (off_one c)) (fun _ => by rfl) (fun _ => rfl) (fun _ => off_slot c) ?_
  refine BIBase.Entails.trans (Q := iprop(pPts c (chunk c) (P1 m c) ∗ (∃ g, aPts c (slot c) g) ∗ known m K ∗ debt c (oX 3 c 0) ∗ creds c 0 ∗ creds c 1 ∗ ready c 1 ∗ R)) ?_ ?_
  · iintro ⟨HS, HA, ⟨H1, H2⟩, HR⟩
    ihave HS' := (leave1 m K c) $$ HS
    icases HS' with ⟨HP, HK, HO, H0⟩
    isplitl [HP]; · iexact HP
    isplitl [HA]; · iexact HA
    isplitl [HK]; · iexact HK
    isplitl [HO]; · iexact HO
    isplitl [H0]; · iexact H0
    isplitl [H1]; · iexact H1
    isplitl [H2]; · iexact H2
    iexact HR
  refine step_own1 m c (off_own c) (off_ownslot c) ?_
  refine BIBase.Entails.trans (Q := iprop(WSt m K 1 c (oX 3 c 0) 0 ∗ (aPts c (slot c) (A1 m c) ∗ pPts c (chunk c) (P1 m c) ∗ creds c 0) ∗ R)) ?_ ?_
  · iintro ⟨HP, HA, HK, HO, H0, H1, H2, HR⟩
    isplitl [HK HO H1 H2]
    · iapply (enterW m K c 1 (oX 3 c 0))
      isplitl [HK]; · iexact HK
      isplitl [HO]; · iexact HO
      isplitl [H1]; · iexact H1
      iexact H2
    isplitr [HR]
    · isplitl [HA]; · iexact HA
      isplitl [HP]; · iexact HP
      iexact H0
    iexact HR
  iterate 3
    refine step_wait m K 1 c (oX 3 c 0) (may3 c 1 (by decide)) _ (by decide) (guard_iff _ (by decide) c)
      (fun _ => sem_unit _ _ _ _ ⟨_, by decide⟩ rfl) (fun _ => credit_a) ?_
  exact step_ret c hk

theorem part13_ok {R : sProp 𝕄} {Q : BitVec 32 → sProp 𝕄}
    (hk : iprop(WSt m K 1 c (oX 3 c 0) 10 ∗ R) ⊢ Q 10#32) :
    iprop(WSt m K 1 c (oX 3 c 0) 3 ∗ R) ⊢ run c (k0_part13 (F := F) xM h0 rwM h1 riM h2 ewM h3 oM h4 wM h5 pM h6 aM h7 sM h8 bM h9 cc0_scratch5 cc0_scratch6 cc0_scratch7 cc0_scratch8 (devWord c) (Scalar.extui (Scalar.cmpi .ne (devWord c) 3#32))) Q := by
  rw [k0_part13_eq_skeleton]
  unfold k0_part13_skel
  iterate 7
    refine step_wait m K 1 c (oX 3 c 0) (may3 c 1 (by decide)) _ (by decide) (guard_iff _ (by decide) c)
      (fun _ => sem_unit _ _ _ _ ⟨_, by decide⟩ rfl) (fun _ => credit_a) ?_
  exact step_ret c hk

theorem part14_ok {R : sProp 𝕄} {Q : (Σ' (v434 : BitVec 32), BitVec 32) → sProp 𝕄}
    (hk : iprop(WSt m K 1 c (oX 3 c 0) 16 ∗ R) ⊢ Q ⟨(Scalar.extui (Scalar.cmpi .ne (devWord c) 16#32)), 0#32⟩) :
    iprop(WSt m K 1 c (oX 3 c 0) 10 ∗ R) ⊢ run c (k0_part14 (F := F) xM h0 rwM h1 riM h2 ewM h3 oM h4 wM h5 pM h6 aM h7 sM h8 bM h9 cc0_scratch5 cc0_scratch6 cc0_scratch7 cc0_scratch8 (devWord c) 10#32) Q := by
  rw [k0_part14_eq_skeleton]
  unfold k0_part14_skel
  iterate 6
    refine step_wait m K 1 c (oX 3 c 0) (may3 c 1 (by decide)) _ (by decide) (guard_iff _ (by decide) c)
      (fun _ => sem_unit _ _ _ _ ⟨_, by decide⟩ rfl) (fun _ => credit_a) ?_
  exact step_ret c hk

theorem part15_ok {R : sProp 𝕄} {Q : BitVec 32 → sProp 𝕄}
    (hk : iprop(WSt m K 1 c (oX 3 c 0) 23 ∗ R) ⊢ Q (Scalar.extui (Scalar.cmpi .ne (devWord c) 23#32))) :
    iprop(WSt m K 1 c (oX 3 c 0) 16 ∗ R) ⊢ run c (k0_part15 (F := F) xM h0 rwM h1 riM h2 ewM h3 oM h4 wM h5 pM h6 aM h7 sM h8 bM h9 cc0_scratch5 cc0_scratch6 cc0_scratch7 cc0_scratch8 (devWord c) (Scalar.extui (Scalar.cmpi .ne (devWord c) 16#32)) 0#32) Q := by
  rw [k0_part15_eq_skeleton]
  unfold k0_part15_skel
  iterate 7
    refine step_wait m K 1 c (oX 3 c 0) (may3 c 1 (by decide)) _ (by decide) (guard_iff _ (by decide) c)
      (fun _ => sem_unit _ _ _ _ ⟨_, by decide⟩ rfl) (fun _ => credit_a) ?_
  exact step_ret c hk

theorem part16_ok {R : sProp 𝕄} {Q : BitVec 32 → sProp 𝕄}
    (hk : iprop(WSt m K 1 c (oX 3 c 0) 30 ∗ R) ⊢ Q 30#32) :
    iprop(WSt m K 1 c (oX 3 c 0) 23 ∗ R) ⊢ run c (k0_part16 (F := F) xM h0 rwM h1 riM h2 ewM h3 oM h4 wM h5 pM h6 aM h7 sM h8 bM h9 cc0_scratch5 cc0_scratch6 cc0_scratch7 cc0_scratch8 (devWord c) (Scalar.extui (Scalar.cmpi .ne (devWord c) 23#32))) Q := by
  rw [k0_part16_eq_skeleton]
  unfold k0_part16_skel
  iterate 7
    refine step_wait m K 1 c (oX 3 c 0) (may3 c 1 (by decide)) _ (by decide) (guard_iff _ (by decide) c)
      (fun _ => sem_unit _ _ _ _ ⟨_, by decide⟩ rfl) (fun _ => credit_a) ?_
  exact step_ret c hk

theorem part17_ok {R : sProp 𝕄} {Q : (Σ' (v483 : FVec F S16x512 .f32), BitVec 32) → sProp 𝕄}
    (hk : iprop(WSt m K 0 c (oX 3 c 0) 5 ∗ (aPts c Finset.univ (A1 m c) ∗ done c 1) ∗ R) ⊢ Q ⟨k0_pay28 (A1 m c), 5#32⟩) :
    iprop(WSt m K 1 c (oX 3 c 0) 30 ∗ aPts c (slot c) (A1 m c) ∗ (creds c 0 ∗ ready c 0) ∗ R)
      ⊢ run c (k0_part17 (F := F) xM h0 rwM h1 riM h2 ewM h3 oM h4 wM h5 pM h6 aM h7 sM h8 bM h9 cc0_scratch5 cc0_scratch6 cc0_scratch7 cc0_scratch8 c (devWord c) 30#32) Q := by
  rw [k0_part17_eq_skeleton]
  unfold k0_part17_skel
  iterate 2
    refine step_wait m K 1 c (oX 3 c 0) (may3 c 1 (by decide)) _ (by decide) (guard_iff _ (by decide) c)
      (fun _ => sem_unit _ _ _ _ ⟨_, by decide⟩ rfl) (fun _ => credit_a) ?_
  refine BIBase.Entails.trans (Q := iprop(WSt m K 0 c (oX 3 c 0) 0 ∗ aPts c Finset.univ (A1 m c) ∗ done c 1 ∗ R)) ?_ ?_
  · iintro ⟨HS, HA, ⟨H1, H2⟩, HR⟩
    ihave HS' := (leaveW m K c 1 (oX 3 c 0)) $$ HS
    icases HS' with ⟨HK, HO, HD, HP⟩
    isplitl [HK HO H1 H2]
    · iapply (enterW m K c 0 (oX 3 c 0))
      isplitl [HK]; · iexact HK
      isplitl [HO]; · iexact HO
      isplitl [H1]; · iexact H1
      iexact H2
    isplitl [HA HP]
    · iapply (join_a m c)
      isplitl [HA]; · iexact HA
      iexact HP
    isplitl [HD]; · iexact HD
    iexact HR
  refine step_aload c _ ?_
  refine BIBase.Entails.trans (Q := iprop(WSt m K 0 c (oX 3 c 0) 0 ∗ (aPts c Finset.univ (A1 m c) ∗ done c 1) ∗ R)) ?_ ?_
  · iintro ⟨HS, HA, HD, HR⟩
    isplitl [HS]; · iexact HS
    isplitr [HR]
    · isplitl [HA]; · iexact HA
      iexact HD
    iexact HR
  iterate 5
    refine step_wait m K 0 c (oX 3 c 0) (may3 c 0 (by decide)) _ (by decide) (guard_iff _ (by decide) c)
      (fun _ => sem_unit _ _ _ _ ⟨_, by decide⟩ rfl) (fun _ => credit_p) ?_
  exact step_ret c hk

theorem part18_ok {R : sProp 𝕄} {Q : (Σ' (v434 : BitVec 32), BitVec 32) → sProp 𝕄}
    (hk : iprop(WSt m K 0 c (oX 3 c 0) 13 ∗ R) ⊢ Q ⟨(Scalar.extui (Scalar.cmpi .ne (devWord c) 13#32)), 0#32⟩) :
    iprop(WSt m K 0 c (oX 3 c 0) 5 ∗ R) ⊢ run c (k0_part18 (F := F) xM h0 rwM h1 riM h2 ewM h3 oM h4 wM h5 pM h6 aM h7 sM h8 bM h9 cc0_scratch5 cc0_scratch6 cc0_scratch7 cc0_scratch8 c (devWord c) 5#32) Q := by
  rw [k0_part18_eq_skeleton]
  unfold k0_part18_skel
  iterate 8
    refine step_wait m K 0 c (oX 3 c 0) (may3 c 0 (by decide)) _ (by decide) (guard_iff _ (by decide) c)
      (fun _ => sem_unit _ _ _ _ ⟨_, by decide⟩ rfl) (fun _ => credit_p) ?_
  exact step_ret c hk

theorem part19_ok {R : sProp 𝕄} {Q : BitVec 1 → sProp 𝕄}
    (hk : iprop(WSt m K 0 c (oX 3 c 0) 22 ∗ R) ⊢ Q (Scalar.cmpi .ne (devWord c) 22#32)) :
    iprop(WSt m K 0 c (oX 3 c 0) 13 ∗ R) ⊢ run c (k0_part19 (F := F) xM h0 rwM h1 riM h2 ewM h3 oM h4 wM h5 pM h6 aM h7 sM h8 bM h9 cc0_scratch5 cc0_scratch6 cc0_scratch7 cc0_scratch8 c (devWord c) (Scalar.extui (Scalar.cmpi .ne (devWord c) 13#32)) 0#32) Q := by
  rw [k0_part19_eq_skeleton]
  unfold k0_part19_skel
  iterate 9
    refine step_wait m K 0 c (oX 3 c 0) (may3 c 0 (by decide)) _ (by decide) (guard_iff _ (by decide) c)
      (fun _ => sem_unit _ _ _ _ ⟨_, by decide⟩ rfl) (fun _ => credit_p) ?_
  exact step_ret c hk

theorem part20_ok {R : sProp 𝕄} {Q : PUnit → sProp 𝕄}
    (hk : iprop(WSt m K 0 c (oX 3 c 0) 30 ∗ R) ⊢ Q ⟨⟩) :
    iprop(WSt m K 0 c (oX 3 c 0) 22 ∗ R) ⊢ run c (k0_part20 (F := F) xM h0 rwM h1 riM h2 ewM h3 oM h4 wM h5 pM h6 aM h7 sM h8 bM h9 cc0_scratch5 cc0_scratch6 cc0_scratch7 cc0_scratch8 c (devWord c) (Scalar.cmpi .ne (devWord c) 22#32)) Q := by
  rw [k0_part20_eq_skeleton]
  unfold k0_part20_skel
  iterate 8
    refine step_wait m K 0 c (oX 3 c 0) (may3 c 0 (by decide)) _ (by decide) (guard_iff _ (by decide) c)
      (fun _ => sem_unit _ _ _ _ ⟨_, by decide⟩ rfl) (fun _ => credit_p) ?_
  exact step_ret c hk

end Parts

end Cert.KernelIdeal.Moe

end
-- ==== Proof.KernelIdealParts3.lean ====
/-
The parts of the kernel that sum up and send the sum to every other device.
-/
module

public import proofs.«01_k».proof.Proof.KernelIdealGlue

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

section Parts

variable (K : Dev nD × CK → ℕ) (c : Dev nD)
  (h0 : (xM : Memref sig .tc .vmem S512x256 .bf16).IsWhole) (h1 : (rwM : Memref sig .tc .vmem S256x128 .bf16).IsWhole)
  (h2 : (riM : Memref sig .tc .vmem S512x2 .i32).IsWhole) (h3 : (ewM : Memref sig .tc .vmem S4x256x512 .bf16).IsWhole)
  (h4 : (oM : Memref sig .tc .vmem S512x512 .f32).IsWhole) (h5 : (wM : Memref sig .tc .vmem S256x2048 .bf16).IsWhole)
  (h6 : (pM : Memref sig .tc .vmem S512x512 .bf16).IsWhole) (h7 : (aM : Memref sig .tc .vmem S32x16x512 .bf16).IsWhole)
  (h8 : (sM : Memref sig .tc .vmem S16x512 .bf16).IsWhole) (h9 : (bM : Memref sig .tc .vmem S32x16x512 .bf16).IsWhole)

theorem part21_ok {R : sProp 𝕄} {Q : BitVec 32 → sProp 𝕄}
    (hk : iprop(S2St m K c 6 ∗ (sPts c (restShare 32) (P2 m c) ∗ sPts c (cutShare c.val) (P2 m c) ∗ done c 0 ∗ paid m c 0) ∗ R) ⊢ Q (Scalar.extui (Scalar.cmpi .ne (devWord c) 6#32))) :
    iprop(WSt m K 0 c (oX 3 c 0) 30 ∗ (∃ g, sPts c fullShare g) ∗ (tok2 c ∗ slotsB c) ∗ R)
      ⊢ run c (k0_part21 (F := F) xM h0 rwM h1 riM h2 ewM h3 oM h4 wM h5 pM h6 aM h7 sM h8 bM h9 cc0_scratch5 cc0_scratch6 cc0_scratch7 cc0_scratch8 c (devWord c) (k0_pay28 (A1 m c))) Q := by
  rw [k0_part21_eq_skeleton]
  unfold k0_part21_skel
  iterate 2
    refine step_wait m K 0 c (oX 3 c 0) (may3 c 0 (by decide)) _ (by decide) (guard_iff _ (by decide) c)
      (fun _ => sem_unit _ _ _ _ ⟨_, by decide⟩ rfl) (fun _ => credit_p) ?_
  refine BIBase.Entails.trans (Q := iprop((∃ g, sPts c fullShare g) ∗ known m K ∗ debt c (oX 3 c 0) ∗ done c 0 ∗ paid m c 0 ∗ tok2 c ∗ slotsB c ∗ R)) ?_ ?_
  · iintro ⟨HS, HA, ⟨H1, H2⟩, HR⟩
    ihave HS' := (leaveW m K c 0 (oX 3 c 0)) $$ HS
    icases HS' with ⟨HK, HO, HD, HP⟩
    isplitl [HA]; · iexact HA
    isplitl [HK]; · iexact HK
    isplitl [HO]; · iexact HO
    isplitl [HD]; · iexact HD
    isplitl [HP]; · iexact HP
    isplitl [H1]; · iexact H1
    isplitl [H2]; · iexact H2
    iexact HR
  refine step_sum c ?_
  refine BIBase.Entails.trans (Q := iprop(S2St m K c 0 ∗ (sPts c (restShare 32) (P2 m c) ∗ sPts c (cutShare c.val) (P2 m c) ∗ done c 0 ∗ paid m c 0) ∗ R)) ?_ ?_
  · iintro ⟨HA, HK, HO, HD, HP, H1, H2, HR⟩
    ihave HE := (enter2 m K c) $$ [HA HK HO H1 H2]
    · isplitl [HK]; · iexact HK
      isplitl [HO]; · iexact HO
      isplitl [HA]; · iexact HA
      isplitl [H1]; · iexact H1
      iexact H2
    icases HE with ⟨H1, H2, H3⟩
    isplitl [H1]; · iexact H1
    isplitr [HR]
    · isplitl [H2]; · iexact H2
      isplitl [H3]; · iexact H3
      isplitl [HD]; · iexact HD
      iexact HP
    iexact HR
  iterate 6
    refine step_start2 m K c _ (by decide) (guard_iff _ (by decide) c) (fun _ => sem_unit _ _ _ _ ⟨_, by decide⟩ rfl)
      (fun _ => sem_unit _ _ _ _ c (off_one c)) (fun _ => by rfl) (fun _ => off_slot c) ?_
  exact step_ret c hk

theorem part22_ok {R : sProp 𝕄} {Q : PUnit → sProp 𝕄}
    (hk : iprop(S2St m K c 15 ∗ R) ⊢ Q ⟨⟩) :
    iprop(S2St m K c 6 ∗ R) ⊢ run c (k0_part22 (F := F) xM h0 rwM h1 riM h2 ewM h3 oM h4 wM h5 pM h6 aM h7 sM h8 bM h9 cc0_scratch5 cc0_scratch6 cc0_scratch7 cc0_scratch8 c (devWord c) (Scalar.extui (Scalar.cmpi .ne (devWord c) 6#32))) Q := by
  rw [k0_part22_eq_skeleton]
  unfold k0_part22_skel
  iterate 9
    refine step_start2 m K c _ (by decide) (guard_iff _ (by decide) c) (fun _ => sem_unit _ _ _ _ ⟨_, by decide⟩ rfl)
      (fun _ => sem_unit _ _ _ _ c (off_one c)) (fun _ => by rfl) (fun _ => off_slot c) ?_
  exact step_ret c hk

theorem part23_ok {R : sProp 𝕄} {Q : BitVec 32 → sProp 𝕄}
    (hk : iprop(S2St m K c 23 ∗ R) ⊢ Q (Scalar.extui (Scalar.cmpi .ne (devWord c) 23#32))) :
    iprop(S2St m K c 15 ∗ R) ⊢ run c (k0_part23 (F := F) xM h0 rwM h1 riM h2 ewM h3 oM h4 wM h5 pM h6 aM h7 sM h8 bM h9 cc0_scratch5 cc0_scratch6 cc0_scratch7 cc0_scratch8 c (devWord c)) Q := by
  rw [k0_part23_eq_skeleton]
  unfold k0_part23_skel
  iterate 8
    refine step_start2 m K c _ (by decide) (guard_iff _ (by decide) c) (fun _ => sem_unit _ _ _ _ ⟨_, by decide⟩ rfl)
      (fun _ => sem_unit _ _ _ _ c (off_one c)) (fun _ => by rfl) (fun _ => off_slot c) ?_
  exact step_ret c hk

theorem part24_ok {R : sProp 𝕄} {Q : PUnit → sProp 𝕄}
    (hk : iprop(S2St m K c 32 ∗ R) ⊢ Q ⟨⟩) :
    iprop(S2St m K c 23 ∗ R) ⊢ run c (k0_part24 (F := F) xM h0 rwM h1 riM h2 ewM h3 oM h4 wM h5 pM h6 aM h7 sM h8 bM h9 cc0_scratch5 cc0_scratch6 cc0_scratch7 cc0_scratch8 c (devWord c) (Scalar.extui (Scalar.cmpi .ne (devWord c) 23#32))) Q := by
  rw [k0_part24_eq_skeleton]
  unfold k0_part24_skel
  iterate 9
    refine step_start2 m K c _ (by decide) (guard_iff _ (by decide) c) (fun _ => sem_unit _ _ _ _ ⟨_, by decide⟩ rfl)
      (fun _ => sem_unit _ _ _ _ c (off_one c)) (fun _ => by rfl) (fun _ => off_slot c) ?_
  exact step_ret c hk

theorem part25_ok {R : sProp 𝕄} {Q : BitVec 32 → sProp 𝕄}
    (hk : iprop(WSt m K 3 c 0 5 ∗ (sPts c (restShare 32) (P2 m c) ∗ bPts c (slot c) (A2 m) ∗ creds c 2) ∗ R) ⊢ Q (Scalar.extui (Scalar.cmpi .ne (devWord c) 5#32))) :
    iprop(S2St m K c 32 ∗ (sPts c (restShare 32) (P2 m c) ∗ ∃ g, bPts c (slot c) g) ∗ (creds c 3 ∗ ready c 3) ∗ R)
      ⊢ run c (k0_part25 (F := F) xM h0 rwM h1 riM h2 ewM h3 oM h4 wM h5 pM h6 aM h7 sM h8 bM h9 cc0_scratch5 cc0_scratch6 cc0_scratch7 cc0_scratch8 c (devWord c)) Q := by
  rw [k0_part25_eq_skeleton]
  unfold k0_part25_skel
  refine BIBase.Entails.trans (Q := iprop(sPts c (restShare 32) (P2 m c) ∗ (∃ g, bPts c (slot c) g) ∗ creds c 2 ∗ WSt m K 3 c 0 0 ∗ R)) ?_ ?_
  · iintro ⟨HS, ⟨HA, HB⟩, ⟨H1, H2⟩, HR⟩
    ihave HS' := (leave2 m K c) $$ HS
    icases HS' with ⟨HK, HO, HC⟩
    isplitl [HA]; · iexact HA
    isplitl [HB]; · iexact HB
    isplitl [HC]; · iexact HC
    isplitr [HR]
    · iapply (enterW m K c 3 0)
      isplitl [HK]; · iexact HK
      isplitl [HO]; · iexact HO
      isplitl [H1]; · iexact H1
      iexact H2
    iexact HR
  refine step_own2 m c (off_ownslot c) ?_
  refine BIBase.Entails.trans (Q := iprop(WSt m K 3 c 0 0 ∗ (sPts c (restShare 32) (P2 m c) ∗ bPts c (slot c) (A2 m) ∗ creds c 2) ∗ R)) ?_ ?_
  · iintro ⟨HA, HB, HC, HW, HR⟩
    isplitl [HW]; · iexact HW
    isplitr [HR]
    · isplitl [HA]; · iexact HA
      isplitl [HB]; · iexact HB
      iexact HC
    iexact HR
  iterate 5
    refine step_wait m K 3 c 0 (may0 c 3) _ (by decide) (guard_iff _ (by decide) c)
      (fun _ => sem_unit _ _ _ _ ⟨_, by decide⟩ rfl) (fun _ => credit_b) ?_
  exact step_ret c hk

end Parts

end Cert.KernelIdeal.Moe

end
-- ==== Proof.KernelIdealParts4.lean ====
/-
The parts of the kernel that wait for the second exchange.
-/
module

public import proofs.«01_k».proof.Proof.KernelIdealGlue

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

section Parts

variable (K : Dev nD × CK → ℕ) (c : Dev nD)
  (h0 : (xM : Memref sig .tc .vmem S512x256 .bf16).IsWhole) (h1 : (rwM : Memref sig .tc .vmem S256x128 .bf16).IsWhole)
  (h2 : (riM : Memref sig .tc .vmem S512x2 .i32).IsWhole) (h3 : (ewM : Memref sig .tc .vmem S4x256x512 .bf16).IsWhole)
  (h4 : (oM : Memref sig .tc .vmem S512x512 .f32).IsWhole) (h5 : (wM : Memref sig .tc .vmem S256x2048 .bf16).IsWhole)
  (h6 : (pM : Memref sig .tc .vmem S512x512 .bf16).IsWhole) (h7 : (aM : Memref sig .tc .vmem S32x16x512 .bf16).IsWhole)
  (h8 : (sM : Memref sig .tc .vmem S16x512 .bf16).IsWhole) (h9 : (bM : Memref sig .tc .vmem S32x16x512 .bf16).IsWhole)

theorem part26_ok {R : sProp 𝕄} {Q : BitVec 1 → sProp 𝕄}
    (hk : iprop(WSt m K 3 c 0 12 ∗ R) ⊢ Q (Scalar.cmpi .ne (devWord c) 12#32)) :
    iprop(WSt m K 3 c 0 5 ∗ R) ⊢ run c (k0_part26 (F := F) xM h0 rwM h1 riM h2 ewM h3 oM h4 wM h5 pM h6 aM h7 sM h8 bM h9 cc0_scratch5 cc0_scratch6 cc0_scratch7 cc0_scratch8 (devWord c) (Scalar.extui (Scalar.cmpi .ne (devWord c) 5#32))) Q := by
  rw [k0_part26_eq_skeleton]
  unfold k0_part26_skel
  iterate 7
    refine step_wait m K 3 c 0 (may0 c 3) _ (by decide) (guard_iff _ (by decide) c)
      (fun _ => sem_unit _ _ _ _ ⟨_, by decide⟩ rfl) (fun _ => credit_b) ?_
  exact step_ret c hk

theorem part27_ok {R : sProp 𝕄} {Q : BitVec 1 → sProp 𝕄}
    (hk : iprop(WSt m K 3 c 0 18 ∗ R) ⊢ Q (Scalar.cmpi .ne ((Scalar.extui (Scalar.cmpi .ne (devWord c) 18#32)) : BitVec 32) 0#32)) :
    iprop(WSt m K 3 c 0 12 ∗ R) ⊢ run c (k0_part27 (F := F) xM h0 rwM h1 riM h2 ewM h3 oM h4 wM h5 pM h6 aM h7 sM h8 bM h9 cc0_scratch5 cc0_scratch6 cc0_scratch7 cc0_scratch8 (devWord c) (Scalar.cmpi .ne (devWord c) 12#32)) Q := by
  rw [k0_part27_eq_skeleton]
  unfold k0_part27_skel
  iterate 6
    refine step_wait m K 3 c 0 (may0 c 3) _ (by decide) (guard_iff _ (by decide) c)
      (fun _ => sem_unit _ _ _ _ ⟨_, by decide⟩ rfl) (fun _ => credit_b) ?_
  exact step_ret c hk

theorem part28_ok {R : sProp 𝕄} {Q : BitVec 32 → sProp 𝕄}
    (hk : iprop(WSt m K 3 c 0 25 ∗ R) ⊢ Q (Scalar.extui (Scalar.cmpi .ne (devWord c) 25#32))) :
    iprop(WSt m K 3 c 0 18 ∗ R) ⊢ run c (k0_part28 (F := F) xM h0 rwM h1 riM h2 ewM h3 oM h4 wM h5 pM h6 aM h7 sM h8 bM h9 cc0_scratch5 cc0_scratch6 cc0_scratch7 cc0_scratch8 (devWord c) (Scalar.cmpi .ne ((Scalar.extui (Scalar.cmpi .ne (devWord c) 18#32)) : BitVec 32) 0#32)) Q := by
  rw [k0_part28_eq_skeleton]
  unfold k0_part28_skel
  iterate 7
    refine step_wait m K 3 c 0 (may0 c 3) _ (by decide) (guard_iff _ (by decide) c)
      (fun _ => sem_unit _ _ _ _ ⟨_, by decide⟩ rfl) (fun _ => credit_b) ?_
  exact step_ret c hk

theorem part29_ok {R : sProp 𝕄} {Q : BitVec 1 → sProp 𝕄}
    (hk : iprop(WSt m K 3 c 0 32 ∗ R) ⊢ Q (Scalar.cmpi .ne (devWord c) 0#32)) :
    iprop(WSt m K 3 c 0 25 ∗ R) ⊢ run c (k0_part29 (F := F) xM h0 rwM h1 riM h2 ewM h3 oM h4 wM h5 pM h6 aM h7 sM h8 bM h9 cc0_scratch5 cc0_scratch6 cc0_scratch7 cc0_scratch8 (devWord c) (Scalar.extui (Scalar.cmpi .ne (devWord c) 25#32))) Q := by
  rw [k0_part29_eq_skeleton]
  unfold k0_part29_skel
  iterate 7
    refine step_wait m K 3 c 0 (may0 c 3) _ (by decide) (guard_iff _ (by decide) c)
      (fun _ => sem_unit _ _ _ _ ⟨_, by decide⟩ rfl) (fun _ => credit_b) ?_
  exact step_ret c hk

theorem part30_ok {R : sProp 𝕄} {Q : PUnit → sProp 𝕄}
    (hk : iprop(WSt m K 2 c 0 8 ∗ (done c 3 ∗ paid m c 3) ∗ R) ⊢ Q ⟨⟩) :
    iprop(WSt m K 3 c 0 32 ∗ (creds c 2 ∗ ready c 2) ∗ R)
      ⊢ run c (k0_part30 (F := F) xM h0 rwM h1 riM h2 ewM h3 oM h4 wM h5 pM h6 aM h7 sM h8 bM h9 cc0_scratch5 cc0_scratch6 cc0_scratch7 cc0_scratch8 c (devWord c) (Scalar.cmpi .ne (devWord c) 0#32)) Q := by
  rw [k0_part30_eq_skeleton]
  unfold k0_part30_skel
  refine BIBase.Entails.trans (Q := iprop(WSt m K 2 c 0 0 ∗ (done c 3 ∗ paid m c 3) ∗ R)) ?_ ?_
  · iintro ⟨HS, ⟨H1, H2⟩, HR⟩
    ihave HS' := (leaveW m K c 3 0) $$ HS
    icases HS' with ⟨HK, HO, HD, HP⟩
    isplitl [HK HO H1 H2]
    · iapply (enterW m K c 2 0)
      isplitl [HK]; · iexact HK
      isplitl [HO]; · iexact HO
      isplitl [H1]; · iexact H1
      iexact H2
    isplitr [HR]
    · isplitl [HD]; · iexact HD
      iexact HP
    iexact HR
  iterate 8
    refine step_wait m K 2 c 0 (may0 c 2) _ (by decide) (guard_iff _ (by decide) c)
      (fun _ => sem_unit _ _ _ _ ⟨_, by decide⟩ rfl) (fun _ => rfl) ?_
  exact step_ret c hk

theorem part31_ok {R : sProp 𝕄} {Q : BitVec 32 → sProp 𝕄}
    (hk : iprop(WSt m K 2 c 0 17 ∗ R) ⊢ Q (Scalar.extui (Scalar.cmpi .ne (devWord c) 17#32))) :
    iprop(WSt m K 2 c 0 8 ∗ R) ⊢ run c (k0_part31 (F := F) xM h0 rwM h1 riM h2 ewM h3 oM h4 wM h5 pM h6 aM h7 sM h8 bM h9 cc0_scratch5 cc0_scratch6 cc0_scratch7 cc0_scratch8 c (devWord c)) Q := by
  rw [k0_part31_eq_skeleton]
  unfold k0_part31_skel
  iterate 9
    refine step_wait m K 2 c 0 (may0 c 2) _ (by decide) (guard_iff _ (by decide) c)
      (fun _ => sem_unit _ _ _ _ ⟨_, by decide⟩ rfl) (fun _ => rfl) ?_
  exact step_ret c hk

theorem part32_ok {R : sProp 𝕄} {Q : PUnit → sProp 𝕄}
    (hk : iprop(WSt m K 2 c 0 26 ∗ R) ⊢ Q ⟨⟩) :
    iprop(WSt m K 2 c 0 17 ∗ R) ⊢ run c (k0_part32 (F := F) xM h0 rwM h1 riM h2 ewM h3 oM h4 wM h5 pM h6 aM h7 sM h8 bM h9 cc0_scratch5 cc0_scratch6 cc0_scratch7 cc0_scratch8 c (devWord c) (Scalar.extui (Scalar.cmpi .ne (devWord c) 17#32))) Q := by
  rw [k0_part32_eq_skeleton]
  unfold k0_part32_skel
  iterate 9
    refine step_wait m K 2 c 0 (may0 c 2) _ (by decide) (guard_iff _ (by decide) c)
      (fun _ => sem_unit _ _ _ _ ⟨_, by decide⟩ rfl) (fun _ => rfl) ?_
  exact step_ret c hk

end Parts

end Cert.KernelIdeal.Moe

end
-- ==== Proof.KernelIdealBody.lean ====
/-
The kernel's body: its parts one after another, from what a device holds at its start to what it holds at its end.
-/
module

public import proofs.«01_k».proof.Proof.KernelIdealParts1
public import proofs.«01_k».proof.Proof.KernelIdealParts2
public import proofs.«01_k».proof.Proof.KernelIdealParts3
public import proofs.«01_k».proof.Proof.KernelIdealParts4

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- The result's staging buffer. -/
@[irreducible] def oPts (c : Dev nD) (f : S512x512.Idx → Elt F .f32) : sProp 𝕄 := ((c : Thread nD τ).loc cc0_stg4_0) ↦{fullShare} f

theorem step_bload (c : Dev nD) (g : S32x16x512.Idx → Elt F .bf16) {inb} {hl}
    {α : Type} {f : (S32x16x512.Idx → Elt F .bf16) → Prog (TpuEff nD τ sig (Elt F) Λ₀ .tc) α} {Q : α → sProp 𝕄} {S T R : sProp 𝕄}
    (hk : iprop(S ∗ T ∗ bPts c Finset.univ g ∗ R) ⊢ run c (f g) Q) :
    iprop(S ∗ T ∗ bPts c Finset.univ g ∗ R) ⊢ run c (Prog.lift (.load bM (Rect.unit (s := S32x16x512) ![0, 0, 0] S32x16x512.size inb).toLoadRect hl) >>= f) Q := by
  unfold run at hk ⊢
  simp only [Prog.lift, Prog.bind_op, Prog.bind_ret]
  unfold bPts
  iintro ⟨HS, HT, Hw, HR⟩
  iapply (wp_load 𝒱₀ (c : Thread nD τ) none Set.univ (m := bM) (Finset.subset_univ _)) $$ Hw; iintro Hw
  rw [show (bM : Memref sig .tc .vmem S32x16x512 .bf16).view.readAt (Elt F) (Rect.unit (s := S32x16x512) ![0, 0, 0] S32x16x512.size inb).toLoadRect g = g from
    Memref.readAt_unit_zero (Elt F) cc0_scratch4 zz3 _ g]
  iapply hk
  unfold bPts
  isplitl [HS]; · iexact HS
  isplitl [HT]; · iexact HT
  isplitl [Hw]; · iexact Hw
  iexact HR

theorem step_out (c : Dev nD) (w : S512x512.Idx → Elt F .f32) {inb inb'} {hl} {hs} {hm}
    {α : Type} {f : PUnit → Prog (TpuEff nD τ sig (Elt F) Λ₀ .tc) α} {Q : α → sProp 𝕄} {S T B R : sProp 𝕄}
    (hk : iprop(S ∗ T ∗ B ∗ oPts c w ∗ R) ⊢ run c (f ⟨⟩) Q) :
    iprop(S ∗ T ∗ B ∗ (∃ g, oPts c g) ∗ R) ⊢ run c (Prog.lift (.load oM (Rect.unit (s := S512x512) ![0, 0] S512x512.size inb).toLoadRect hl) >>= fun _ =>
      Prog.lift (.store oM (Rect.unit (s := S512x512) ![0, 0] S512x512.size inb') w Finset.univ hs hm) >>= f) Q := by
  unfold run oPts at *
  simp only [Prog.lift, Prog.bind_op, Prog.bind_ret]
  iintro ⟨HS, HT, HB, ⟨%g, Hw⟩, HR⟩
  iapply (wp_load 𝒱₀ (c : Thread nD τ) none Set.univ (m := oM) (Finset.subset_univ _)) $$ Hw; iintro Hw
  iapply (wp_store 𝒱₀ (c : Thread nD τ) none Set.univ (m := oM) (r := Rect.unit (s := S512x512) ![0, 0] S512x512.size inb') (Mk := Finset.univ) (Finset.subset_univ _)) $$ Hw; iintro Hw
  rw [show ((oM : Memref sig .tc .vmem S512x512 .f32).access (Rect.unit (s := S512x512) ![0, 0] S512x512.size inb')).write (Elt F) g w Finset.univ = w from
    Memref.write_access_unit_zero_univ (Elt F) cc0_stg4_0 zz2 _ g w]
  iapply hk
  isplitl [HS]; · iexact HS
  isplitl [HT]; · iexact HT
  isplitl [HB]; · iexact HB
  isplitl [Hw]; · iexact Hw
  iexact HR

section Parts

variable (K : Dev nD × CK → ℕ) (c : Dev nD)
  (h0 : (xM : Memref sig .tc .vmem S512x256 .bf16).IsWhole) (h1 : (rwM : Memref sig .tc .vmem S256x128 .bf16).IsWhole)
  (h2 : (riM : Memref sig .tc .vmem S512x2 .i32).IsWhole) (h3 : (ewM : Memref sig .tc .vmem S4x256x512 .bf16).IsWhole)
  (h4 : (oM : Memref sig .tc .vmem S512x512 .f32).IsWhole) (h5 : (wM : Memref sig .tc .vmem S256x2048 .bf16).IsWhole)
  (h6 : (pM : Memref sig .tc .vmem S512x512 .bf16).IsWhole) (h7 : (aM : Memref sig .tc .vmem S32x16x512 .bf16).IsWhole)
  (h8 : (sM : Memref sig .tc .vmem S16x512 .bf16).IsWhole) (h9 : (bM : Memref sig .tc .vmem S32x16x512 .bf16).IsWhole)

set_option maxRecDepth 4000 in
theorem part33_ok {g : S256x2048.Idx → Elt F .bf16} {Q : (Σ' (d0 : Dev nD), BitVec 32) → sProp 𝕄}
    (hk : iprop(WSt m K 2 c 0 30 ∗ (done c 3 ∗ paid m c 3) ∗ (sPts c (restShare 32) (P2 m c) ∗ bPts c (slot c) (A2 m) ∗ sPts c (cutShare c.val) (P2 m c) ∗ done c 0 ∗ paid m c 0 ∗ aPts c Finset.univ (A1 m c) ∗ done c 1 ∗ pPts c (chunk c) (P1 m c) ∗ wPts c (wCat m c) ∗ atPos ER (barCell c) 1 ∅ 0 ∗ inPts m c ∗ (∃ g, oPts c g))) ⊢ Q ⟨c, devWord c⟩) :
    iprop(SigSt m K c 0 ∗ inPts m c ∗ wPts c g ∗ (cred (tallyAt (barCell c) () 31) ∗ atPos ER (barCell c) 0 ∅ 0 ∗ PSt m c 0 0 ∗ tok1 c) ∗ (∃ g, aPts c (slot c) g) ∗ (creds c 1 ∗ ready c 1) ∗ (ready c 0 ∗ tok2 c ∗ (∃ g, sPts c fullShare g) ∗ (∃ g, bPts c (slot c) g) ∗ creds c 3 ∗ ready c 3 ∗ ready c 2 ∗ (∃ g, oPts c g)))
      ⊢ run c (k0_part33 (F := F) xM h0 rwM h1 riM h2 ewM h3 oM h4 wM h5 pM h6 aM h7 sM h8 bM h9 cc0_scratch5 cc0_scratch6 cc0_scratch7 cc0_scratch8) Q := by
  rw [k0_part33_eq_skeleton]
  unfold k0_part33_skel
  refine step_bind c (part1_ok m K c h0 h1 h2 h3 h4 h5 h6 h7 h8 h9 ?_)
  refine step_bind c (part2_ok m K c h0 h1 h2 h3 h4 h5 h6 h7 h8 h9 ?_)
  refine step_bind c (part3_ok m K c h0 h1 h2 h3 h4 h5 h6 h7 h8 h9 ?_)
  refine step_bind c (part4_ok m K c h0 h1 h2 h3 h4 h5 h6 h7 h8 h9 fun v => ?_)
  refine step_bind c (part5_ok m c h0 h1 h2 h3 h4 h5 h6 h7 h8 h9 ?_)
  refine step_bind c (part6_ok m K c h0 h1 h2 h3 h4 h5 h6 h7 h8 h9 ?_)
  refine step_bind c (part7_ok m K c h0 h1 h2 h3 h4 h5 h6 h7 h8 h9 ?_)
  refine step_bind c (part8_ok m K c h0 h1 h2 h3 h4 h5 h6 h7 h8 h9 ?_)
  refine step_bind c (part9_ok m K c h0 h1 h2 h3 h4 h5 h6 h7 h8 h9 ?_)
  refine step_bind c (part10_ok m K c h0 h1 h2 h3 h4 h5 h6 h7 h8 h9 ?_)
  refine step_bind c (part11_ok m K c h0 h1 h2 h3 h4 h5 h6 h7 h8 h9 ?_)
  refine BIBase.Entails.trans (Q := iprop(S1St m K c 4 29 ∗ (∃ g, aPts c (slot c) g) ∗ (creds c 1 ∗ ready c 1) ∗ (wPts c (wCat m c) ∗ atPos ER (barCell c) 1 ∅ 0 ∗ slotsB c ∗ inPts m c ∗ ready c 0 ∗ tok2 c ∗ (∃ g, sPts c fullShare g) ∗ (∃ g, bPts c (slot c) g) ∗ creds c 3 ∗ ready c 3 ∗ ready c 2 ∗ (∃ g, oPts c g)))) ?_ ?_
  · iintro ⟨H0, H1, ⟨H2, H3⟩, H4, H5, ⟨H6, H7⟩, ⟨H8, H9, H10, H11, H12, H13, H14, H15⟩⟩
    isplitl [H0]
    · iexact H0
    isplitl [H5]
    · iexact H5
    isplitl [H6 H7]
    · isplitl [H6]
      · iexact H6
      iexact H7
    isplitl [H1]
    · iexact H1
    isplitl [H2]
    · iexact H2
    isplitl [H3]
    · iexact H3
    isplitl [H4]
    · iexact H4
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    iexact H15
  refine step_bind c (part12_ok m K c h0 h1 h2 h3 h4 h5 h6 h7 h8 h9 ?_)
  refine step_bind c (part13_ok m K c h0 h1 h2 h3 h4 h5 h6 h7 h8 h9 ?_)
  refine step_bind c (part14_ok m K c h0 h1 h2 h3 h4 h5 h6 h7 h8 h9 ?_)
  refine step_bind c (part15_ok m K c h0 h1 h2 h3 h4 h5 h6 h7 h8 h9 ?_)
  refine step_bind c (part16_ok m K c h0 h1 h2 h3 h4 h5 h6 h7 h8 h9 ?_)
  refine BIBase.Entails.trans (Q := iprop(WSt m K 1 c (oX 3 c 0) 30 ∗ aPts c (slot c) (A1 m c) ∗ (creds c 0 ∗ ready c 0) ∗ (pPts c (chunk c) (P1 m c) ∗ wPts c (wCat m c) ∗ atPos ER (barCell c) 1 ∅ 0 ∗ slotsB c ∗ inPts m c ∗ tok2 c ∗ (∃ g, sPts c fullShare g) ∗ (∃ g, bPts c (slot c) g) ∗ creds c 3 ∗ ready c 3 ∗ ready c 2 ∗ (∃ g, oPts c g)))) ?_ ?_
  · iintro ⟨H0, ⟨H1, H2, H3⟩, ⟨H4, H5, H6, H7, H8, H9, H10, H11, H12, H13, H14, H15⟩⟩
    isplitl [H0]
    · iexact H0
    isplitl [H1]
    · iexact H1
    isplitl [H3 H8]
    · isplitl [H3]
      · iexact H3
      iexact H8
    isplitl [H2]
    · iexact H2
    isplitl [H4]
    · iexact H4
    isplitl [H5]
    · iexact H5
    isplitl [H6]
    · iexact H6
    isplitl [H7]
    · iexact H7
    isplitl [H9]
    · iexact H9
    isplitl [H10]
    · iexact H10
    isplitl [H11]
    · iexact H11
    isplitl [H12]
    · iexact H12
    isplitl [H13]
    · iexact H13
    isplitl [H14]
    · iexact H14
    iexact H15
  refine step_bind c (part17_ok m K c h0 h1 h2 h3 h4 h5 h6 h7 h8 h9 ?_)
  refine step_bind c (part18_ok m K c h0 h1 h2 h3 h4 h5 h6 h7 h8 h9 ?_)
  refine step_bind c (part19_ok m K c h0 h1 h2 h3 h4 h5 h6 h7 h8 h9 ?_)
  refine step_bind c (part20_ok m K c h0 h1 h2 h3 h4 h5 h6 h7 h8 h9 ?_)
  refine BIBase.Entails.trans (Q := iprop(WSt m K 0 c (oX 3 c 0) 30 ∗ (∃ g, sPts c fullShare g) ∗ (tok2 c ∗ slotsB c) ∗ (aPts c Finset.univ (A1 m c) ∗ done c 1 ∗ pPts c (chunk c) (P1 m c) ∗ wPts c (wCat m c) ∗ atPos ER (barCell c) 1 ∅ 0 ∗ inPts m c ∗ (∃ g, bPts c (slot c) g) ∗ creds c 3 ∗ ready c 3 ∗ ready c 2 ∗ (∃ g, oPts c g)))) ?_ ?_
  · iintro ⟨H0, ⟨H1, H2⟩, ⟨H3, H4, H5, H6, H7, H8, H9, H10, H11, H12, H13, H14⟩⟩
    isplitl [H0]
    · iexact H0
    isplitl [H9]
    · iexact H9
    isplitl [H8 H6]
    · isplitl [H8]
      · iexact H8
      iexact H6
    isplitl [H1]
    · iexact H1
    isplitl [H2]
    · iexact H2
    isplitl [H3]
    · iexact H3
    isplitl [H4]
    · iexact H4
    isplitl [H5]
    · iexact H5
    isplitl [H7]
    · iexact H7
    isplitl [H10]
    · iexact H10
    isplitl [H11]
    · iexact H11
    isplitl [H12]
    · iexact H12
    isplitl [H13]
    · iexact H13
    iexact H14
  refine step_bind c (part21_ok m K c h0 h1 h2 h3 h4 h5 h6 h7 h8 h9 ?_)
  refine step_bind c (part22_ok m K c h0 h1 h2 h3 h4 h5 h6 h7 h8 h9 ?_)
  refine step_bind c (part23_ok m K c h0 h1 h2 h3 h4 h5 h6 h7 h8 h9 ?_)
  refine step_bind c (part24_ok m K c h0 h1 h2 h3 h4 h5 h6 h7 h8 h9 ?_)
  refine BIBase.Entails.trans (Q := iprop(S2St m K c 32 ∗ (sPts c (restShare 32) (P2 m c) ∗ (∃ g, bPts c (slot c) g)) ∗ (creds c 3 ∗ ready c 3) ∗ (sPts c (cutShare c.val) (P2 m c) ∗ done c 0 ∗ paid m c 0 ∗ aPts c Finset.univ (A1 m c) ∗ done c 1 ∗ pPts c (chunk c) (P1 m c) ∗ wPts c (wCat m c) ∗ atPos ER (barCell c) 1 ∅ 0 ∗ inPts m c ∗ ready c 2 ∗ (∃ g, oPts c g)))) ?_ ?_
  · iintro ⟨H0, ⟨H1, H2, H3, H4⟩, ⟨H5, H6, H7, H8, H9, H10, H11, H12, H13, H14, H15⟩⟩
    isplitl [H0]
    · iexact H0
    isplitl [H1 H11]
    · isplitl [H1]
      · iexact H1
      iexact H11
    isplitl [H12 H13]
    · isplitl [H12]
      · iexact H12
      iexact H13
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H14]
    · iexact H14
    iexact H15
  refine step_bind c (part25_ok m K c h0 h1 h2 h3 h4 h5 h6 h7 h8 h9 ?_)
  refine step_bind c (part26_ok m K c h0 h1 h2 h3 h4 h5 h6 h7 h8 h9 ?_)
  refine step_bind c (part27_ok m K c h0 h1 h2 h3 h4 h5 h6 h7 h8 h9 ?_)
  refine step_bind c (part28_ok m K c h0 h1 h2 h3 h4 h5 h6 h7 h8 h9 ?_)
  refine step_bind c (part29_ok m K c h0 h1 h2 h3 h4 h5 h6 h7 h8 h9 ?_)
  refine BIBase.Entails.trans (Q := iprop(WSt m K 3 c 0 32 ∗ (creds c 2 ∗ ready c 2) ∗ (sPts c (restShare 32) (P2 m c) ∗ bPts c (slot c) (A2 m) ∗ sPts c (cutShare c.val) (P2 m c) ∗ done c 0 ∗ paid m c 0 ∗ aPts c Finset.univ (A1 m c) ∗ done c 1 ∗ pPts c (chunk c) (P1 m c) ∗ wPts c (wCat m c) ∗ atPos ER (barCell c) 1 ∅ 0 ∗ inPts m c ∗ (∃ g, oPts c g)))) ?_ ?_
  · iintro ⟨H0, ⟨H1, H2, H3⟩, ⟨H4, H5, H6, H7, H8, H9, H10, H11, H12, H13, H14⟩⟩
    isplitl [H0]
    · iexact H0
    isplitl [H3 H13]
    · isplitl [H3]
      · iexact H3
      iexact H13
    isplitl [H1]
    · iexact H1
    isplitl [H2]
    · iexact H2
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H14
  refine step_bind c (part30_ok m K c h0 h1 h2 h3 h4 h5 h6 h7 h8 h9 ?_)
  refine step_bind c (part31_ok m K c h0 h1 h2 h3 h4 h5 h6 h7 h8 h9 ?_)
  refine step_bind c (part32_ok m K c h0 h1 h2 h3 h4 h5 h6 h7 h8 h9 ?_)
  iterate 4
    refine step_wait m K 2 c 0 (may0 c 2) _ (by decide) (guard_iff _ (by decide) c)
      (fun _ => sem_unit _ _ _ _ ⟨_, by decide⟩ rfl) (fun _ => rfl) ?_
  exact step_ret c hk

set_option maxRecDepth 4000 in
/-- The whole body. -/
theorem body_ok {g : S256x2048.Idx → Elt F .bf16} {Q : PUnit → sProp 𝕄}
    (hk : iprop(known m K ∗ debt c 0 ∗ bPts c Finset.univ (A2 m) ∗ oPts c (outv m) ∗ (done c 2 ∗ done c 3 ∗ pPts c Finset.univ (P1 m c) ∗ sPts c fullShare (P2 m c) ∗ done c 0 ∗ aPts c Finset.univ (A1 m c) ∗ done c 1 ∗ wPts c (wCat m c) ∗ atPos ER (barCell c) 1 ∅ 0 ∗ inPts m c)) ⊢ Q ⟨⟩) :
    iprop(SigSt m K c 0 ∗ inPts m c ∗ wPts c g ∗ (cred (tallyAt (barCell c) () 31) ∗ atPos ER (barCell c) 0 ∅ 0 ∗ PSt m c 0 0 ∗ tok1 c) ∗ (∃ g, aPts c (slot c) g) ∗ (creds c 1 ∗ ready c 1) ∗ (ready c 0 ∗ tok2 c ∗ (∃ g, sPts c fullShare g) ∗ (∃ g, bPts c (slot c) g) ∗ creds c 3 ∗ ready c 3 ∗ ready c 2 ∗ (∃ g, oPts c g)))
      ⊢ run c (cc0_body (F := F) xM h0 rwM h1 riM h2 ewM h3 oM h4 wM h5 pM h6 aM h7 sM h8 bM h9 cc0_scratch5 cc0_scratch6 cc0_scratch7 cc0_scratch8) Q := by
  rw [cc0_body_eq_skeleton]
  unfold cc0_body_skel
  refine step_bind c (part33_ok m K c h0 h1 h2 h3 h4 h5 h6 h7 h8 h9 ?_)
  iterate 2
    refine step_wait m K 2 c 0 (may0 c 2) _ (by decide) (guard_iff _ (by decide) c)
      (fun _ => sem_unit _ _ _ _ ⟨_, by decide⟩ rfl) (fun _ => rfl) ?_
  refine BIBase.Entails.trans (Q := iprop(known m K ∗ debt c 0 ∗ bPts c Finset.univ (A2 m) ∗ (∃ g, oPts c g) ∗ (done c 2 ∗ done c 3 ∗ pPts c Finset.univ (P1 m c) ∗ sPts c fullShare (P2 m c) ∗ done c 0 ∗ aPts c Finset.univ (A1 m c) ∗ done c 1 ∗ wPts c (wCat m c) ∗ atPos ER (barCell c) 1 ∅ 0 ∗ inPts m c))) ?_ ?_
  · iintro ⟨H0, ⟨H1, H2⟩, ⟨H3, H4, H5, H6, H7, H8, H9, H10, H11, H12, H13, H14⟩⟩
    ihave HS' := (leaveW m K c 2 0) $$ H0
    icases HS' with ⟨HK, HO, HD, HP⟩
    ihave HB := (join_b m c) $$ [H4 H2]
    · isplitl [H4]
      · iexact H4
      iexact H2
    ihave HPU := (join_p m c) $$ [H10 H7]
    · isplitl [H10]
      · iexact H10
      iexact H7
    ihave HSU := (join_s m c) $$ [H3 H5 HP]
    · isplitl [H3]
      · iexact H3
      isplitl [H5]
      · iexact H5
      iexact HP
    isplitl [HK]
    · iexact HK
    isplitl [HO]
    · iexact HO
    isplitl [HB]
    · iexact HB
    isplitl [H14]
    · iexact H14
    isplitl [HD]
    · iexact HD
    isplitl [H1]
    · iexact H1
    isplitl [HPU]
    · iexact HPU
    isplitl [HSU]
    · iexact HSU
    isplitl [H6]
    · iexact H6
    isplitl [H8]
    · iexact H8
    isplitl [H9]
    · iexact H9
    isplitl [H11]
    · iexact H11
    isplitl [H12]
    · iexact H12
    iexact H13
  refine step_bload c _ ?_
  refine step_out c _ ?_
  exact step_ret c hk

end Parts

end Cert.KernelIdeal.Moe

end
-- ==== Proof.KernelIdealObligation.lean ====
/-
The body as the pipeline calls it: what a device starts from, what it ends with, and its semaphores' cells closed.
-/
module

public import proofs.«01_k».proof.Proof.KernelIdealBody

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

/-! ## What a device starts from and ends with -/

section Launch

variable (ρ : Dev nD → PrngReg)

def s₀ : MemSt nD τ sig (Elt F) := ⟨m, fun _ => 0, ρ⟩

/-- The tokens of the duties device `c` pays, -/
def payToks (c : Dev nD) : sProp 𝕄 :=
  iprop((bigSep (others c) fun j => dutyTok ER (barCell j) 0 c) ∗ tok1 c ∗ tok2 c)
/-- and its positions. -/
def positions (c : Dev nD) : sProp 𝕄 :=
  iprop(atPos ER (barCell c) 0 ∅ 0 ∗ (bigSep Finset.univ fun k : Fin 4 => iprop(atPos ER (xCell k c c) 0 ∅ 0 ∗ ready c k)))
def linear (c : Dev nD) : sProp 𝕄 := iprop(positions c ∗ payToks c)

def G' (c : Dev nD) : sProp 𝕄 := iprop(∃ K, records m K ∗ linear c)

def start (c : Dev nD) : sProp 𝕄 :=
  iprop(G' m c ∗ cred (tallyAt (barCell c) () 31) ∗ creds c 1 ∗ creds c 3 ∗ levels (F := F))

/-- The kernel's own buffers, at any contents. -/
def scratch (c : Dev nD) : sProp 𝕄 :=
  iprop((∃ f, wPts c f) ∗ (∃ f, pPts c Finset.univ f) ∗ (∃ f, aPts c Finset.univ f) ∗ (∃ f, sPts c fullShare f) ∗ (∃ f, bPts c Finset.univ f))

def Φ₀ (c : Dev nD) : sProp 𝕄 := iprop(start m c ∗ scratch c)
def Φ₁ (c : Dev nD) : sProp 𝕄 :=
  iprop(scratch c ∗ (bigSep Finset.univ fun p : Fin 4 × Fin 32 => semVal (kcell (c, .inr p)) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => rwstg m c
    | ⟨2, _⟩ => ristg m c
    | ⟨3, _⟩ => ewstg m c
    | ⟨4, _⟩ => outv m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 5) t₀ d))
    ∗ (∃ d, stg c cc0_stg1_0 ((dats m 0 c).before (1 : Fin 5) t₀ d))
    ∗ (∃ d, stg c cc0_stg2_0 ((dats m 0 c).before (2 : Fin 5) t₀ d))
    ∗ (∃ d, stg c cc0_stg3_0 ((dats m 0 c).before (3 : Fin 5) t₀ d))
    ∗ (∃ d, stg c cc0_stg4_0 ((dats m 0 c).before (4 : Fin 5) t₀ d)))

def bodyPost (c : Dev nD) : sProp 𝕄 :=
  iprop(Φ₁ c ∗ (dats m 0 c).owesAt () t₀.succ ∗ stg c cc0_stg0_0 (xstg m c) ∗ stg c cc0_stg1_0 (rwstg m c)
    ∗ stg c cc0_stg2_0 (ristg m c) ∗ stg c cc0_stg3_0 (ewstg m c) ∗ stg c cc0_stg4_0 (outv m))

/-! ## Closing the cells -/

variable (K : Dev nD × CK → ℕ)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_one (ck : Dev nD × CK) (r : ℕ) (h : ∀ r', r ≤ r' → (xRd (F := F) m).duties (kcell ck) r' = ∅) :
    iprop(known m K ∗ atPos ER (kcell ck) r ∅ 0) ⊢ |={Set.univ}=> semVal (kcell ck) 0 := by
  iintro ⟨HK, Ha⟩
  ihave HI := (known_inv m K ck) $$ HK
  iapply (Rounds.cell_close ER (xRd m) (Set.mem_univ (K ck)) (fun h => h) (R := r) h)
  isplitl [HI]; · iexact HI
  iexact Ha

theorem close_bar (c : Dev nD) : iprop(known m K ∗ atPos ER (barCell c) 1 ∅ 0) ⊢ |={Set.univ}=> semVal (barCell c) 0 :=
  close_one m K (c, .inl ()) 1 (duties_later' m _)

theorem close_array (c : Dev nD) (k : Fin 4) :
    iprop(known m K ∗ atPos ER (xCell k c c) 0 ∅ 0 ∗ done c k) ⊢ |={Set.univ}=> bigSep Finset.univ fun j : Fin 32 => semVal (kcell (c, .inr (k, j))) 0 := by
  rw [all_others c]
  unfold done
  iintro ⟨#HK, Hs, Hd⟩
  imod (close_one m K (c, .inr (k, c)) 0 (duties_x_self m c k)) $$ [Hs] with H0
  · isplitr; · iexact HK
    iexact Hs
  imod ((bigSep_with_persistent (R := known m K) (S := others c) (Φ := fun j => atPos ER (xCell k c j) 1 ∅ 0) (Ψ := fun j => iprop(|={Set.univ}=> semVal (kcell (c, .inr (k, j))) 0))
      (fun j _ => close_one m K (c, .inr (k, j)) 1 (duties_later' m _))).trans (bigSep_fupd _ _)) $$ [Hd] with H1
  · isplitr; · iexact HK
    iexact Hd
  imodintro
  isplitl [H0]; · iexact H0
  iexact H1

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem close_all (c : Dev nD) :
    iprop(known m K ∗ (bigSep Finset.univ fun k : Fin 4 => iprop(atPos ER (xCell k c c) 0 ∅ 0 ∗ done c k)))
      ⊢ |={Set.univ}=> bigSep Finset.univ fun p : Fin 4 × Fin 32 => semVal (kcell (c, .inr p)) 0 := by
  rw [bigSep_univ_prod]
  exact (bigSep_with_persistent (R := known m K) fun k _ => close_array m K c k).trans (bigSep_fupd _ _)

/-! ## The body obligation -/

theorem held_zero (c : Dev nD) : held c 0 = Finset.univ := by
  ext i; rw [mem_held]; simp

/-- What is not the program's is kept to its end. -/
theorem run_keep (c : Dev nD) {α : Type} {p : Prog (TpuEff nD τ sig (Elt F) Λ₀ .tc) α} {S T : sProp 𝕄} {Q Q' : α → sProp 𝕄}
    (hp : S ⊢ run c p Q) (h : ∀ v, iprop(T ∗ Q v) ⊢ |={Set.univ}=> Q' v) : iprop(T ∗ S) ⊢ run c p Q' := by
  unfold run at hp ⊢
  exact (sep_mono_right hp).trans (BIBase.Entails.trans (wp_frame_l _ _ _) (BIBase.Entails.trans (wp_mono _ _ _ h) (wp_fupd _ _ _ _ _)))

theorem PSt_zero (c : Dev nD) : iprop(∃ f, pPts c Finset.univ f) ⊢ PSt m c 0 0 := by
  unfold PSt
  iintro ⟨%f, H⟩
  iexists f
  isplitr; · ipureintro; intro i hi; omega
  rw [held_zero]
  iexact H

abbrev theBody : Prog (TpuEff nD τ sig (Elt F) Λ₀ .tc) PUnit :=
  cc0_body (F := F) xM (Memref.isWhole_whole _) rwM (Memref.isWhole_whole _) riM (Memref.isWhole_whole _) ewM (Memref.isWhole_whole _) oM (Memref.isWhole_whole _)
    wM (Memref.isWhole_whole _) pM (Memref.isWhole_whole _) aM (Memref.isWhole_whole _) sM (Memref.isWhole_whole _) bM (Memref.isWhole_whole _)
    cc0_scratch5 cc0_scratch6 cc0_scratch7 cc0_scratch8

/-- What is left of the starting resources beside the body's own. -/
theorem enter (c : Dev nD) : bodyPre m c ⊢ iprop(∃ K g, (SigSt m K c 0 ∗ inPts m c ∗ wPts c g ∗ (cred (tallyAt (barCell c) () 31) ∗ atPos ER (barCell c) 0 ∅ 0 ∗ PSt m c 0 0 ∗ tok1 c) ∗ (∃ g, aPts c (slot c) g) ∗ (creds c 1 ∗ ready c 1) ∗ (ready c 0 ∗ tok2 c ∗ (∃ g, sPts c fullShare g) ∗ (∃ g, bPts c (slot c) g) ∗ creds c 3 ∗ ready c 3 ∗ ready c 2 ∗ (∃ g, oPts c g))) ∗ (bigSep Finset.univ fun k : Fin 4 => atPos ER (xCell k c c) 0 ∅ 0)) := by
  unfold bodyPre Φ₀ start G' linear positions payToks scratch
  rw [bigSep_sep' Finset.univ (fun k : Fin 4 => (atPos ER (xCell k c c) 0 ∅ 0 : sProp 𝕄)) (fun k => ready c k), bigSep_fin4 (fun k => ready c k)]
  iintro ⟨⟨⟨⟨%K, HR, ⟨Hab, Hself, Hr0, Hr1, Hr2, Hr3⟩, Htb, Ht1, Ht2⟩, Hcb, Hc1, Hc3, Hlev⟩, ⟨%g, Hw⟩, Hp, Ha, Hs, Hb⟩, Ho,
    ⟨%d0, %g0, %hg0, H0⟩, ⟨%d1, %g1, %hg1, H1⟩, ⟨%d2, %g2, %hg2, H2⟩, ⟨%d3, %g3, %hg3, H3⟩, ⟨%d4, %g4, %hg4, H4⟩⟩
  have e0 : g0 = xstg m c := by rw [hg0]; unfold Dat.before; rw [if_pos (fetch0_0 t₀)]; rfl
  have e1 : g1 = rwstg m c := by rw [hg1]; unfold Dat.before; rw [if_pos (fetch0_1 t₀)]; rfl
  have e2 : g2 = ristg m c := by rw [hg2]; unfold Dat.before; rw [if_pos (fetch0_2 t₀)]; rfl
  have e3 : g3 = ewstg m c := by rw [hg3]; unfold Dat.before; rw [if_pos (fetch0_3 t₀)]; rfl
  subst e0 e1 e2 e3
  iexists K
  iexists g
  isplitr [Hself]
  · ihave HE := (sig_enter m K c) $$ [HR Hlev Ho Htb Ha Hb]
    · isplitl [HR Hlev]
      · unfold known
        isplitl [HR]; · iexact HR
        iexact Hlev
      isplitl [Ho]
      · unfold Dat.owesAt Pipeline.owesWithin debt
        icases Ho with ⟨%W, %hW, HO⟩
        iexists W
        iexact HO
      isplitl [Htb]; · iexact Htb
      isplitl [Ha]; · iexact Ha
      iexact Hb
    icases HE with ⟨HS, Ha, Hb⟩
    isplitl [HS]; · iexact HS
    isplitl [H0 H1 H2 H3]
    · unfold inPts
      isplitl [H0]; · iexact H0
      isplitl [H1]; · iexact H1
      isplitl [H2]; · iexact H2
      iexact H3
    isplitl [Hw]; · iexact Hw
    isplitl [Hcb Hab Hp Ht1]
    · isplitl [Hcb]; · iexact Hcb
      isplitl [Hab]; · iexact Hab
      isplitl [Hp]; · iapply (PSt_zero m c); iexact Hp
      iexact Ht1
    isplitl [Ha]; · iexact Ha
    isplitl [Hc1 Hr1]
    · isplitl [Hc1]; · iexact Hc1
      iexact Hr1
    isplitl [Hr0]; · iexact Hr0
    isplitl [Ht2]; · iexact Ht2
    isplitl [Hs]; · iexact Hs
    isplitl [Hb]; · iexact Hb
    isplitl [Hc3]; · iexact Hc3
    isplitl [Hr3]; · iexact Hr3
    isplitl [Hr2]; · iexact Hr2
    iexists g4
    unfold oPts
    iexact H4
  iexact Hself

theorem leave (c : Dev nD) : iprop((bigSep Finset.univ fun k : Fin 4 => atPos ER (xCell k c c) 0 ∅ 0) ∗ (known m K ∗ debt c 0 ∗ bPts c Finset.univ (A2 m) ∗ oPts c (outv m) ∗ (done c 2 ∗ done c 3 ∗ pPts c Finset.univ (P1 m c) ∗ sPts c fullShare (P2 m c) ∗ done c 0 ∗ aPts c Finset.univ (A1 m c) ∗ done c 1 ∗ wPts c (wCat m c) ∗ atPos ER (barCell c) 1 ∅ 0 ∗ inPts m c)))
    ⊢ |={Set.univ}=> bodyPost m c := by
  iintro ⟨Hself, HK, HO, HB, HOP, HD2, HD3, HP, HS, HD0, HA, HD1, HW, HBar, HIN⟩
  ihave #HKK := (show known m K ⊢ known m K from BI.Entails.refl _) $$ HK
  imod (close_bar m K c) $$ [HBar] with Hzb
  · isplitr; · iexact HKK
    iexact HBar
  imod (close_all m K c) $$ [Hself HD0 HD1 HD2 HD3] with Hz
  · isplitr; · iexact HKK
    rw [bigSep_sep' Finset.univ (fun k : Fin 4 => (atPos ER (xCell k c c) 0 ∅ 0 : sProp 𝕄)) (fun k => done c k), bigSep_fin4 (fun k => done c k)]
    isplitl [Hself]; · iexact Hself
    isplitl [HD0]; · iexact HD0
    isplitl [HD1]; · iexact HD1
    isplitl [HD2]; · iexact HD2
    iexact HD3
  imodintro
  unfold bodyPost Φ₁ scratch inPts oPts
  isplitl [HW HP HA HS HB Hz Hzb]
  · isplitl [HW HP HA HS HB]
    · isplitl [HW]; · iexists _; iexact HW
      isplitl [HP]; · iexists _; iexact HP
      isplitl [HA]; · iexists _; iexact HA
      isplitl [HS]; · iexists _; iexact HS
      iexists _; iexact HB
    isplitl [Hz]; · iexact Hz
    iexact Hzb
  isplitl [HO]
  · unfold Dat.owesAt Pipeline.owesWithin debt
    icases HO with ⟨%W, HO⟩
    iexists W
    isplitr; · ipureintro; exact fun _ _ => Or.inl trivial
    iexact HO
  icases HIN with ⟨H0', H1', H2', H3'⟩
  isplitl [H0']; · iexists _; isplitr; · (ipureintro; rfl)
                   iexact H0'
  isplitl [H1']; · iexists _; isplitr; · (ipureintro; rfl)
                   iexact H1'
  isplitl [H2']; · iexists _; isplitr; · (ipureintro; rfl)
                   iexact H2'
  isplitl [H3']; · iexists _; isplitr; · (ipureintro; rfl)
                   iexact H3'
  iexists _; isplitr; · (ipureintro; rfl)
  iexact HOP

theorem body_run (c : Dev nD) : bodyPre m c ⊢ run c (theBody (F := F)) (fun _ => bodyPost m c) := by
  refine BIBase.Entails.trans (enter m c) ?_
  iintro ⟨%K, %g, H, Hself⟩
  iapply (run_keep c (T := bigSep Finset.univ fun k : Fin 4 => atPos ER (xCell k c c) 0 ∅ 0) (body_ok m K c _ _ _ _ _ _ _ _ _ _ (g := g) (Q := fun _ => iprop(known m K ∗ debt c 0 ∗ bPts c Finset.univ (A2 m) ∗ oPts c (outv m) ∗ (done c 2 ∗ done c 3 ∗ pPts c Finset.univ (P1 m c) ∗ sPts c fullShare (P2 m c) ∗ done c 0 ∗ aPts c Finset.univ (A1 m c) ∗ done c 1 ∗ wPts c (wCat m c) ∗ atPos ER (barCell c) 1 ∅ 0 ∗ inPts m c))) (BI.Entails.refl _)) fun _ => leave m K c)
  isplitl [Hself]; · iexact Hself
  iexact H

set_option maxRecDepth 4000 in
theorem body_obligation (c : Dev nD) : BodyObligation (dats (F := F) m 0 c) (defs₀ (F := F)) 𝒱₀ () Set.univ := fun t => by
  rw [fin_N0 t]
  rw [bigSep_W, bigSep_W]
  simp only [owns_whole_eq]
  have h := body_run m c
  unfold run at h
  exact h

end Launch

end Cert.KernelIdeal.Moe

end
-- ==== Proof.KernelIdealLaunch.lean ====
/-
The launch: the cells funded, the tokens dealt, the credits counted, and the run of the whole program.
-/
module

public import proofs.«01_k».proof.Proof.KernelIdealObligation
public import Idealize.ShloMosaic.Lib.Pipeline.CollectiveSegs

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## The launch: every device's cells funded, its tokens dealt to the devices that pay with them -/

theorem ownSemFacts : Pipeline.OwnSemFacts cfg0.spec osem where
  isScoped := fun ⟨k, j⟩ => by revert k j; decide
  inj := fun ⟨k, j⟩ ⟨k', j'⟩ h => by
    obtain ⟨rfl, rfl⟩ := xS_inj (SemLoc.dma.inj h); rfl
  disj := fun ⟨k, j⟩ w s h => by
    have h1 : xS k j = (cfg0.spec w).sem s := SemLoc.dma.inj h
    have h2 : ∀ (w : Fin 5) s, ((cfg0.spec w).sem s).val < 5 := by decide
    have h3 := h2 w s
    rw [← h1] at h3
    simp only [xS] at h3
    omega

theorem share_eq (c : Dev nD) (w : Fin cfg0.W) : (dats m 0 c).share w = fullShare := by unfold Dat.share; split <;> rfl

def allCells : Finset (GSem nD τ sig) := Finset.univ.map ⟨kcell, kcell_injective⟩

/-- The duties' tokens as minted: device `c`'s barrier has one a device, each of its transfer cells one. -/
abbrev tokOf (ct : Dev nD × (Fin 32 ⊕ (Fin 4 × Fin 32))) : GSem nD τ sig × ℕ × Fin 32 := match ct.2 with
  | .inl j => (barCell ct.1, 0, j)
  | .inr p => (xCell p.1 ct.1 p.2, 0, 0)

theorem tokOf_injective : Function.Injective tokOf := by
  rintro ⟨c, a⟩ ⟨c', a'⟩ h
  have h1 : c = c' := by
    have := congrArg (fun x : GSem nD τ sig × ℕ × Fin 32 => x.1.1.1) h
    rcases a with j | p <;> rcases a' with j' | p' <;> exact this
  subst h1
  rcases a with j | ⟨k, j⟩ <;> rcases a' with j' | ⟨k', j'⟩
  · have h2 : j = j' := congrArg (fun x : GSem nD τ sig × ℕ × Fin 32 => x.2.2) h
    rw [h2]
  · have h2 := congrArg (fun x : GSem nD τ sig × ℕ × Fin 32 => x.1.2) h
    cases h2
  · have h2 := congrArg (fun x : GSem nD τ sig × ℕ × Fin 32 => x.1.2) h
    cases h2
  · have h2 : SemLoc.dma (xS k j) = SemLoc.dma (xS k' j') := congrArg (fun x : GSem nD τ sig × ℕ × Fin 32 => x.1.2) h
    obtain ⟨rfl, rfl⟩ := xS_inj (SemLoc.dma.inj h2); rfl

def allToks : Finset (GSem nD τ sig × ℕ × Fin 32) := Finset.univ.map ⟨tokOf, tokOf_injective⟩

def u₀ : UU := (initOf (Pipeline.cells cfgs cellOf_inj) (Pipeline.launchToks cfgs cellOf_inj), initOf allCells allToks)

/-- The tokens of the duties at device `c`'s own cells. -/
def toks (c : Dev nD) : sProp 𝕄 :=
  iprop((bigSep Finset.univ fun j : Fin 32 => dutyTok ER (barCell c) 0 j)
    ∗ bigSep Finset.univ fun p : Fin 4 × Fin 32 => dutyTok ER (xCell p.1 c p.2) 0 0)

/-- What the launch element deals device `c`. -/
def G (c : Dev nD) : sProp 𝕄 :=
  iprop((bigSep Finset.univ fun k : CK => roundState ER (xRd m) (kcell (c, k)) 0)
    ∗ ((bigSep Finset.univ fun k : CK => atPos ER (kcell (c, k)) 0 ∅ 0) ∗ bigSep Finset.univ fun k : CK => reached ER (kcell (c, k)) 0) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum]; rfl
  iintro HX
  imod (Rounds.fund ER (xRd m) allCells allToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun p : Fin 4 × Fin 32 => semVal (kcell (c, .inr p)) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, BI.bigSep_univ_sum, bigSep_univ_eq_bigSepL [()] (by decide) (by decide)]
  show _ ⊢ iprop(semVal (barCell c) 0 ∗ bigSep Finset.univ fun p : Fin 4 × Fin 32 => semVal (kcell (c, .inr p)) 0)
  iintro ⟨HX, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (xRd m) κ (kcell (c, k))))
          ∗ ((bigSep Finset.univ fun k : CK => atPos ER (kcell (c, k)) 0 ∅ 0) ∗ bigSep Finset.univ fun k : CK => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (xRd m) (kcell (c, k)) 0)
      ⊢ (|={Set.univ}=> bigSep Finset.univ fun k : CK => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Who pays with which token -/

/-- Two devices' roles exchanged. -/
theorem swap (Φ : Dev nD → Fin 32 → sProp 𝕄) :
    (bigSep Finset.univ fun c : Dev nD => bigSep Finset.univ fun j : Fin 32 => Φ c j) = bigSep Finset.univ fun c : Dev nD => bigSep Finset.univ fun j : Fin 32 => Φ j c := by
  rw [← bigSep_univ_prod (fun p : Dev nD × Fin 32 => Φ p.1 p.2), ← bigSep_univ_prod (fun p : Dev nD × Fin 32 => Φ p.2 p.1),
    bigSep_univ_equiv (Equiv.prodComm (Dev nD) (Fin 32)) (fun p : Fin 32 × Dev nD => Φ p.2 p.1)]
  rfl

theorem only_others (Φ : Dev nD → Fin 32 → sProp 𝕄) :
    (bigSep Finset.univ fun c : Dev nD => bigSep Finset.univ fun j : Fin 32 => Φ c j) ⊢ bigSep Finset.univ fun c : Dev nD => bigSep (others c) fun j => Φ c j :=
  bigSep_mono fun c _ => bigSep_subset (Finset.subset_univ _)

theorem deal : (bigSep Finset.univ fun c : Dev nD => (toks c : sProp 𝕄)) ⊢ bigSep Finset.univ fun c : Dev nD => payToks c := by
  unfold toks payToks tok1 tok2
  simp only [bigSep_sep', bigSep_univ_prod, bigSep_fin4]
  rw [swap (fun c j => (dutyTok ER (barCell c) 0 j : sProp 𝕄)), swap (fun c j => (dutyTok ER (xCell 1 c j) 0 0 : sProp 𝕄)), swap (fun c j => (dutyTok ER (xCell 3 c j) 0 0 : sProp 𝕄))]
  iintro ⟨Hb, H0, H1, H2, H3⟩
  isplitl [Hb]; · iapply (only_others fun c j => (dutyTok ER (barCell j) 0 c : sProp 𝕄)); iexact Hb
  isplitl [H0 H1]
  · isplitl [H0]; · iapply (only_others fun c j => (dutyTok ER (xCell 0 c j) 0 0 : sProp 𝕄)); iexact H0
    iapply (only_others fun c j => (dutyTok ER (xCell 1 j c) 0 0 : sProp 𝕄)); iexact H1
  isplitl [H2]; · iapply (only_others fun c j => (dutyTok ER (xCell 2 c j) 0 0 : sProp 𝕄)); iexact H2
  iapply (only_others fun c j => (dutyTok ER (xCell 3 j c) 0 0 : sProp 𝕄)); iexact H3

theorem positions_of (c : Dev nD) : (bigSep Finset.univ fun k : CK => atPos ER (kcell (c, k)) 0 ∅ 0 : sProp 𝕄) ⊢ positions c := by
  rw [BI.bigSep_univ_sum, bigSep_univ_eq_bigSepL [()] (by decide) (by decide), bigSep_univ_prod]
  unfold positions
  refine sep_mono_right (Entails.of_eq (bigSep_congr fun k _ => ?_))
  rw [all_others c]
  rfl

theorem regroup :
    (bigSep Finset.univ fun c : Dev nD => iprop((bigSep Finset.univ fun k : CK => iprop(∃ κ : ℕ, cellInv ER (xRd m) κ (kcell (c, k))))
          ∗ ((bigSep Finset.univ fun k : CK => atPos ER (kcell (c, k)) 0 ∅ 0) ∗ bigSep Finset.univ fun k : CK => reached ER (kcell (c, k)) 0) ∗ toks c) : sProp 𝕄)
      ⊢ bigSep Finset.univ (G' m) := by
  rw [bigSep_sep', bigSep_sep', bigSep_sep', ← bigSep_univ_prod (fun ck : Dev nD × CK => iprop(∃ κ : ℕ, cellInv ER (xRd m) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (xRd m) κ (kcell ck) : sProp 𝕄))) $$ HI
  icases HK with ⟨%K, #HI⟩
  ihave Htk := (deal (F := F)) $$ Htok
  ihave Hps := (show (bigSep Finset.univ fun c : Dev nD => bigSep Finset.univ fun k : CK => atPos ER (kcell (c, k)) 0 ∅ 0 : sProp 𝕄) ⊢ bigSep Finset.univ fun c : Dev nD => positions c from bigSep_mono fun c _ => positions_of c) $$ Hat
  iapply (bigSep_with_persistent (R := records m K) (Φ := fun c => linear c) fun c _ => (show iprop(records m K ∗ linear c) ⊢ G' m c from by
    unfold G'
    iintro H
    iexists K
    iexact H))
  isplitr
  · unfold records; isplitl; · iexact HI
    iexact HR
  · iapply (Entails.of_eq (bigSep_sep' Finset.univ (fun c : Dev nD => (positions c : sProp 𝕄)) payToks).symm)
    isplitl [Hps]; · iexact Hps
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit: what all the devices together owe each cell -/

theorem bar_eq_iff {a b : Dev nD} : barCell a = barCell b ↔ a = b :=
  ⟨fun h => congrArg (fun g : GSem nD τ sig => g.1.1) h, fun h => h ▸ rfl⟩
theorem x_eq_iff {k k' : Fin 4} {a b : Dev nD} {i j : Fin 32} : xCell k a i = xCell k' b j ↔ k = k' ∧ a = b ∧ i = j := by
  constructor
  · intro h
    have h1 : a = b := congrArg (fun g : GSem nD τ sig => g.1.1) h
    obtain ⟨h2, h3⟩ := xS_inj (SemLoc.dma.inj (congrArg (fun g : GSem nD τ sig => g.2) h))
    exact ⟨h2, h1, h3⟩
  · rintro ⟨rfl, rfl, rfl⟩; rfl
theorem x_ne_bar {k : Fin 4} {a b : Dev nD} {i : Fin 32} : xCell k a i ≠ barCell b := fun h => by
  have := congrArg (fun g : GSem nD τ sig => g.2) h
  cases this

theorem oBar_at (d : Dev nD) (g : GSem nD τ sig) : oBar d 0 g () = ∑ j ∈ others d, if g = barCell j then 1 else 0 := by
  unfold oBar
  rw [Finset.sum_apply, Finsupp.finset_sum_apply, show ahead d 0 = others d from Finset.ext fun j => by rw [mem_ahead, others]; simp]
  exact Finset.sum_congr rfl fun j _ => by rw [tallyAt_apply]; simp
theorem oX_at (k : Fin 4) (d : Dev nD) (g : GSem nD τ sig) : oX k d 0 g () = ∑ j ∈ others d, if g = xCell k j d then N else 0 := by
  unfold oX
  rw [Finset.sum_apply, Finsupp.finset_sum_apply, show ahead d 0 = others d from Finset.ext fun j => by rw [mem_ahead, others]; simp]
  exact Finset.sum_congr rfl fun j _ => by rw [tallyAt_apply]; simp

theorem mem_others {c j : Fin 32} : j ∈ others c ↔ j ≠ c := by rw [others]; simp

theorem owed_bar (d c : Dev nD) : O₀ d (barCell c) () = if d = c then 0 else 1 := by
  unfold O₀
  rw [Pi.add_apply, Finsupp.add_apply, Pi.add_apply, Finsupp.add_apply, oBar_at, oX_at, oX_at,
    Finset.sum_congr rfl fun j _ => if_neg (x_ne_bar (k := 1) (a := j) (i := d) (b := c)).symm,
    Finset.sum_congr (s₁ := others d) rfl fun j _ => if_neg (x_ne_bar (k := 3) (a := j) (i := d) (b := c)).symm,
    Finset.sum_congr rfl fun j _ => if_congr (bar_eq_iff (a := c) (b := j)) rfl rfl, Finset.sum_ite_eq, Finset.sum_const_zero]
  by_cases h : d = c
  · rw [if_neg (fun h' => mem_others.mp h' h.symm), if_pos h]; rfl
  · rw [if_pos (mem_others.mpr fun h' => h h'.symm), if_neg h]; rfl

theorem oX_x (k k' : Fin 4) (d c : Dev nD) (j : Fin 32) : oX k d 0 (xCell k' c j) () = if k' = k ∧ j = d ∧ c ≠ d then N else 0 := by
  rw [oX_at, Finset.sum_congr rfl fun i _ => if_congr (x_eq_iff (k := k') (k' := k) (a := c) (b := i) (i := j) (j := d)) rfl rfl]
  by_cases h : k' = k ∧ j = d
  · rw [Finset.sum_congr rfl fun i _ => if_congr (show k' = k ∧ c = i ∧ j = d ↔ c = i from ⟨fun h' => h'.2.1, fun h' => ⟨h.1, h', h.2⟩⟩) rfl rfl,
      Finset.sum_ite_eq]
    exact if_congr (by rw [mem_others]; tauto) rfl rfl
  · rw [Finset.sum_congr rfl fun i _ => if_neg (fun h' => h ⟨h'.1, h'.2.2⟩), Finset.sum_const_zero, if_neg (fun h' => h ⟨h'.1, h'.2.1⟩)]

theorem owed_x (k : Fin 4) (hk : k = 1 ∨ k = 3) (d c : Dev nD) (j : Fin 32) (hj : j ≠ c) : O₀ d (xCell k c j) () = if d = j then N else 0 := by
  unfold O₀
  rw [Pi.add_apply, Finsupp.add_apply, Pi.add_apply, Finsupp.add_apply, oBar_at, oX_x, oX_x,
    Finset.sum_congr rfl fun i _ => if_neg (x_ne_bar (k := k) (a := c) (i := j) (b := i)), Finset.sum_const_zero]
  by_cases h : d = j
  · subst h
    have hc : c ≠ d := fun h => hj h.symm
    rcases hk with rfl | rfl
    · rw [if_pos ⟨rfl, rfl, hc⟩, if_neg (fun h => absurd h.1 (by decide)), if_pos rfl]; omega
    · rw [if_neg (fun h => absurd h.1 (by decide)), if_pos ⟨rfl, rfl, hc⟩, if_pos rfl]; omega
  · rw [if_neg (fun h' => h h'.2.1.symm), if_neg (fun h' => h h'.2.1.symm), if_neg h]; rfl

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_x (k : Fin 4) (hk : k = 1 ∨ k = 3) (c : Dev nD) (j : Fin 32) (hj : j ≠ c) :
    tallyOn (xCell k c j) (launchCredit (Pipeline.owing O₀) 0 (xCell k c j)) = (tallyAt (xCell k c j) () N : CellTallies nD τ sig Unit) := by
  unfold tallyAt; refine congrArg _ (Finsupp.ext fun u => ?_); cases u
  rw [Pipeline.launchCredit_owing, Finsupp.single_eq_same, Finset.sum_congr rfl fun d _ => owed_x k hk d c j hj, Finset.sum_ite_eq' Finset.univ j fun _ => N,
    if_pos (Finset.mem_univ _)]

theorem launch_creds (c : Dev nD) :
    (Pipeline.launchCred O₀ c : sProp 𝕄) ⊢ iprop(cred (tallyAt (barCell c) () 31) ∗ creds c 1 ∗ creds c 3) := by
  have hinj : Function.Injective osem := ownSemFacts.inj
  have hx (k : Fin 4) (hk : k = 1 ∨ k = 3) : (bigSep Finset.univ fun j : Fin 32 => cred (tallyOn (xCell k c j) (launchCredit (Pipeline.owing O₀) 0 (xCell k c j))) : sProp 𝕄) ⊢ creds c k := by
    unfold creds
    exact (bigSep_subset (Finset.subset_univ (others c))).trans (Entails.of_eq (bigSep_congr fun j hj => by rw [launch_x k hk c j (mem_others.mp hj)]))
  unfold Pipeline.launchCred
  rw [bigSep_univ_at _ (SemLoc.reg barS), launch_bar]
  refine sep_mono_right ?_
  refine BIBase.Entails.trans (bigSep_subset (t := Finset.univ.map ⟨osem, hinj⟩) fun x hx => ?_) ?_
  · obtain ⟨p, -, rfl⟩ := Finset.mem_map.mp hx
    exact Finset.mem_erase.mpr ⟨(fun h => nomatch h), Finset.mem_univ _⟩
  rw [bigSep_map, bigSep_univ_prod, bigSep_fin4]
  iintro ⟨-, H1, -, H3⟩
  isplitl [H1]; · iapply (hx 1 (Or.inl rfl)); iexact H1
  iapply (hx 3 (Or.inr rfl)); iexact H3

/-! ### The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  icases Hc with ⟨H0, H1, H3⟩
  imodintro
  unfold start levels
  isplitl
  · isplitl [HG]; · iexact HG
    isplitl [H0]; · iexact H0
    isplitl [H1]; · iexact H1
    isplitl [H3]; · iexact H3
    iexact Hlev
  · iempintro

theorem scratch_eq (c : Dev nD) : (Pipeline.scopedRest (Ix := Unit) (Name := ℕ) (U := UU) (Lvl := ℕ) (Val := Elt F) spec0 c : sProp 𝕄) = scratch c := by
  rw [scopedRest0_eq]
  unfold scratch wPts
  rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = scratch c from scratch_eq c]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show (Pipeline.scopedRest cfg0.spec c : sProp 𝕄) = scratch c from scratch_eq c, ownSems0_eq, unscopedSems0_eq]
  unfold Φ₁
  iintro ⟨Hr, HX, HB⟩
  isplitl [HB]; · iexact HB
  isplitl [HX]; · iexact HX
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh, for any float values, from any memory with zero counters: every weakly fair execution of `main`
    terminates, and every final state has each device's arrays at the computed contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Moe

end
-- ==== Proof.KernelIdealFinal.lean ====
/-
What the run leaves: the result array at the computed contents on every device, the arguments as they were.
-/
module

public import proofs.«01_k».proof.Proof.KernelIdealLaunch

@[expose] public section

set_option synthInstance.maxSize 4096

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## The run read at the argument and result arrays -/

/-- The result array, its one block read back, is what the body left in its staging buffer. -/
theorem finalA_out (c : Dev nD) : finalA m c (4 : Fin 5) = outv m := by
  have ho : (win0_4.blk (0 : Fin 1)).view.read (Elt F) (finalA m c (4 : Fin 5)) = outv m := by
    unfold finalA
    rw [show cfg0.N = (t₀ : Fin cfg0.N).val + 1 from rfl, (dats m 0 c).arrAt_succ (4 : Fin 5) t₀, flush0_4, if_pos rfl]
    exact View.read_write_univ _ _
  have hz : (fun a => (win0_4.index (0 : Fin 1)) a * main_v1.ty.shape.size a) = fun _ => 0 :=
    funext fun a => by fin_cases a <;> decide
  exact (Memref.read_access_unit_zero (Elt F) main_v1 hz (fun a => by fin_cases a <;> decide) _).symm.trans ho

theorem xstg_eq (c : Dev nD) : xstg m c = m ((c : Thread nD τ).loc main_arg0) :=
  Memref.read_access_unit_zero (Elt F) main_arg0 (show (fun a => (win0_0.index (0 : Fin 1)) a * main_arg0.ty.shape.size a) = fun _ => 0 from funext fun a => by fin_cases a <;> decide) (fun a => by fin_cases a <;> decide) _
theorem rwstg_eq (c : Dev nD) : rwstg m c = m ((c : Thread nD τ).loc main_arg1) :=
  Memref.read_access_unit_zero (Elt F) main_arg1 (show (fun a => (win0_1.index (0 : Fin 1)) a * main_arg1.ty.shape.size a) = fun _ => 0 from funext fun a => by fin_cases a <;> decide) (fun a => by fin_cases a <;> decide) _
theorem ristg_eq (c : Dev nD) : ristg m c = m ((c : Thread nD τ).loc main_arg2) :=
  Memref.read_access_unit_zero (Elt F) main_arg2 (show (fun a => (win0_2.index (0 : Fin 1)) a * main_arg2.ty.shape.size a) = fun _ => 0 from funext fun a => by fin_cases a <;> decide) (fun a => by fin_cases a <;> decide) _
theorem ewstg_eq (c : Dev nD) : ewstg m c = m ((c : Thread nD τ).loc main_arg3) :=
  Memref.read_access_unit_zero (Elt F) main_arg3 (show (fun a => (win0_3.index (0 : Fin 1)) a * main_arg3.ty.shape.size a) = fun _ => 0 from funext fun a => by fin_cases a <;> decide) (fun a => by fin_cases a <;> decide) _

/-- Every device's result array ends at the computed contents, its arguments as they were, every counter at zero. -/
theorem run_final : θ_run defs (onTc (τ := τ) (main (F := F))) ⟨m, fun _ => 0, ρ⟩ (fun r => (∀ c : Dev nD,
    r.2.mem ((c.tc : Thread nD τ).loc main_v1) = outv m
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run defs _ _).mono (fun _ h => ⟨fun c => ⟨(h.1 c 4).trans (finalA_out m c),
      (h.1 c 0).trans ((dats m 0 c).arrAt_in 0 rfl _),
      (h.1 c 1).trans ((dats m 0 c).arrAt_in 1 rfl _),
      (h.1 c 2).trans ((dats m 0 c).arrAt_in 2 rfl _),
      (h.1 c 3).trans ((dats m 0 c).arrAt_in 3 rfl _)⟩, h.2⟩) (run_main m ρ)

end Cert.KernelIdeal.Moe

end
-- ==== Proof.GateMath.lean ====
/-
# The mathematics that the two programs share

Arithmetic over the extended reals: what a softmax makes of two chosen scores once the two are divided by their sum,
and what a sum over all experts leaves when every weight but two is zero.
-/
module

public import Idealize.ShloMosaic.Lib.Pointwise

@[expose] public section

noncomputable section

namespace Cert.Moe

open Idealize.ShloMosaic

/-- A sum of reals is real. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals is real. -/
theorem exists_sum_mul {ι : Type} [Fintype ι] (f g : ι → EReal) (hf : ∀ i, ∃ r : ℝ, f i = (r : EReal)) (hg : ∀ i, ∃ r : ℝ, g i = (r : EReal)) :
    ∃ r : ℝ, (∑ i, f i * g i) = (r : EReal) := by
  choose a ha using hf
  choose b hb using hg
  exact ⟨∑ i, a i * b i, by rw [← sum_coe]; exact Finset.sum_congr rfl fun i _ => by rw [ha, hb, EReal.coe_mul]⟩

/-- The greatest of finitely many reals is real. -/
theorem exists_fold_max {n : ℕ} [NeZero n] (S : Fin n → ℝ) :
    ∃ r : ℝ, (Finset.univ : Finset (Fin n)).fold max (⊥ : EReal) (fun i => (S i : EReal)) = (r : EReal) := by
  obtain ⟨i, -, h⟩ := Finset.exists_mem_eq_sup (Finset.univ : Finset (Fin n)) Finset.univ_nonempty (fun i => (S i : EReal))
  exact ⟨S i, h⟩

/-- The quotient of two reals, the divisor not zero. -/
theorem div_real (a b : ℝ) (hb : b ≠ 0) : Ideal.div (a : EReal) (b : EReal) = ((a / b : ℝ) : EReal) := by
  rw [Ideal.div_coe hb, ← EReal.coe_mul]; congr 1; ring

/-- The first chosen expert's weight, of its score `a` and the other's `b`. -/
def weight (a b : ℝ) : ℝ := 1 / (1 + Real.exp (b - a))

theorem weight_pos (a b : ℝ) : 0 < weight a b := by unfold weight; positivity

theorem weight_add (a b : ℝ) : weight a b + weight b a = 1 := by
  unfold weight
  have e : Real.exp (a - b) = (Real.exp (b - a))⁻¹ := by rw [← Real.exp_neg]; congr 1; ring
  have h := Real.exp_pos (b - a)
  rw [e]; field_simp; ring

/-- Two entries of a softmax, divided by their sum. -/
theorem softmax_share (a b M Z : ℝ) (hZ : 0 < Z) :
    (Real.exp (a - M) / Z) / (Real.exp (a - M) / Z + Real.exp (b - M) / Z) = weight a b := by
  unfold weight
  have e : Real.exp (b - M) = Real.exp (b - a) * Real.exp (a - M) := by rw [← Real.exp_add]; congr 1; ring
  have h := Real.exp_pos (a - M)
  have h' := Real.exp_pos (b - a)
  rw [e]; field_simp

/-- As the kernel writes it. -/
theorem weight_coe (a b : ℝ) : Ideal.div 1 (1 + Ideal.exp ((b : EReal) - (a : EReal))) = ((weight a b : ℝ) : EReal) := by
  rw [← EReal.coe_sub, Ideal.exp_coe, ← EReal.coe_one, ← EReal.coe_add, div_real _ _ (by positivity)]; rfl

theorem one_sub_weight_coe (a b : ℝ) : (1 : EReal) - ((weight a b : ℝ) : EReal) = ((weight b a : ℝ) : EReal) := by
  rw [← EReal.coe_one, ← EReal.coe_sub, ← weight_add a b]; congr 1; ring

/-- A sum over the experts, device by device and four on each. -/
theorem sum_experts {M : Type} [AddCommMonoid M] (f : Fin 128 → M) :
    (∑ d : Fin 32, ∑ k : Fin 4, f ⟨4 * d.val + k.val, by omega⟩) = ∑ e, f e := by
  rw [← Fintype.sum_prod_type' (f := fun (d : Fin 32) (k : Fin 4) => f ⟨4 * d.val + k.val, by omega⟩)]
  refine Fintype.sum_equiv (finProdFinEquiv (m := 32) (n := 4)) _ _ fun p => congrArg f (Fin.ext ?_)
  show 4 * p.1.val + p.2.val = p.2.val + 4 * p.1.val
  omega

/-- One at the expert named and zero at the others. -/
def hit (e f : Fin 128) : EReal := if e = f then 1 else 0

/-- Where every expert's weight is zero but for the two named, the weighted sum is those two's. The other experts'
    terms are zero whatever they weigh, infinities included. -/
theorem sum_hit (r s : Fin 128) (v w : EReal) (hv : 0 ≤ v) (hw : 0 ≤ w) (y : Fin 128 → EReal) :
    (∑ e, (v * hit r e + w * hit s e) * y e) = v * y r + w * y s := by
  have h : ∀ e, (v * hit r e + w * hit s e) * y e = (if r = e then v * y e else 0) + (if s = e then w * y e else 0) := fun e => by
    unfold hit
    by_cases h1 : r = e <;> by_cases h2 : s = e <;> simp [h1, h2, EReal.right_distrib_of_nonneg hv hw]
  rw [Finset.sum_congr rfl fun e _ => h e, Finset.sum_add_distrib]
  simp

end Cert.Moe

end
-- ==== Proof.KernelIdealValue.lean ====
/-
# What the kernel computes

The kernel's result at an index, over the extended reals: the two chosen experts' products with the token, each
weighted by the logistic function of the two scores' difference. A device weighs its own four experts, and an expert
that the token did not choose gets weight zero; the sum over the devices is the sum over all the experts.
-/
module

public import proofs.«01_k».proof.Proof.KernelIdealProto
public import proofs.«01_k».proof.Proof.GateMath
public import Idealize.ShloMosaic.Lib.StableHlo.Predicate

@[expose] public section

noncomputable section

namespace Cert.KernelIdeal.Moe

open Cert.KernelIdeal Cert.KernelIdeal.Gen Idealize.ShloMosaic Idealize.ShloMosaic.TcCoe Idealize.SL.Sem

set_option maxRecDepth 16384

/-! ## The weights -/

/-- A sum with one term selected by comparing the index with a word. -/
theorem sum_select (r : BitVec 32) (e : Fin 128) (hr : r = BitVec.ofNat 32 e.val) (f : Fin 128 → EReal) :
    (∑ k : Fin 128, Scalar.select (IntOp.cmpi .eq (BitVec.ofNat 32 k.val) r) (f k) 0) = f e := by
  subst hr
  rw [Finset.sum_eq_single e]
  · rw [StableHlo.Predicate.cmpi_eq_iff.mpr rfl]; rfl
  · intro k _ hk
    have : IntOp.cmpi .eq (BitVec.ofNat 32 k.val) (BitVec.ofNat 32 e.val) = 0#1 := by
      refine (BitVec.eq_zero_or_eq_one _).resolve_right fun h => hk (Fin.ext ?_)
      have := congrArg BitVec.toNat (StableHlo.Predicate.cmpi_eq_iff.mp h)
      simp only [BitVec.toNat_ofNat] at this
      omega
    rw [this]; rfl
  · exact fun h => absurd (Finset.mem_univ _) h

/-- The first weight, for experts that exist and real scores. -/
theorem gate_apply (x : Vec Ideal S512x256 .bf16) (w : Vec Ideal S256x128 .bf16) (r0 r1 : Vec Ideal S512x1 .i32) (t : Fin 512)
    (k l : Fin 128) (h : r0 (ix2 t 0) = BitVec.ofNat 32 k.val) (h' : r1 (ix2 t 0) = BitVec.ofNat 32 l.val)
    (S : Fin 128 → ℝ) (hS : ∀ e, (∑ i : Fin 256, x (ix2 t i) * w (ix2 i e)) = ((S e : ℝ) : EReal)) :
    k0_pay10 (F := Ideal) x w r0 r1 (ix2 t 0) = ((Cert.Moe.weight (S k) (S l) : ℝ) : EReal) := by
  pointwise [k0_pay10, k0_pay7, k0_pay8, k0_pay9]
  rw [sum_select _ l h', sum_select _ k h, hS, hS, Cert.Moe.weight_coe]

theorem gate'_apply (x : Vec Ideal S512x256 .bf16) (w : Vec Ideal S256x128 .bf16) (r0 r1 : Vec Ideal S512x1 .i32) (t : Fin 512)
    (k l : Fin 128) (h : r0 (ix2 t 0) = BitVec.ofNat 32 k.val) (h' : r1 (ix2 t 0) = BitVec.ofNat 32 l.val)
    (S : Fin 128 → ℝ) (hS : ∀ e, (∑ i : Fin 256, x (ix2 t i) * w (ix2 i e)) = ((S e : ℝ) : EReal)) :
    k0_pay11 (F := Ideal) x w r0 r1 (ix2 t 0) = ((Cert.Moe.weight (S l) (S k) : ℝ) : EReal) := by
  pointwise [k0_pay11]
  rw [gate_apply x w r0 r1 t k l h h' S hS, Cert.Moe.one_sub_weight_coe]

theorem devWord_eq : ∀ c : Dev nD, devWord c = BitVec.ofNat 32 c.val := by decide

/-- Whether the word names expert `k` of device `c`, as a number. -/
theorem hit_eq (r : BitVec 32) (e : Fin 128) (hr : r = BitVec.ofNat 32 e.val) (c : Dev nD) (k : Fin 4) :
    (FloatOps.sitofp .f32 (BitVec.setWidth 32 (IntOp.cmpi .eq r (IntOp.addi (Scalar.muli (devWord c) 4#32) (BitVec.ofNat 32 k.val)))) : Ideal .f32)
      = Cert.Moe.hit e ⟨4 * c.val + k.val, by have : c.val < 32 := c.isLt; omega⟩ := by
  have hc : c.val < 32 := c.isLt
  have hw : IntOp.addi (Scalar.muli (devWord c) 4#32) (BitVec.ofNat 32 k.val) = BitVec.ofNat 32 (4 * c.val + k.val) := by
    rw [devWord_eq]
    apply BitVec.eq_of_toNat_eq
    simp only [IntOp.addi, Scalar.muli, IntOp.muli, BitVec.toNat_add, BitVec.toNat_mul, BitVec.toNat_ofNat]
    omega
  rw [hw, hr]
  unfold Cert.Moe.hit
  by_cases he : e = ⟨4 * c.val + k.val, by omega⟩
  · rw [if_pos he, he, StableHlo.Predicate.cmpi_eq_iff.mpr rfl]
    show (((BitVec.setWidth 32 1#1).toInt : ℝ) : EReal) = 1
    norm_num
  · have : IntOp.cmpi .eq (BitVec.ofNat 32 e.val) (BitVec.ofNat 32 (4 * c.val + k.val)) = 0#1 := by
      refine (BitVec.eq_zero_or_eq_one _).resolve_right fun h => he (Fin.ext ?_)
      have := congrArg BitVec.toNat (StableHlo.Predicate.cmpi_eq_iff.mp h)
      simp only [BitVec.toNat_ofNat] at this
      show e.val = 4 * c.val + k.val
      omega
    rw [if_neg he, this]
    show (((BitVec.setWidth 32 0#1).toInt : ℝ) : EReal) = 0
    norm_num

variable (m : (ℓ : Loc nD τ sig) → Buf (Elt Ideal) ℓ)

theorem ri0_apply (c : Dev nD) (t : Fin 512) : ri0 m c (ix2 t 0) = ristg m c (ix2 t 0) := by
  show ristg m c ((Rect.unit (s := S512x2) ![0, 0] S512x1.size inb_S512x2_S512x1_0_0).toLoadRect.idx (ix2 t 0)) = _
  pointwise

theorem ri1_apply (c : Dev nD) (t : Fin 512) : ri1 m c (ix2 t 0) = ristg m c (ix2 t 1) := by
  show ristg m c ((Rect.unit (s := S512x2) ![0, 1] S512x1.size inb_S512x2_S512x1_0_1).toLoadRect.idx (ix2 t 0)) = _
  pointwise

theorem wk0_apply (c : Dev nD) (i : Fin 256) (o : Fin 512) : wk0 m c (ix2 i o) = ewstg m c (ix3 0 i o) := by
  unfold wk0
  pointwise [k0_pay2]
  show ewstg m c ((Rect.unit (s := S4x256x512) ![0, 0, 0] S1x256x512.size inb_S4x256x512_S1x256x512_0_0_0).toLoadRect.idx (ix3 0 i o)) = _
  pointwise

theorem wk1_apply (c : Dev nD) (i : Fin 256) (o : Fin 512) : wk1 m c (ix2 i o) = ewstg m c (ix3 1 i o) := by
  unfold wk1
  pointwise [k0_pay3]
  show ewstg m c ((Rect.unit (s := S4x256x512) ![1, 0, 0] S1x256x512.size inb_S4x256x512_S1x256x512_1_0_0).toLoadRect.idx (ix3 0 i o)) = _
  pointwise

theorem wk2_apply (c : Dev nD) (i : Fin 256) (o : Fin 512) : wk2 m c (ix2 i o) = ewstg m c (ix3 2 i o) := by
  unfold wk2
  pointwise [k0_pay4]
  show ewstg m c ((Rect.unit (s := S4x256x512) ![2, 0, 0] S1x256x512.size inb_S4x256x512_S1x256x512_2_0_0).toLoadRect.idx (ix3 0 i o)) = _
  pointwise

theorem wk3_apply (c : Dev nD) (i : Fin 256) (o : Fin 512) : wk3 m c (ix2 i o) = ewstg m c (ix3 3 i o) := by
  unfold wk3
  pointwise [k0_pay5, k0_pay6]
  show ewstg m c ((Rect.unit (s := S4x256x512) ![3, 0, 0] S1x256x512.size inb_S4x256x512_S1x256x512_3_0_0).toLoadRect.idx (ix3 0 i o)) = _
  pointwise

/-- Columns `512k …` of the four experts' weights side by side. -/
theorem wCat_apply (c : Dev nD) (k : Fin 4) (i : Fin 256) (o : Fin 512) :
    wCat m c (ix2 i ⟨512 * k.val + o.val, by omega⟩) = ewstg m c (ix3 k i o) := by
  have ho := o.isLt
  have hq : ∀ k : Fin 4, (ValueIdx.ix2 i ⟨(512 * k.val + o.val) % 512, Nat.mod_lt _ (by decide)⟩ : S256x512.Idx) = ix2 i o := fun k => by
    funext a
    match a with
    | ⟨0, _⟩ => rfl
    | ⟨1, _⟩ => exact Fin.ext (by show (512 * k.val + o.val) % 512 = o.val; omega)
  unfold wCat
  show (if 512 * k.val + o.val < 512 then wk0 m c (ValueIdx.ix2 i ⟨(512 * k.val + o.val) % 512, _⟩)
    else if 512 * k.val + o.val < 1024 then wk1 m c (ValueIdx.ix2 i ⟨(512 * k.val + o.val) % 512, _⟩)
    else if 512 * k.val + o.val < 1536 then wk2 m c (ValueIdx.ix2 i ⟨(512 * k.val + o.val) % 512, _⟩)
    else wk3 m c (ValueIdx.ix2 i ⟨(512 * k.val + o.val) % 512, _⟩)) = _
  rw [hq, wk0_apply, wk1_apply, wk2_apply, wk3_apply]
  match k with
  | 0 => rw [if_pos (by show 512 * 0 + o.val < 512; omega)]
  | 1 => rw [if_neg (by show ¬ 512 * 1 + o.val < 512; omega), if_pos (by show 512 * 1 + o.val < 1024; omega)]
  | 2 => rw [if_neg (by show ¬ 512 * 2 + o.val < 512; omega), if_neg (by show ¬ 512 * 2 + o.val < 1024; omega), if_pos (by show 512 * 2 + o.val < 1536; omega)]
  | 3 => rw [if_neg (by show ¬ 512 * 3 + o.val < 512; omega), if_neg (by show ¬ 512 * 3 + o.val < 1024; omega), if_neg (by show ¬ 512 * 3 + o.val < 1536; omega)]

/-- The weight a device gives its expert `k` for a token. -/
theorem wloc_apply (c : Dev nD) (t : Fin 512) (k : Fin 4) (e f : Fin 128)
    (h : ristg m c (ix2 t 0) = BitVec.ofNat 32 e.val) (h' : ristg m c (ix2 t 1) = BitVec.ofNat 32 f.val)
    (S : Fin 128 → ℝ) (hS : ∀ e, (∑ i : Fin 256, xstg m c (ix2 t i) * rwstg m c (ix2 i e)) = ((S e : ℝ) : EReal)) :
    wloc m c (ix2 t k)
      = ((Cert.Moe.weight (S e) (S f) : ℝ) : EReal) * Cert.Moe.hit e ⟨4 * c.val + k.val, by have : c.val < 32 := c.isLt; omega⟩
        + ((Cert.Moe.weight (S f) (S e) : ℝ) : EReal) * Cert.Moe.hit f ⟨4 * c.val + k.val, by have : c.val < 32 := c.isLt; omega⟩ := by
  have h0 := (ri0_apply m c t).trans h
  have h1 := (ri1_apply m c t).trans h'
  rw [← hit_eq _ e h0 c k, ← hit_eq _ f h1 c k, ← gate_apply _ _ _ _ t e f h0 h1 S hS, ← gate'_apply _ _ _ _ t e f h0 h1 S hS]
  unfold wloc
  pointwise [k0_pay15, k0_pay14, k0_pay13, k0_pay12, k0_pay9, k0_pay8]

/-! ## A device's partial result -/

/-- Row `t` of a weighted sum of four products. -/
def blend (x : FVec Ideal S512x256 .bf16) (a : FVec Ideal S512x4 .f32) (w : FVec Ideal S256x2048 .bf16) (t o : Fin 512) : EReal :=
  a (ix2 t 0) * (∑ i : Fin 256, x (ix2 t i) * w (ix2 i ⟨o.val, by omega⟩)) + a (ix2 t 1) * (∑ i : Fin 256, x (ix2 t i) * w (ix2 i ⟨512 + o.val, by omega⟩))
    + a (ix2 t 2) * (∑ i : Fin 256, x (ix2 t i) * w (ix2 i ⟨1024 + o.val, by omega⟩)) + a (ix2 t 3) * (∑ i : Fin 256, x (ix2 t i) * w (ix2 i ⟨1536 + o.val, by omega⟩))

theorem part0_apply (c : Dev nD) (t : Fin 128) (o : Fin 512) :
    part0 m c (ix2 t o) = blend (xstg m c) (wloc m c) (wCat m c) ⟨t.val, by omega⟩ o := by
  unfold part0
  pointwise [k0_pay16, k0_pay7, blend, wloc]

theorem part1_apply (c : Dev nD) (t : Fin 128) (o : Fin 512) :
    part1 m c (ix2 t o) = blend (xstg m c) (wloc m c) (wCat m c) ⟨128 + t.val, by omega⟩ o := by
  unfold part1
  pointwise [k0_pay20, k0_pay19, k0_pay18, k0_pay17, k0_pay7, blend]

theorem part2_apply (c : Dev nD) (t : Fin 128) (o : Fin 512) :
    part2 m c (ix2 t o) = blend (xstg m c) (wloc m c) (wCat m c) ⟨256 + t.val, by omega⟩ o := by
  unfold part2
  pointwise [k0_pay21, k0_pay7, blend]

theorem part3_apply (c : Dev nD) (t : Fin 128) (o : Fin 512) :
    part3 m c (ix2 t o) = blend (xstg m c) (wloc m c) (wCat m c) ⟨384 + t.val, by omega⟩ o := by
  unfold part3
  pointwise [k0_pay26, k0_pay25, k0_pay24, k0_pay23, k0_pay22, k0_pay7, blend]

theorem P1_apply (c : Dev nD) (t o : Fin 512) :
    P1 m c (ix2 t o) = ∑ k : Fin 4, wloc m c (ix2 t k) * ∑ i : Fin 256, xstg m c (ix2 t i) * ewstg m c (ix3 k i o) := by
  have hb : P1 m c (ix2 t o) = blend (xstg m c) (wloc m c) (wCat m c) t o := by
    have hp : ∀ (p : S128x512.Idx → EReal) (n : ℕ) (hn : n + 128 ≤ 512),
        (∀ q : Fin 128, p (ix2 q o) = blend (xstg m c) (wloc m c) (wCat m c) ⟨n + q.val, by omega⟩ o) →
        n % 128 = 0 → n ≤ t.val → t.val < n + 128 →
        p (ValueIdx.ix2 ⟨t.val % 128, Nat.mod_lt _ (by decide)⟩ o) = blend (xstg m c) (wloc m c) (wCat m c) t o := fun p n hn h h1 h2 h3 => by
      refine (h ⟨t.val % 128, Nat.mod_lt _ (by decide)⟩).trans ?_
      congr 1
      exact Fin.ext (by show n + t.val % 128 = t.val; omega)
    have ht := t.isLt
    unfold P1
    show (if t.val < 128 then part0 m c (ValueIdx.ix2 ⟨t.val % 128, _⟩ o) else if t.val < 256 then part1 m c (ValueIdx.ix2 ⟨t.val % 128, _⟩ o)
      else if t.val < 384 then part2 m c (ValueIdx.ix2 ⟨t.val % 128, _⟩ o) else part3 m c (ValueIdx.ix2 ⟨t.val % 128, _⟩ o)) = _
    split
    · exact hp _ 0 (by omega) (fun q => (part0_apply m c q o).trans (by congr 1; exact Fin.ext (Nat.zero_add _).symm)) (by omega) (by omega) (by omega)
    · split
      · exact hp _ 128 (by omega) (fun q => part1_apply m c q o) (by omega) (by omega) (by omega)
      · split
        · exact hp _ 256 (by omega) (fun q => part2_apply m c q o) (by omega) (by omega) (by omega)
        · exact hp _ 384 (by omega) (fun q => part3_apply m c q o) (by omega) (by omega) (by omega)
  rw [hb]
  unfold blend
  rw [Fin.sum_univ_four]
  have hw : ∀ (k : Fin 4) (n : ℕ) (hn : n = 512 * k.val) (i : Fin 256),
      wCat m c (ix2 i ⟨n + o.val, by omega⟩) = ewstg m c (ix3 k i o) := fun k n hn i => by subst hn; exact wCat_apply m c k i o
  have hw0 : ∀ i : Fin 256, wCat m c (ix2 i ⟨o.val, by omega⟩) = ewstg m c (ix3 0 i o) := fun i => by
    rw [← hw 0 0 rfl i]; congr 2; exact Fin.ext (Nat.zero_add _).symm
  simp only [hw0, hw 1 512 rfl, hw 2 1024 rfl, hw 3 1536 rfl]

/-! ## The result -/

theorem outv_apply (t o : Fin 512) : outv m (ix2 t o) = ∑ d : Dev nD, P1 m d (ix2 t o) := by
  unfold outv
  pointwise [k0_pay1]
  show P2 m ⟨t.val / 16, _⟩ (ix2 ⟨t.val % 16, _⟩ o) = _
  unfold P2
  pointwise [k0_pay29, k0_pay28]
  refine Finset.sum_congr rfl fun d _ => ?_
  show P1 m d (ix2 ⟨16 * (t.val / 16) + t.val % 16, _⟩ o) = _
  congr 2
  exact Fin.ext (Nat.div_add_mod _ _)

/-- THE KERNEL'S RESULT at an index: all devices hold the same tokens, scores' weights and chosen experts, and device
    `c` holds experts `4c … 4c+3`. -/
theorem outv_value (x : S512x256.Idx → EReal) (w : S256x128.Idx → EReal) (r : S512x2.Idx → BitVec 32)
    (ew : (⟨3, ![128, 256, 512]⟩ : Shape).Idx → EReal)
    (hx : ∀ c, xstg m c = x) (hw : ∀ c, rwstg m c = w) (hr : ∀ c, ristg m c = r)
    (he : ∀ (c : Dev nD) (k : Fin 4) (i : Fin 256) (o : Fin 512),
      ewstg m c (ix3 k i o) = ew (ix3 ⟨4 * c.val + k.val, by have : c.val < 32 := c.isLt; omega⟩ i o))
    (t o : Fin 512) (k l : Fin 128) (h : r (ix2 t 0) = BitVec.ofNat 32 k.val) (h' : r (ix2 t 1) = BitVec.ofNat 32 l.val)
    (S : Fin 128 → ℝ) (hS : ∀ e, (∑ i : Fin 256, x (ix2 t i) * w (ix2 i e)) = ((S e : ℝ) : EReal)) :
    outv m (ix2 t o)
      = ((Cert.Moe.weight (S k) (S l) : ℝ) : EReal) * (∑ i : Fin 256, x (ix2 t i) * ew (ix3 k i o))
        + ((Cert.Moe.weight (S l) (S k) : ℝ) : EReal) * (∑ i : Fin 256, x (ix2 t i) * ew (ix3 l i o)) := by
  rw [← Cert.Moe.sum_hit k l _ _ (EReal.coe_nonneg.mpr (Cert.Moe.weight_pos _ _).le) (EReal.coe_nonneg.mpr (Cert.Moe.weight_pos _ _).le)
    (fun e => ∑ i : Fin 256, x (ix2 t i) * ew (ix3 e i o)), ← Cert.Moe.sum_experts, outv_apply]
  refine Finset.sum_congr rfl fun c _ => ?_
  rw [P1_apply]
  refine Finset.sum_congr rfl fun j _ => ?_
  rw [wloc_apply m c t j k l ((congrFun (hr c) _).trans h) ((congrFun (hr c) _).trans h') S (by rw [hx, hw]; exact hS), hx]
  simp only [he]

end Cert.KernelIdeal.Moe

end
-- ==== Proof.ReferenceIdealValue.lean ====
/-
# What the reference computes

The reference's result at an index: the two chosen experts' products with the token, each weighted by its softmax
probability over the sum of the two. Stated for scores that are real and for experts that exist.
-/
module

public import proofs.«01_k».proof.Proof.Gen.ReferenceIdeal.Run
public import proofs.«01_k».proof.Proof.GateMath
public import Idealize.ShloMosaic.Lib.StableHlo.Predicate

@[expose] public section

noncomputable section

namespace Cert.ReferenceIdeal.Moe

open Cert.ReferenceIdeal Cert.ReferenceIdeal.Gen Idealize.ShloMosaic Idealize.ShloMosaic.TcCoe

set_option maxRecDepth 16384

/-- The gather of one entry per token, at indices in range. -/
theorem gatherPair_apply {α : Type} (x : S512x128.Idx → α) (idx : IVec S512x2 32) (t t' : Fin 512) (e : Fin 128)
    (h0 : idx (ix2 t 0) = BitVec.ofNat 32 t'.val) (h1 : idx (ix2 t 1) = BitVec.ofNat 32 e.val) :
    Host.gather gather_S512x128_S512x2_S512_n_01_n_n_01_1_11 x idx (ix1 t) = x (ix2 t' e) := by
  unfold Host.gather
  refine congrArg x (funext fun a => Fin.ext ?_)
  match a with
  | ⟨0, _⟩ =>
    have hs : (gather_S512x128_S512x2_S512_n_01_n_n_01_1_11).siIdx (ix1 t) ⟨0, by decide⟩ = (ix2 t 0 : S512x2.Idx) := by
      funext b
      match b with
      | ⟨0, _⟩ => rfl
      | ⟨1, _⟩ => rfl
    show min (idx ((gather_S512x128_S512x2_S512_n_01_n_n_01_1_11).siIdx (ix1 t) ⟨0, by decide⟩)).toInt.toNat (512 - 1) = t'.val
    rw [hs, h0, StableHlo.Predicate.toInt_ofNat_small _ (by omega)]
    omega
  | ⟨1, _⟩ =>
    have hs : (gather_S512x128_S512x2_S512_n_01_n_n_01_1_11).siIdx (ix1 t) ⟨1, by decide⟩ = (ix2 t 1 : S512x2.Idx) := by
      funext b
      match b with
      | ⟨0, _⟩ => rfl
      | ⟨1, _⟩ => rfl
    show min (idx ((gather_S512x128_S512x2_S512_n_01_n_n_01_1_11).siIdx (ix1 t) ⟨1, by decide⟩)).toInt.toNat (128 - 1) = e.val
    rw [hs, h1, StableHlo.Predicate.toInt_ofNat_small _ (by omega)]
    omega

/-- The gather of one expert's weights per token, at an index in range. -/
theorem gatherRow_apply {α : Type} (x : S128x256x512.Idx → α) (idx : IVec S512x1 32) (t : Fin 512) (i : Fin 256) (o : Fin 512)
    (e : Fin 128) (h : idx (ix2 t 0) = BitVec.ofNat 32 e.val) :
    Host.gather gather_S128x256x512_S512x1_S512x256x512_12_0_n_n_0_1_1256512 x idx (ix3 t i o) = x (ix3 e i o) := by
  unfold Host.gather
  refine congrArg x (funext fun a => Fin.ext ?_)
  match a with
  | ⟨0, _⟩ =>
    have hs : (gather_S128x256x512_S512x1_S512x256x512_12_0_n_n_0_1_1256512).siIdx (ix3 t i o) ⟨0, by decide⟩ = (ix2 t 0 : S512x1.Idx) := by
      funext b
      match b with
      | ⟨0, _⟩ => rfl
      | ⟨1, _⟩ => rfl
    show min (idx ((gather_S128x256x512_S512x1_S512x256x512_12_0_n_n_0_1_1256512).siIdx (ix3 t i o) ⟨0, by decide⟩)).toInt.toNat (128 - 1) = e.val
    rw [hs, h, StableHlo.Predicate.toInt_ofNat_small _ (by omega)]
    omega
  | ⟨1, _⟩ =>
    show 0 + 0 + i.val = i.val
    omega
  | ⟨2, _⟩ =>
    show 0 + 0 + o.val = o.val
    omega

/-- Every token's scores. -/
def scores (x : FVec Ideal S512x256 .bf16) (w : FVec Ideal S256x128 .bf16) : FVec Ideal S512x128 .f32 :=
  Host.dotGeneral dot_S512x256_S256x128_S512x128_1_0_0_1_n_n none (extf .f32 x bitsLt_bf16_f32) (extf .f32 w bitsLt_bf16_f32)

/-- Each row's greatest score. -/
def top (s : FVec Ideal S512x128 .f32) : FVec Ideal S512 .f32 :=
  Host.reduce FloatOps.maximumf s (constant S_ .f32 0xFF800000#32) reducesTo_S512x128_S512_d1 h_S_

/-- The exponentials of the scores less their row's greatest. -/
def exps (s : FVec Ideal S512x128 .f32) : FVec Ideal S512x128 .f32 :=
  Host.exp (subf s (broadcastInDim S512x128 ![0, 1] bcast_S512x1_S512x128_0_1 (broadcastInDim S512x1 ![0] bcast_S512_S512x1_0 (top s))))

/-- Each row's softmax. -/
def probs (s : FVec Ideal S512x128 .f32) : FVec Ideal S512x128 .f32 :=
  Host.divf (exps s) (broadcastInDim S512x128 ![0, 1] bcast_S512x1_S512x128_0_1 (broadcastInDim S512x1 ![0] bcast_S512_S512x1_0
    (Host.reduceAdd (exps s) (constant S_ .f32 0x00000000#32) reducesTo_S512x128_S512_d1 h_S_)))

/-- The two columns of the table of chosen experts. -/
def col0 (r : IVec S512x2 32) : IVec S512 32 :=
  shapeCast S512 (extractStridedSlice S512x1 ![0, 0] r slices_S512x2_S512x1_0_0) shapeCasts_S512x1_S512
def col1 (r : IVec S512x2 32) : IVec S512 32 :=
  shapeCast S512 (extractStridedSlice S512x1 ![0, 1] r slices_S512x2_S512x1_0_1) shapeCasts_S512x1_S512

/-- Indices with the negative ones counted from the end, as a column. -/
def wrapped (n : BitVec 32) (e : IVec S512 32) : IVec S512x1 32 :=
  broadcastInDim S512x1 ![0] bcast_S512_S512x1_0 (select (cmpi .slt e (broadcastInDim S512 ![] bcast_S_S512 (constantI S_ 32 0#32)))
    (addi e (broadcastInDim S512 ![] bcast_S_S512 (constantI S_ 32 n))) e)

/-- Each token's probability of the expert named. -/
def gate (p : FVec Ideal S512x128 .f32) (e : IVec S512 32) : FVec Ideal S512 .f32 :=
  Host.gather gather_S512x128_S512x2_S512_n_01_n_n_01_1_11 p (concatenate S512x2 1
    [⟨S512x1, wrapped 512#32 (iotaInDim S512 32 0)⟩, ⟨S512x1, wrapped 128#32 e⟩] concatenates_S512x1_S512x1_S512x2_d1)

/-- Each token's product with the weights of the expert named. -/
def mixed (x : FVec Ideal S512x256 .bf16) (ew : FVec Ideal S128x256x512 .bf16) (e : IVec S512 32) : FVec Ideal S512x512 .f32 :=
  Host.dotGeneral dot_S512x256_S512x256x512_S512x512_1_1_n_2_0_0 none (extf .f32 x bitsLt_bf16_f32)
    (Host.gather gather_S128x256x512_S512x1_S512x256x512_12_0_n_n_0_1_1256512 (extf .f32 ew bitsLt_bf16_f32) (wrapped 128#32 e))

/-- One gate's share of the two, spread along the row. -/
def share (g h : FVec Ideal S512 .f32) : FVec Ideal S512x512 .f32 :=
  broadcastInDim S512x512 ![0, 1] bcast_S512x1_S512x512_0_1 (broadcastInDim S512x1 ![0] bcast_S512_S512x1_0 (Host.divf g h))

/-- The reference's result. -/
def result (x : FVec Ideal S512x256 .bf16) (w : FVec Ideal S256x128 .bf16) (r : IVec S512x2 32) (ew : FVec Ideal S128x256x512 .bf16) :
    FVec Ideal S512x512 .f32 :=
  addf (mulf (share (gate (probs (scores x w)) (col0 r)) (addf (gate (probs (scores x w)) (col0 r)) (gate (probs (scores x w)) (col1 r)))) (mixed x ew (col0 r)))
    (mulf (share (gate (probs (scores x w)) (col1 r)) (addf (gate (probs (scores x w)) (col0 r)) (gate (probs (scores x w)) (col1 r)))) (mixed x ew (col1 r)))

/-- The run's term is that result. -/
theorem result_eq (m : (ℓ : Loc nD τ sig) → Buf (Elt Ideal) ℓ) (c : Dev nD) :
    Value.res_main_v71 m c = result (m (c.tc.loc main_arg0)) (m (c.tc.loc main_arg1)) (m (c.tc.loc main_arg2)) (m (c.tc.loc main_arg3)) := rfl

theorem scores_apply (x : FVec Ideal S512x256 .bf16) (w : FVec Ideal S256x128 .bf16) (t : Fin 512) (e : Fin 128) :
    scores x w (ix2 t e) = ∑ k : Fin 256, x (ix2 t k) * w (ix2 k e) := by
  pointwise [scores]

theorem ofBits_bot : Ideal.ofBits .f32 0xFF800000#32 = ⊥ := by
  simp [Ideal.ofBits, Ideal.ieee]

theorem top_apply (s : FVec Ideal S512x128 .f32) (t : Fin 512) :
    top s (ix1 t) = Finset.univ.fold max ⊥ fun k : Fin 128 => s (ix2 t k) := by
  pointwise [top]
  rw [ofBits_bot]

theorem exps_apply (s : FVec Ideal S512x128 .f32) (t : Fin 512) (e : Fin 128) : exps s (ix2 t e) = Ideal.exp (s (ix2 t e) - top s (ix1 t)) := by
  pointwise [exps]

theorem probs_apply (s : FVec Ideal S512x128 .f32) (t : Fin 512) (e : Fin 128) :
    probs s (ix2 t e) = Ideal.div (exps s (ix2 t e)) (∑ k : Fin 128, exps s (ix2 t k)) := by
  pointwise [probs]

theorem col0_apply (r : IVec S512x2 32) (t : Fin 512) : col0 r (ix1 t) = r (ix2 t 0) := by
  pointwise [col0]

theorem col1_apply (r : IVec S512x2 32) (t : Fin 512) : col1 r (ix1 t) = r (ix2 t 1) := by
  pointwise [col1]

/-- A small index is no negative one. -/
theorem wrapped_apply (n : BitVec 32) (e : IVec S512 32) (t : Fin 512) (k : ℕ) (hk : k < 2 ^ 31) (h : e (ix1 t) = BitVec.ofNat 32 k) :
    wrapped n e (ix2 t 0) = BitVec.ofNat 32 k := by
  pointwise [wrapped]
  rw [h]
  have hc : IntOp.cmpi .slt (BitVec.ofNat 32 k) 0#32 = 0#1 := by
    have := (StableHlo.Predicate.slt_ofNat_iff k 0 hk (by omega)).not.mpr (by omega)
    exact (BitVec.eq_zero_or_eq_one _).resolve_right this
  rw [hc]; rfl

theorem gate_apply (p : FVec Ideal S512x128 .f32) (e : IVec S512 32) (t : Fin 512) (k : Fin 128) (h : e (ix1 t) = BitVec.ofNat 32 k.val) :
    gate p e (ix1 t) = p (ix2 t k) := by
  refine gatherPair_apply _ _ t t k ?_ ?_
  · pointwise
    exact wrapped_apply _ _ _ _ (by omega) rfl
  · pointwise
    exact wrapped_apply _ _ _ _ (by omega) h

theorem mixed_apply (x : FVec Ideal S512x256 .bf16) (ew : FVec Ideal S128x256x512 .bf16) (e : IVec S512 32) (t o : Fin 512) (k : Fin 128)
    (h : e (ix1 t) = BitVec.ofNat 32 k.val) :
    mixed x ew e (ix2 t o) = ∑ i : Fin 256, x (ix2 t i) * ew (ix3 k i o) := by
  pointwise [mixed]
  refine Finset.sum_congr rfl fun i _ => ?_
  rw [gatherRow_apply _ _ t i o k (wrapped_apply _ _ _ _ (by omega) h)]
  pointwise
/-- The two chosen experts' probabilities over their sum, for real scores. -/
theorem gates_real (s : FVec Ideal S512x128 .f32) (t : Fin 512) (S : Fin 128 → ℝ) (hS : ∀ e, s (ix2 t e) = ((S e : ℝ) : EReal)) (k l : Fin 128) :
    Ideal.div (probs s (ix2 t k)) (probs s (ix2 t k) + probs s (ix2 t l)) = ((Cert.Moe.weight (S k) (S l) : ℝ) : EReal) := by
  obtain ⟨M, hM⟩ := Cert.Moe.exists_fold_max S
  have htop : top s (ix1 t) = ((M : ℝ) : EReal) := by rw [top_apply, ← hM]; simp only [hS]
  have hexp : ∀ e, exps s (ix2 t e) = ((Real.exp (S e - M) : ℝ) : EReal) := fun e => by
    rw [exps_apply, hS, htop, ← EReal.coe_sub, Ideal.exp_coe]
  have hZ : 0 < ∑ e : Fin 128, Real.exp (S e - M) := Finset.sum_pos (fun _ _ => Real.exp_pos _) Finset.univ_nonempty
  have hp : ∀ e, probs s (ix2 t e) = ((Real.exp (S e - M) / ∑ e : Fin 128, Real.exp (S e - M) : ℝ) : EReal) := fun e => by
    rw [probs_apply, Finset.sum_congr rfl fun e _ => hexp e, Cert.Moe.sum_coe, hexp, Cert.Moe.div_real _ _ hZ.ne']
  have hpos : ∀ e, 0 < Real.exp (S e - M) / ∑ e : Fin 128, Real.exp (S e - M) := fun e => div_pos (Real.exp_pos _) hZ
  rw [hp, hp, ← EReal.coe_add, Cert.Moe.div_real _ _ (add_pos (hpos k) (hpos l)).ne', Cert.Moe.softmax_share _ _ _ _ hZ]

/-- THE REFERENCE'S RESULT at an index. -/
theorem result_apply (x : FVec Ideal S512x256 .bf16) (w : FVec Ideal S256x128 .bf16) (r : IVec S512x2 32) (ew : FVec Ideal S128x256x512 .bf16)
    (t o : Fin 512) (k l : Fin 128) (h : r (ix2 t 0) = BitVec.ofNat 32 k.val) (h' : r (ix2 t 1) = BitVec.ofNat 32 l.val)
    (S : Fin 128 → ℝ) (hS : ∀ e, (∑ i : Fin 256, x (ix2 t i) * w (ix2 i e)) = ((S e : ℝ) : EReal)) :
    result x w r ew (ix2 t o)
      = ((Cert.Moe.weight (S k) (S l) : ℝ) : EReal) * (∑ i : Fin 256, x (ix2 t i) * ew (ix3 k i o))
        + ((Cert.Moe.weight (S l) (S k) : ℝ) : EReal) * (∑ i : Fin 256, x (ix2 t i) * ew (ix3 l i o)) := by
  pointwise [result, share]
  have hs : ∀ e, scores x w (ix2 t e) = ((S e : ℝ) : EReal) := fun e => (scores_apply x w t e).trans (hS e)
  rw [mixed_apply _ _ _ _ _ k ((col0_apply r t).trans h), mixed_apply _ _ _ _ _ l ((col1_apply r t).trans h'),
    gate_apply _ _ _ k ((col0_apply r t).trans h), gate_apply _ _ _ l ((col1_apply r t).trans h'),
    gates_real _ t S hs k l, add_comm (probs (scores x w) (ix2 t k)), gates_real _ t S hs l k]

end Cert.ReferenceIdeal.Moe

end
-- ==== Proof.Agreement.lean ====
/-
# The two programs agree

What the precondition says of one device's blocks, index by index, and from it that the kernel's result is the
reference's.
-/
module

public import proofs.«01_k».proof.Defs
public import Idealize.ShloMosaic.Lib.Tactic.WordOmega
public import proofs.«01_k».proof.Proof.KernelIdealFinal
public import proofs.«01_k».proof.Proof.KernelIdealValue
public import proofs.«01_k».proof.Proof.ReferenceIdealValue

@[expose] public section

noncomputable section

namespace Cert.Moe

open Idealize.ShloMosaic Idealize.SL.Sem

/-! ## The precondition -/

instance pre_kernel_facts : Cert.Pre_routed_KernelIdeal.Facts where
  bcast_S_S512x2 := by decide
  bcast_S_S512x256 := by decide
  bcast_S_S256x128 := by decide

instance pre_reference_facts : Cert.Pre_routed_ReferenceIdeal.Facts where
  bcast_S_S512x2 := by decide
  bcast_S_S512x256 := by decide
  bcast_S_S256x128 := by decide

/-- The pattern the precondition compares with is infinity. -/
theorem ofBits_top : Ideal.ofBits .bf16 0x7F80#16 = ⊤ := by
  simp [Ideal.ofBits, Ideal.ieee]

/-- A value whose magnitude is below infinity is real. -/
theorem exists_real (x : EReal) (h : max x (-x) < ⊤) : ∃ r : ℝ, x = (r : EReal) := by
  induction x with
  | bot => simp at h
  | top => simp at h
  | coe r => exact ⟨r, rfl⟩

open Cert.Pre_routed_KernelIdeal in
/-- Every index names one of the 128 experts. -/
theorem routed_index (x : FVec Ideal S512x256 .bf16) (w : FVec Ideal S256x128 .bf16) (r : IVec S512x2 32) (ew : FVec Ideal S4x256x512 .bf16)
    (h : (fn x w r ew).1 = fun _ => 1#1) (t : Fin 512) (k : Fin 2) : ∃ e : Fin 128, r (ix2 t k) = BitVec.ofNat 32 e.val := by
  have h := congrFun h (ix2 t k)
  pointwise [fn] at h
  generalize r (ix2 t k) = b at h ⊢
  have hb : b.toNat < 128 := by
    word_omega
  exact ⟨⟨b.toNat, hb⟩, BitVec.eq_of_toNat_eq (by rw [BitVec.toNat_ofNat]; exact (Nat.mod_eq_of_lt b.isLt).symm)⟩

open Cert.Pre_routed_KernelIdeal in
/-- Every entry of the tokens is real. -/
theorem routed_x (x : FVec Ideal S512x256 .bf16) (w : FVec Ideal S256x128 .bf16) (r : IVec S512x2 32) (ew : FVec Ideal S4x256x512 .bf16)
    (h : (fn x w r ew).2.1 = fun _ => 1#1) (t : Fin 512) (k : Fin 256) : ∃ e : ℝ, x (ix2 t k) = (e : EReal) := by
  have h := congrFun h (ix2 t k)
  pointwise [fn] at h
  rw [StableHlo.Predicate.ofBool_eq_one_iff, decide_eq_true_iff, ofBits_top] at h
  exact exists_real _ h

open Cert.Pre_routed_KernelIdeal in
/-- Every entry of the router's weights is real. -/
theorem routed_w (x : FVec Ideal S512x256 .bf16) (w : FVec Ideal S256x128 .bf16) (r : IVec S512x2 32) (ew : FVec Ideal S4x256x512 .bf16)
    (h : (fn x w r ew).2.2 = fun _ => 1#1) (t : Fin 256) (k : Fin 128) : ∃ e : ℝ, w (ix2 t k) = (e : EReal) := by
  have h := congrFun h (ix2 t k)
  pointwise [fn] at h
  rw [StableHlo.Predicate.ofBool_eq_one_iff, decide_eq_true_iff, ofBits_top] at h
  exact exists_real _ h

/-! ## The agreement -/

/-- THE KERNEL'S RESULT IS THE REFERENCE'S, where the precondition holds and the devices hold their blocks of the
    reference's arrays. -/
theorem outv_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_routed_KernelIdeal m)
    (h : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) :
    (Cert.KernelIdeal.Moe.outv m : Cert.KernelIdeal.S512x512.Idx → EReal) = Cert.ReferenceIdeal.Value.res_main_v71 m' 0 := by
  obtain ⟨p0, p1, p2⟩ := hpre 0
  rw [(h 0).1, (h 0).2.1, (h 0).2.2.1] at p0 p1 p2
  funext i
  obtain ⟨t, o, rfl⟩ : ∃ (t o : Fin 512), i = ix2 t o := ⟨i 0, i 1, eq_ix2 i⟩
  obtain ⟨k, hk⟩ := routed_index _ _ _ _ p0 t 0
  obtain ⟨l, hl⟩ := routed_index _ _ _ _ p0 t 1
  have hS := fun e : Fin 128 => exists_sum_mul _ _ (fun i : Fin 256 => routed_x _ _ _ _ p1 t i) (fun i : Fin 256 => routed_w _ _ _ _ p2 i e)
  choose S hS using hS
  refine (Cert.KernelIdeal.Moe.outv_value m _ _ _ (m' (((0 : Dev Cert.ReferenceIdeal.nD).tc : Thread Cert.ReferenceIdeal.nD Cert.ReferenceIdeal.τ).loc Cert.ReferenceIdeal.main_arg3))
    (fun c => (Cert.KernelIdeal.Moe.xstg_eq m c).trans (h c).1) (fun c => (Cert.KernelIdeal.Moe.rwstg_eq m c).trans (h c).2.1)
    (fun c => (Cert.KernelIdeal.Moe.ristg_eq m c).trans (h c).2.2.1) (fun c j i o => ?_) t o k l hk hl S hS).trans ?_
  · rw [Cert.KernelIdeal.Moe.ewstg_eq, (h c).2.2.2, Layout.block_apply]
    refine congrArg _ (funext fun a => Fin.ext ?_)
    rw [Layout.Tiles.idx_val]
    match a with
    | ⟨0, _⟩ => show c.val * 4 + j.val = 4 * c.val + j.val; omega
    | ⟨1, _⟩ => rfl
    | ⟨2, _⟩ => rfl
  · rw [Cert.ReferenceIdeal.Moe.result_eq]
    exact (Cert.ReferenceIdeal.Moe.result_apply _ _ _ _ t o k l hk hl S hS).symm

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFinal
public import proofs.«01_k».proof.Proof.KernelIdealFinal
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- The kernel as printed. -/
theorem frame_kernel : Cert.quiescent_Kernel := fun m ρ _ =>
  (θ_run Cert.Kernel.defs _ _).mono (fun _ h => ⟨fun c => (h.1 c).2, h.2⟩) (Cert.Kernel.Moe.run_final (F := Bits) m ρ)

/-- The kernel over the extended reals. -/
theorem frame_kernelIdeal : Cert.quiescent_KernelIdeal := fun m ρ _ =>
  (θ_run Cert.KernelIdeal.defs _ _).mono (fun _ h => ⟨fun c => (h.1 c).2, h.2⟩) (Cert.KernelIdeal.Moe.run_final (F := Ideal) m ρ)

/-- The reference is a list of host operations and declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals the kernel, on 32 devices, computes what the reference computes on one. -/
theorem algebraic : Cert.algebraic_KernelIdeal_ReferenceIdeal_pre_routed_KernelIdeal := fun m g m' g' hpre h => by
  refine ⟨Cert.ReferenceIdeal.Value.res_main_v71 m' 0, ?_, ?_⟩
  · refine (θ_run Cert.KernelIdeal.defs _ _).mono (fun r hr c => ⟨?_, (hr.1 c).2⟩) (Cert.KernelIdeal.Moe.run_final (F := Ideal) m g)
    exact (hr.1 c).1.trans (Cert.Moe.outv_eq m m' hpre h)
  · exact (θ_run Cert.ReferenceIdeal.defs _ _).mono (fun r hr => hr 0) (Cert.ReferenceIdeal.Value.run (F := Ideal) m' g')

theorem claim : Cert.Claim := ⟨Cert.Kernel.Gen.facts, Cert.KernelIdeal.Gen.facts, Cert.ReferenceIdeal.Gen.facts,
  Cert.Moe.pre_kernel_facts, Cert.Moe.pre_reference_facts,
  frame_kernel, frame_kernelIdeal, fun m ρ _ => frame_kernelIdeal m ρ trivial, frame_referenceIdeal,
  fun m ρ _ => frame_referenceIdeal m ρ trivial, trivial, algebraic⟩

end Cert.Proof

end
